-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_KernelIdeal_edges_in_order [hPre_edges_in_order : Cert.Pre_edges_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_order [hPre_edges_in_order : Cert.Pre_edges_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_KernelIdeal_pre_edges_in_order [hKernelIdeal : Cert.KernelIdeal.Facts] [hPre_edges_in_order : Cert.Pre_edges_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def quiescent_ReferenceIdeal_pre_edges_in_order [hReferenceIdeal : Cert.ReferenceIdeal.Facts] [hPre_edges_in_order : Cert.Pre_edges_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def preserves_Kernel_KernelIdeal : Prop :=
  IdealRules.named_const.Statement Cert.KernelIdeal.κ "sqrt_two" .f32 0x3FB504F3#32 ((Real.sqrt 2 : ℝ) : EReal)

def algebraic_KernelIdeal_ReferenceIdeal_pre_edges_in_order [hKernelIdeal : Cert.KernelIdeal.Facts] [hReferenceIdeal : Cert.ReferenceIdeal.Facts] [hPre_edges_in_order : Cert.Pre_edges_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v30_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v30_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_edges_in_order : Cert.Pre_edges_in_order.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_edges_in_order (hKernelIdeal := hKernelIdeal) (hPre_edges_in_order := hPre_edges_in_order)
    ∧ quiescent_ReferenceIdeal (hReferenceIdeal := hReferenceIdeal)
    ∧ quiescent_ReferenceIdeal_pre_edges_in_order (hReferenceIdeal := hReferenceIdeal) (hPre_edges_in_order := hPre_edges_in_order)
    ∧ preserves_Kernel_KernelIdeal
    ∧ algebraic_KernelIdeal_ReferenceIdeal_pre_edges_in_order (hKernelIdeal := hKernelIdeal) (hReferenceIdeal := hReferenceIdeal) (hPre_edges_in_order := hPre_edges_in_order)
-- ==== Pre_batch_in_range.lean ====
abbrev S320000x128 : Shape := ⟨2, ![320000, 128]⟩
abbrev S512x128 : Shape := ⟨2, ![512, 128]⟩
abbrev S320000 : Shape := ⟨1, ![320000]⟩
abbrev S12x128 : Shape := ⟨2, ![12, 128]⟩
abbrev S5x128 : Shape := ⟨2, ![5, 128]⟩
abbrev S128 : Shape := ⟨1, ![128]⟩
abbrev S128x128 : Shape := ⟨2, ![128, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : FVec F S512x128 .f32) (main_arg2 : IVec S320000 32) (main_arg3 : IVec S320000 1) (main_arg4 : IVec S320000 32) (main_arg5 : FVec F S12x128 .f32) (main_arg6 : FVec F S5x128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_arg27 : FVec F S256 .f32) (main_arg28 : FVec F S256 .f32) (main_arg29 : FVec F S256x128 .f32) (main_arg30 : FVec F S128 .f32) (main_arg31 : FVec F S128x1 .f32) (main_arg32 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 512#32
  let main_v2 : IVec S320000 32 := broadcastInDim S320000 ![] bcast_S_S320000 main_c_0
  let main_v3 : IVec S320000 1 := cmpi .slt main_arg2 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Pre_edges_in_order.lean ====
abbrev S320000x128 : Shape := ⟨2, ![320000, 128]⟩
abbrev S512x128 : Shape := ⟨2, ![512, 128]⟩
abbrev S320000 : Shape := ⟨1, ![320000]⟩
abbrev S12x128 : Shape := ⟨2, ![12, 128]⟩
abbrev S5x128 : Shape := ⟨2, ![5, 128]⟩
abbrev S128 : Shape := ⟨1, ![128]⟩
abbrev S128x128 : Shape := ⟨2, ![128, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_1 : S320000.Slices ![1] S319999
  slices_S320000_S319999_0 : S320000.Slices ![0] S319999
  reducesTo_S319999_S_d0 : S319999.ReducesTo [0] S_

variable [Facts]

def fn {F : FTy → Type} [FloatOps F] (main_arg0 : FVec F S320000x128 .f32) (main_arg1 : FVec F S512x128 .f32) (main_arg2 : IVec S320000 32) (main_arg3 : IVec S320000 1) (main_arg4 : IVec S320000 32) (main_arg5 : FVec F S12x128 .f32) (main_arg6 : FVec F S5x128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S256 .f32) (main_arg22 : FVec F S256 .f32) (main_arg23 : FVec F S256x128 .f32) (main_arg24 : FVec F S128 .f32) (main_arg25 : FVec F S128x1 .f32) (main_arg26 : FVec F S1 .f32) (main_arg27 : FVec F S256 .f32) (main_arg28 : FVec F S256 .f32) (main_arg29 : FVec F S256x128 .f32) (main_arg30 : FVec F S128 .f32) (main_arg31 : FVec F S128x1 .f32) (main_arg32 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 512#32
  let main_v2 : IVec S320000 32 := broadcastInDim S320000 ![] bcast_S_S320000 main_c_0
  let main_v3 : IVec S320000 1 := cmpi .slt main_arg2 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![1] · slices_S320000_S319999_1) main_arg2
  let main_v7 : IVec S319999 32 := (extractStridedSlice S319999 ![0] · slices_S320000_S319999_0) main_arg2
  let main_v8 : IVec S319999 1 := cmpi .sge main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  let main_c_3 : IVec S_ 32 := constantI S_ 32 10#32
  let main_v11 : IVec S320000 32 := broadcastInDim S320000 ![] bcast_S_S320000 main_c_3
  let main_v12 : IVec S320000 1 := cmpi .sle main_arg4 main_v11
  let main_c_4 : IVec S_ 1 := constantI S_ 1 1#1
  let main_v13 : IVec S_ 1 := (fun x v => Host.reduce IntOp.andi x v reducesTo_S320000_S_d0 h_S_) main_v12 main_c_4
  let main_v14 : IVec S_ 1 := andi main_v10 main_v13
  main_v14
-- ==== Kernel.lean ====
abbrev S320000x128 : Shape := ⟨2, ![320000, 128]⟩
abbrev S512x128 : Shape := ⟨2, ![512, 128]⟩
abbrev S320000 : Shape := ⟨1, ![320000]⟩
abbrev S12x128 : Shape := ⟨2, ![12, 128]⟩
abbrev S5x128 : Shape := ⟨2, ![5, 128]⟩
abbrev S128 : Shape := ⟨1, ![128]⟩
abbrev S128x128 : Shape := ⟨2, ![128, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S4x128 : Shape := ⟨2, ![4, 128]⟩
abbrev S16x128 : Shape := ⟨2, ![16, 128]⟩
abbrev S1x128 : Shape := ⟨2, ![1, 128]⟩
abbrev S512 : Shape := ⟨1, ![512]⟩
abbrev S512x1 : Shape := ⟨2, ![512, 1]⟩
abbrev S640x128 : Shape := ⟨2, ![640, 128]⟩
abbrev S160 : Shape := ⟨1, ![160]⟩
abbrev S160x1x2000 : Shape := ⟨3, ![160, 1, 2000]⟩
abbrev S640x1 : Shape := ⟨2, ![640, 1]⟩
abbrev S2000x128 : Shape := ⟨2, ![2000, 128]⟩
abbrev S1x1x2000 : Shape := ⟨3, ![1, 1, 2000]⟩
abbrev S2000 : Shape := ⟨1, ![2000]⟩
abbrev S2000x1 : Shape := ⟨2, ![2000, 1]⟩
abbrev S2000x512 : Shape := ⟨2, ![2000, 512]⟩
abbrev S2000x16 : Shape := ⟨2, ![2000, 16]⟩
abbrev S1x256 : Shape := ⟨2, ![1, 256]⟩
abbrev S1x1 : Shape := ⟨2, ![1, 1]⟩
abbrev S640x256 : Shape := ⟨2, ![640, 256]⟩
abbrev S512x256 : Shape := ⟨2, ![512, 256]⟩
abbrev S128x256 : Shape := ⟨2, ![128, 256]⟩
abbrev S320000x1 : Shape := ⟨2, ![320000, 1]⟩
abbrev S2000x256 : Shape := ⟨2, ![2000, 256]⟩

abbrev nBuf : Space → Nat
  | .hbm => 80
  | .vmem => 63
  | .smem => 4
  | _ => 0

abbrev bufTy : (tb : Table) → Fin (tcTables nBuf tb) → BufTy
  | .hbm, ⟨0, _⟩ => ⟨S320000x128, .f32⟩
  | .hbm, ⟨1, _⟩ => ⟨S512x128, .f32⟩
  | .hbm, ⟨2, _⟩ => ⟨S320000, .i32⟩
  | .hbm, ⟨3, _⟩ => ⟨S320000, .i1⟩
  | .hbm, ⟨4, _⟩ => ⟨S320000, .i32⟩
  | .hbm, ⟨5, _⟩ => ⟨S12x128, .f32⟩
  | .hbm, ⟨6, _⟩ => ⟨S5x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S256, .f32⟩
  | .hbm, ⟨22, _⟩ => ⟨S256, .f32⟩
  | .hbm, ⟨23, _⟩ => ⟨S256x128, .f32⟩
  | .hbm, ⟨24, _⟩ => ⟨S128, .f32⟩
  | .hbm, ⟨25, _⟩ => ⟨S128x1, .f32⟩
  | .hbm, ⟨26, _⟩ => ⟨S1, .f32⟩
  | .hbm, ⟨27, _⟩ => ⟨S256, .f32⟩
  | .hbm, ⟨28, _⟩ => ⟨S256, .f32⟩
  | .hbm, ⟨29, _⟩ => ⟨S256x128, .f32⟩
  | .hbm, ⟨30, _⟩ => ⟨S128, .f32⟩
  | .hbm, ⟨31, _⟩ => ⟨S128x1, .f32⟩
  | .hbm, ⟨32, _⟩ => ⟨S1, .f32⟩
  | .hbm, ⟨33, _⟩ => ⟨S_, .f32⟩
  | .hbm, ⟨34, _⟩ => ⟨S4x128, .f32⟩
  | .hbm, ⟨35, _⟩ => ⟨S16x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S512x128, .f32⟩
  | .hbm, ⟨43, _⟩ => ⟨S_, .f32⟩
  | .hbm, ⟨44, _⟩ => ⟨S128x128, .f32⟩
  | .hbm, ⟨45, _⟩ => ⟨S640x128, .f32⟩
  | .hbm, ⟨46, _⟩ => ⟨S160, .i32⟩
  | .hbm, ⟨47, _⟩ => ⟨S160, .i32⟩
  | .hbm, ⟨48, _⟩ => ⟨S160x1x2000, .i32⟩
  | .hbm, ⟨49, _⟩ => ⟨S160x1x2000, .i32⟩
  | .hbm, ⟨50, _⟩ => ⟨S320000, .i32⟩
  | .hbm, ⟨51, _⟩ => ⟨S160x1x2000, .i32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S320000x128, .f32⟩
  | .hbm, ⟨59, _⟩ => ⟨S640x128, .f32⟩
  | .hbm, ⟨60, _⟩ => ⟨S640x1, .f32⟩
  | .hbm, ⟨61, _⟩ => ⟨S1x128, .f32⟩
  | .hbm, ⟨62, _⟩ => ⟨S1x128, .f32⟩
  | .hbm, ⟨63, _⟩ => ⟨S1x256, .f32⟩
  | .hbm, ⟨64, _⟩ => ⟨S1x256, .f32⟩
  | .hbm, ⟨65, _⟩ => ⟨S1x128, .f32⟩
  | .hbm, ⟨66, _⟩ => ⟨S1x1, .f32⟩
  | .hbm, ⟨67, _⟩ => ⟨S512x128, .f32⟩
  | .hbm, ⟨68, _⟩ => ⟨S512x1, .f32⟩
  | .hbm, ⟨69, _⟩ => ⟨S640x256, .f32⟩
  | .hbm, ⟨70, _⟩ => ⟨S640x1, .f32⟩
  | .hbm, ⟨71, _⟩ => ⟨S1x128, .f32⟩
  | .hbm, ⟨72, _⟩ => ⟨S1x128, .f32⟩
  | .hbm, ⟨73, _⟩ => ⟨S1x256, .f32⟩
  | .hbm, ⟨74, _⟩ => ⟨S1x256, .f32⟩
  | .hbm, ⟨75, _⟩ => ⟨S1x128, .f32⟩
  | .hbm, ⟨76, _⟩ => ⟨S1x1, .f32⟩
  | .hbm, ⟨77, _⟩ => ⟨S320000x1, .f32⟩
  | .hbm, ⟨78, _⟩ => ⟨S320000, .f32⟩
  | .hbm, ⟨79, _⟩ => ⟨S512, .f32⟩
  | .local _ .vmem, ⟨0, _⟩ => ⟨S512x128, .f32⟩
  | .local _ .vmem, ⟨1, _⟩ => ⟨S1x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S2000x128, .f32⟩
  | .local _ .vmem, ⟨8, _⟩ => ⟨S2000x128, .f32⟩
  | .local _ .vmem, ⟨9, _⟩ => ⟨S1x1x2000, .i32⟩
  | .local _ .vmem, ⟨10, _⟩ => ⟨S1x1x2000, .i32⟩
  | .local _ .vmem, ⟨11, _⟩ => ⟨S1x1x2000, .i32⟩
  | .local _ .vmem, ⟨12, _⟩ => ⟨S1x1x2000, .i32⟩
  | .local _ .vmem, ⟨13, _⟩ => ⟨S1x1x2000, .i32⟩
  | .local _ .vmem, ⟨14, _⟩ => ⟨S1x1x2000, .i32⟩
  | .local _ .vmem, ⟨15, _⟩ => ⟨S640x128, .f32⟩
  | .local _ .vmem, ⟨16, _⟩ => ⟨S16x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S640x128, .f32⟩
  | .local _ .vmem, ⟨28, _⟩ => ⟨S640x1, .f32⟩
  | .local _ .vmem, ⟨29, _⟩ => ⟨S2000x128, .f32⟩
  | .local _ .vmem, ⟨30, _⟩ => ⟨S640x128, .f32⟩
  | .local _ .vmem, ⟨31, _⟩ => ⟨S640x1, .f32⟩
  | .local _ .vmem, ⟨32, _⟩ => ⟨S512x128, .f32⟩
  | .local _ .vmem, ⟨33, _⟩ => ⟨S1x128, .f32⟩
  | .local _ .vmem, ⟨34, _⟩ => ⟨S1x128, .f32⟩
  | .local _ .vmem, ⟨35, _⟩ => ⟨S1x256, .f32⟩
  | .local _ .vmem, ⟨36, _⟩ => ⟨S1x256, .f32⟩
  | .local _ .vmem, ⟨37, _⟩ => ⟨S256x128, .f32⟩
  | .local _ .vmem, ⟨38, _⟩ => ⟨S1x128, .f32⟩
  | .local _ .vmem, ⟨39, _⟩ => ⟨S128x1, .f32⟩
  | .local _ .vmem, ⟨40, _⟩ => ⟨S1x1, .f32⟩
  | .local _ .vmem, ⟨41, _⟩ => ⟨S512x128, .f32⟩
  | .local _ .vmem, ⟨42, _⟩ => ⟨S512x1, .f32⟩
  | .local _ .vmem, ⟨43, _⟩ => ⟨S640x256, .f32⟩
  | .local _ .vmem, ⟨44, _⟩ => ⟨S640x1, .f32⟩
  | .local _ .vmem, ⟨45, _⟩ => ⟨S2000x128, .f32⟩
  | .local _ .vmem, ⟨46, _⟩ => ⟨S2000x128, .f32⟩
  | .local _ .vmem, ⟨47, _⟩ => ⟨S1x1x2000, .i32⟩
  | .local _ .vmem, ⟨48, _⟩ => ⟨S1x1x2000, .i32⟩
  | .local _ .vmem, ⟨49, _⟩ => ⟨S640x256, .f32⟩
  | .local _ .vmem, ⟨50, _⟩ => ⟨S640x1, .f32⟩
  | .local _ .vmem, ⟨51, _⟩ => ⟨S1x128, .f32⟩
  | .local _ .vmem, ⟨52, _⟩ => ⟨S1x128, .f32⟩
  | .local _ .vmem, ⟨53, _⟩ => ⟨S1x256, .f32⟩
  | .local _ .vmem, ⟨54, _⟩ => ⟨S1x256, .f32⟩
  | .local _ .vmem, ⟨55, _⟩ => ⟨S256x128, .f32⟩
  | .local _ .vmem, ⟨56, _⟩ => ⟨S1x128, .f32⟩
  | .local _ .vmem, ⟨57, _⟩ => ⟨S128x1, .f32⟩
  | .local _ .vmem, ⟨58, _⟩ => ⟨S1x1, .f32⟩
  | .local _ .vmem, ⟨59, _⟩ => ⟨S2000x1, .f32⟩
  | .local _ .vmem, ⟨60, _⟩ => ⟨S2000x1, .f32⟩
  | .local _ .vmem, ⟨61, _⟩ => ⟨S2000x256, .f32⟩
  | .local _ .vmem, ⟨62, _⟩ => ⟨S2000x1, .f32⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23_0 : Ref sig .tc := ⟨.hbm, 58, rfl⟩
abbrev main_v23_1 : Ref sig .tc := ⟨.hbm, 59, rfl⟩
abbrev main_v23_2 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30_0 : Ref sig .tc := ⟨.hbm, 67, rfl⟩
abbrev main_v30_1 : Ref sig .tc := ⟨.hbm, 68, rfl⟩
abbrev main_v30_2 : Ref sig .tc := ⟨.hbm, 69, rfl⟩
abbrev main_v30_3 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg16_1 : Ref sig .tc := ⟨.vmem, 26, rfl⟩
abbrev cc1_stg17_0 : Ref sig .tc := ⟨.vmem, 27, rfl⟩
abbrev cc1_stg18_0 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc3_stg14_1 : Ref sig .tc := ⟨.vmem, 60, rfl⟩
abbrev cc3_scratch0 : Ref sig .tc := ⟨.vmem, 61, rfl⟩
abbrev cc3_scratch1 : Ref sig .tc := ⟨.vmem, 62, rfl⟩
abbrev cc1_stg0_0 : Ref sig .tc := ⟨.smem, 0, rfl⟩
abbrev cc1_stg1_0 : Ref sig .tc := ⟨.smem, 1, rfl⟩
abbrev cc3_stg0_0 : Ref sig .tc := ⟨.smem, 2, rfl⟩
abbrev cc3_stg1_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem16_0 : DmaSem sig := 27
abbrev cc1_sem16_1 : DmaSem sig := 28
abbrev cc1_sem17_0 : DmaSem sig := 29
abbrev cc1_sem18_0 : DmaSem sig := 30
abbrev cc2_sem0_0 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem14_0 : DmaSem sig := 45
abbrev cc3_sem0_0 : DmaSem sig := 46
abbrev cc3_sem1_0 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem12_0 : DmaSem sig := 60
abbrev cc3_sem13_0 : DmaSem sig := 61
abbrev cc3_sem14_0 : DmaSem sig := 62
abbrev cc3_sem14_1 : DmaSem sig := 63

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![160], ![false]⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v151 : Index := Scalar.indexCast v19
  let c0_63 : Index := 0#32
  ![v151.toNat, 0]
def k1_cond1 (v1 : BitVec 32) (v21 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v22 : BitVec 32 := Scalar.subi v21 v19
  let c128_i32 : BitVec 32 := 128#32
  let v23 : BitVec 1 := Scalar.cmpi .slt v22 c128_i32
  let v26 : BitVec 32 := Scalar.extui v23
  let c0_i32_7 : BitVec 32 := 0#32
  let v27 : BitVec 1 := Scalar.cmpi .ne v26 c0_i32_7
  v27

def k1_off3 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v151 : Index := Scalar.indexCast v19
  let c0_63 : Index := 0#32
  ![v151.toNat, 0]
def k1_cond4 (v1 : BitVec 32) (v21 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v22 : BitVec 32 := Scalar.subi v21 v19
  let c128_i32 : BitVec 32 := 128#32
  let v23 : BitVec 1 := Scalar.cmpi .slt v22 c128_i32
  let v138 : BitVec 32 := Scalar.extui v23
  let c0_i32_60 : BitVec 32 := 0#32
  let v139 : BitVec 1 := Scalar.cmpi .ne v138 c0_i32_60
  v139

def k1_off4 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v158 : Index := Scalar.indexCast v19
  let c0_66 : Index := 0#32
  ![v158.toNat, 0]

def k1_chk1 (v1 : BitVec 32) (v21 : BitVec 32) : Prop :=
  (∀ (k1_h1 : k1_cond1 v1 v21 = 1#1), ∀ a, (k1_off2 v1) a + S128x128.size a ≤ S640x128.size a) ∧
  (∀ (k1_h4 : k1_cond4 v1 v21 = 1#1), ∀ a, (k1_off3 v1) a + S128x128.size a ≤ S640x128.size a) ∧
  (∀ (k1_h4 : k1_cond4 v1 v21 = 1#1), ∀ a, (k1_off4 v1) a + S128x1.size a ≤ S640x1.size a)
theorem k1_off2_inb : ∀ (v1 : BitVec 32) (v21 : BitVec 32) (k1_hw1 : k1_chk1 v1 v21), ∀ (k1_h1 : k1_cond1 v1 v21 = 1#1), ∀ a, (k1_off2 v1) a + S128x128.size a ≤ S640x128.size a := fun v1 v21 k1_hw1 k1_h1 => k1_hw1.1 k1_h1
theorem k1_off3_inb : ∀ (v1 : BitVec 32) (v21 : BitVec 32) (k1_hw1 : k1_chk1 v1 v21), ∀ (k1_h4 : k1_cond4 v1 v21 = 1#1), ∀ a, (k1_off3 v1) a + S128x128.size a ≤ S640x128.size a := fun v1 v21 k1_hw1 k1_h4 => k1_hw1.2.1 k1_h4
theorem k1_off4_inb : ∀ (v1 : BitVec 32) (v21 : BitVec 32) (k1_hw1 : k1_chk1 v1 v21), ∀ (k1_h4 : k1_cond4 v1 v21 = 1#1), ∀ a, (k1_off4 v1) a + S128x1.size a ≤ S640x1.size a := fun v1 v21 k1_hw1 k1_h4 => k1_hw1.2.2 k1_h4

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S160 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S160 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2000 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2000 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x2000 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S640x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2000x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S640x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S640x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev grid2 : Pipeline.Grid := .none

abbrev stage2_0 : Fin 1 → Memref sig .tc .vmem S640x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S640x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S512x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S512x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S640x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S640x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev grid3 : Pipeline.Grid := ⟨1, ![160], ![false]⟩

def k3_off1 (i : grid3.Coords) : Fin 1 → Nat :=
  let arg0 : BitVec 32 := BitVec.ofNat 32 (i 0).val
  let v0 : Index := Scalar.indexCast arg0
  ![v0.toNat]
def k3_off2 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v118 : Index := Scalar.indexCast v19
  let c0_47 : Index := 0#32
  ![v118.toNat, 0]
def k3_cond1 (v1 : BitVec 32) (v21 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v22 : BitVec 32 := Scalar.subi v21 v19
  let c128_i32 : BitVec 32 := 128#32
  let v23 : BitVec 1 := Scalar.cmpi .slt v22 c128_i32
  let v26 : BitVec 32 := Scalar.extui v23
  let c0_i32_7 : BitVec 32 := 0#32
  let v27 : BitVec 1 := Scalar.cmpi .ne v26 c0_i32_7
  v27

def k3_off3 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli v18 c8_i32_4
  let v125 : Index := Scalar.indexCast v19
  let c0_51 : Index := 0#32
  ![v125.toNat, 0]

def k3_chk1 (v1 : BitVec 32) (v21 : BitVec 32) : Prop :=
  (∀ (k3_h1 : k3_cond1 v1 v21 = 1#1), ∀ a, (k3_off2 v1) a + S128x256.size a ≤ S640x256.size a) ∧
  (∀ (k3_h1 : k3_cond1 v1 v21 = 1#1), ∀ a, (k3_off3 v1) a + S128x1.size a ≤ S640x1.size a)
theorem k3_off2_inb : ∀ (v1 : BitVec 32) (v21 : BitVec 32) (k3_hw1 : k3_chk1 v1 v21), ∀ (k3_h1 : k3_cond1 v1 v21 = 1#1), ∀ a, (k3_off2 v1) a + S128x256.size a ≤ S640x256.size a := fun v1 v21 k3_hw1 k3_h1 => k3_hw1.1 k3_h1
theorem k3_off3_inb : ∀ (v1 : BitVec 32) (v21 : BitVec 32) (k3_hw1 : k3_chk1 v1 v21), ∀ (k3_h1 : k3_cond1 v1 v21 = 1#1), ∀ a, (k3_off3 v1) a + S128x1.size a ≤ S640x1.size a := fun v1 v21 k3_hw1 k3_h1 => k3_hw1.2 k3_h1

def cc3_transform_0 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .smem S160 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .smem S160 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x2000 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S640x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S640x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S2000x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]
-- ==== KernelIdeal.lean ====
variable {F : FTy → Type} [FloatOps F] [Named F]
def κ : String → Option EReal := fun
  | "sqrt_two" => some ((Real.sqrt 2 : ℝ) : EReal)
  | _ => none
-- ==== ReferenceIdeal.lean ====
abbrev S320000x128 : Shape := ⟨2, ![320000, 128]⟩
abbrev S512x128 : Shape := ⟨2, ![512, 128]⟩
abbrev S320000 : Shape := ⟨1, ![320000]⟩
abbrev S12x128 : Shape := ⟨2, ![12, 128]⟩
abbrev S5x128 : Shape := ⟨2, ![5, 128]⟩
abbrev S128 : Shape := ⟨1, ![128]⟩
abbrev S128x128 : Shape := ⟨2, ![128, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S320000x1 : Shape := ⟨2, ![320000, 1]⟩
abbrev S1x1 : Shape := ⟨2, ![1, 1]⟩
abbrev S512 : Shape := ⟨1, ![512]⟩
abbrev S512x1 : Shape := ⟨2, ![512, 1]⟩
abbrev S1x128 : Shape := ⟨2, ![1, 128]⟩
abbrev S320000x256 : Shape := ⟨2, ![320000, 256]⟩
abbrev S1x256 : Shape := ⟨2, ![1, 256]⟩
abbrev S512x256 : Shape := ⟨2, ![512, 256]⟩

abbrev nBuf : Space → Nat
  | .hbm => 607
  | .vmem => 0
  | .smem => 0
  | _ => 0

abbrev hbmTy0_0 (i : Nat) : BufTy := match i % 128 with
  | 0 => ⟨S320000x128, .f32⟩
  | 1 => ⟨S512x128, .f32⟩
  | 2 => ⟨S320000, .i32⟩
  | 3 => ⟨S320000, .i1⟩
  | 4 => ⟨S320000, .i32⟩
  | 5 => ⟨S12x128, .f32⟩
  | 6 => ⟨S5x128, .f32⟩
  | 7 => ⟨S128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S256, .f32⟩
  | 22 => ⟨S256, .f32⟩
  | 23 => ⟨S256x128, .f32⟩
  | 24 => ⟨S128, .f32⟩
  | 25 => ⟨S128x1, .f32⟩
  | 26 => ⟨S1, .f32⟩
  | 27 => ⟨S256, .f32⟩
  | 28 => ⟨S256, .f32⟩
  | 29 => ⟨S256x128, .f32⟩
  | 30 => ⟨S128, .f32⟩
  | 31 => ⟨S128x1, .f32⟩
  | 32 => ⟨S1, .f32⟩
  | 33 => ⟨S_, .i32⟩
  | 34 => ⟨S_, .i32⟩
  | 35 => ⟨S_, .i32⟩
  | 36 => ⟨S320000, .i32⟩
  | 37 => ⟨S320000, .i32⟩
  | 38 => ⟨S_, .i32⟩
  | 39 => ⟨S320000, .i32⟩
  | 40 => ⟨S320000, .i32⟩
  | 41 => ⟨S_, .i32⟩
  | 42 => ⟨S320000, .i32⟩
  | 43 => ⟨S320000, .i32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1, .i32⟩
  | 53 => ⟨S_, .i32⟩
  | 54 => ⟨S320000x1, .i32⟩
  | 55 => ⟨S320000x1, .i1⟩
  | 56 => ⟨S1x1, .i32⟩
  | 57 => ⟨S320000x1, .i32⟩
  | 58 => ⟨S320000x1, .i1⟩
  | 59 => ⟨S320000x1, .i1⟩
  | 60 => ⟨S_, .i1⟩
  | 61 => ⟨S320000, .i1⟩
  | 62 => ⟨S320000x128, .f32⟩
  | 63 => ⟨S320000x128, .i1⟩
  | 64 => ⟨S_, .f32⟩
  | 65 => ⟨S320000x128, .f32⟩
  | 66 => ⟨S320000x128, .f32⟩
  | 67 => ⟨S320000x128, .f32⟩
  | 68 => ⟨S_, .f32⟩
  | 69 => ⟨S512, .f32⟩
  | 70 => ⟨S512x1, .f32⟩
  | 71 => ⟨S_, .f32⟩
  | 72 => ⟨S512x1, .f32⟩
  | 73 => ⟨S512x1, .f32⟩
  | 74 => ⟨S_, .i32⟩
  | 75 => ⟨S_, .f32⟩
  | 76 => ⟨S512, .f32⟩
  | 77 => ⟨S512x1, .f32⟩
  | 78 => ⟨S_, .f32⟩
  | 79 => ⟨S512x1, .f32⟩
  | 80 => ⟨S512x1, .f32⟩
  | 81 => ⟨S512x128, .f32⟩
  | 82 => ⟨S512x128, .f32⟩
  | 83 => ⟨S512x128, .f32⟩
  | 84 => ⟨S_, .f32⟩
  | 85 => ⟨S_, .f32⟩
  | 86 => ⟨S_, .f32⟩
  | 87 => ⟨S_, .f32⟩
  | 88 => ⟨S512, .f32⟩
  | 89 => ⟨S512x1, .f32⟩
  | 90 => ⟨S512x1, .f32⟩
  | 91 => ⟨S512x1, .f32⟩
  | 92 => ⟨S_, .f32⟩
  | 93 => ⟨S_, .i1⟩
  | 94 => ⟨S_, .f32⟩
  | 95 => ⟨S_, .f32⟩
  | 96 => ⟨S512x1, .f32⟩
  | 97 => ⟨S512x1, .f32⟩
  | 98 => ⟨S512x128, .f32⟩
  | 99 => ⟨S512x128, .f32⟩
  | 100 => ⟨S_, .f32⟩
  | 101 => ⟨S512x1, .f32⟩
  | 102 => ⟨S512x1, .f32⟩
  | 103 => ⟨S512x1, .f32⟩
  | 104 => ⟨S512x128, .f32⟩
  | 105 => ⟨S512x128, .f32⟩
  | 106 => ⟨S1x128, .f32⟩
  | 107 => ⟨S512x128, .f32⟩
  | 108 => ⟨S512x128, .f32⟩
  | 109 => ⟨S1x128, .f32⟩
  | 110 => ⟨S512x128, .f32⟩
  | 111 => ⟨S512x128, .f32⟩
  | 112 => ⟨S512x128, .f32⟩
  | 113 => ⟨S1x128, .f32⟩
  | 114 => ⟨S512x128, .f32⟩
  | 115 => ⟨S512x128, .f32⟩
  | 116 => ⟨S_, .f32⟩
  | 117 => ⟨S512x128, .f32⟩
  | 118 => ⟨S512x128, .f32⟩
  | 119 => ⟨S512x128, .f32⟩
  | 120 => ⟨S_, .f32⟩
  | 121 => ⟨S_, .f32⟩
  | 122 => ⟨S512x128, .f32⟩
  | 123 => ⟨S512x128, .f32⟩
  | 124 => ⟨S512x128, .f32⟩
  | 125 => ⟨S512x128, .f32⟩
  | 126 => ⟨S_, .i32⟩
  | 127 => ⟨S320000, .i32⟩
  | _ => ⟨S320000x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S1, .i32⟩
  | 7 => ⟨S_, .i32⟩
  | 8 => ⟨S320000x1, .i32⟩
  | 9 => ⟨S320000x1, .i1⟩
  | 10 => ⟨S1x1, .i32⟩
  | 11 => ⟨S320000x1, .i32⟩
  | 12 => ⟨S320000x1, .i1⟩
  | 13 => ⟨S320000x1, .i1⟩
  | 14 => ⟨S_, .i1⟩
  | 15 => ⟨S320000, .i1⟩
  | 16 => ⟨S320000x128, .f32⟩
  | 17 => ⟨S320000x128, .i1⟩
  | 18 => ⟨S_, .f32⟩
  | 19 => ⟨S320000x128, .f32⟩
  | 20 => ⟨S320000x128, .f32⟩
  | 21 => ⟨S320000x128, .f32⟩
  | 22 => ⟨S1x128, .f32⟩
  | 23 => ⟨S128, .f32⟩
  | 24 => ⟨S1x128, .f32⟩
  | 25 => ⟨S320000x128, .f32⟩
  | 26 => ⟨S320000x128, .f32⟩
  | 27 => ⟨S_, .f32⟩
  | 28 => ⟨S320000, .f32⟩
  | 29 => ⟨S320000x1, .f32⟩
  | 30 => ⟨S_, .f32⟩
  | 31 => ⟨S320000x1, .f32⟩
  | 32 => ⟨S320000x1, .f32⟩
  | 33 => ⟨S_, .i32⟩
  | 34 => ⟨S_, .f32⟩
  | 35 => ⟨S320000, .f32⟩
  | 36 => ⟨S320000x1, .f32⟩
  | 37 => ⟨S_, .f32⟩
  | 38 => ⟨S320000x1, .f32⟩
  | 39 => ⟨S320000x1, .f32⟩
  | 40 => ⟨S320000x128, .f32⟩
  | 41 => ⟨S320000x128, .f32⟩
  | 42 => ⟨S320000x128, .f32⟩
  | 43 => ⟨S_, .f32⟩
  | 44 => ⟨S_, .f32⟩
  | 45 => ⟨S_, .f32⟩
  | 46 => ⟨S_, .f32⟩
  | 47 => ⟨S320000, .f32⟩
  | 48 => ⟨S320000x1, .f32⟩
  | 49 => ⟨S320000x1, .f32⟩
  | 50 => ⟨S320000x1, .f32⟩
  | 51 => ⟨S_, .f32⟩
  | 52 => ⟨S_, .i1⟩
  | 53 => ⟨S_, .f32⟩
  | 54 => ⟨S_, .f32⟩
  | 55 => ⟨S320000x1, .f32⟩
  | 56 => ⟨S320000x1, .f32⟩
  | 57 => ⟨S320000x128, .f32⟩
  | 58 => ⟨S320000x128, .f32⟩
  | 59 => ⟨S_, .f32⟩
  | 60 => ⟨S320000x1, .f32⟩
  | 61 => ⟨S320000x1, .f32⟩
  | 62 => ⟨S320000x1, .f32⟩
  | 63 => ⟨S320000x128, .f32⟩
  | 64 => ⟨S320000x128, .f32⟩
  | 65 => ⟨S1x128, .f32⟩
  | 66 => ⟨S320000x128, .f32⟩
  | 67 => ⟨S320000x128, .f32⟩
  | 68 => ⟨S1x128, .f32⟩
  | 69 => ⟨S320000x128, .f32⟩
  | 70 => ⟨S320000x128, .f32⟩
  | 71 => ⟨S320000x128, .f32⟩
  | 72 => ⟨S1x128, .f32⟩
  | 73 => ⟨S320000x128, .f32⟩
  | 74 => ⟨S320000x128, .f32⟩
  | 75 => ⟨S_, .f32⟩
  | 76 => ⟨S320000x128, .f32⟩
  | 77 => ⟨S320000x128, .f32⟩
  | 78 => ⟨S320000x128, .f32⟩
  | 79 => ⟨S_, .f32⟩
  | 80 => ⟨S_, .f32⟩
  | 81 => ⟨S320000x128, .f32⟩
  | 82 => ⟨S320000x128, .f32⟩
  | 83 => ⟨S320000x128, .f32⟩
  | 84 => ⟨S320000x128, .f32⟩
  | 85 => ⟨S_, .f32⟩
  | 86 => ⟨S320000, .f32⟩
  | 87 => ⟨S320000x1, .f32⟩
  | 88 => ⟨S_, .f32⟩
  | 89 => ⟨S320000x1, .f32⟩
  | 90 => ⟨S320000x1, .f32⟩
  | 91 => ⟨S_, .i32⟩
  | 92 => ⟨S_, .f32⟩
  | 93 => ⟨S320000, .f32⟩
  | 94 => ⟨S320000x1, .f32⟩
  | 95 => ⟨S_, .f32⟩
  | 96 => ⟨S320000x1, .f32⟩
  | 97 => ⟨S320000x1, .f32⟩
  | 98 => ⟨S320000x128, .f32⟩
  | 99 => ⟨S320000x128, .f32⟩
  | 100 => ⟨S320000x128, .f32⟩
  | 101 => ⟨S_, .f32⟩
  | 102 => ⟨S_, .f32⟩
  | 103 => ⟨S_, .f32⟩
  | 104 => ⟨S_, .f32⟩
  | 105 => ⟨S320000, .f32⟩
  | 106 => ⟨S320000x1, .f32⟩
  | 107 => ⟨S320000x1, .f32⟩
  | 108 => ⟨S320000x1, .f32⟩
  | 109 => ⟨S_, .f32⟩
  | 110 => ⟨S_, .i1⟩
  | 111 => ⟨S_, .f32⟩
  | 112 => ⟨S_, .f32⟩
  | 113 => ⟨S320000x1, .f32⟩
  | 114 => ⟨S320000x1, .f32⟩
  | 115 => ⟨S320000x128, .f32⟩
  | 116 => ⟨S320000x128, .f32⟩
  | 117 => ⟨S_, .f32⟩
  | 118 => ⟨S320000x1, .f32⟩
  | 119 => ⟨S320000x1, .f32⟩
  | 120 => ⟨S320000x1, .f32⟩
  | 121 => ⟨S320000x128, .f32⟩
  | 122 => ⟨S320000x128, .f32⟩
  | 123 => ⟨S1x128, .f32⟩
  | 124 => ⟨S320000x128, .f32⟩
  | 125 => ⟨S320000x128, .f32⟩
  | 126 => ⟨S1x128, .f32⟩
  | 127 => ⟨S320000x128, .f32⟩
  | _ => ⟨S320000x128, .f32⟩

abbrev hbmTy0_2 (i : Nat) : BufTy := match i % 128 with
  | 0 => ⟨S320000x128, .f32⟩
  | 1 => ⟨S320000x128, .f32⟩
  | 2 => ⟨S1x128, .f32⟩
  | 3 => ⟨S320000x128, .f32⟩
  | 4 => ⟨S320000x128, .f32⟩
  | 5 => ⟨S_, .f32⟩
  | 6 => ⟨S320000x128, .f32⟩
  | 7 => ⟨S320000x128, .f32⟩
  | 8 => ⟨S320000x128, .f32⟩
  | 9 => ⟨S_, .f32⟩
  | 10 => ⟨S_, .f32⟩
  | 11 => ⟨S320000x128, .f32⟩
  | 12 => ⟨S320000x128, .f32⟩
  | 13 => ⟨S320000x128, .f32⟩
  | 14 => ⟨S320000x128, .f32⟩
  | 15 => ⟨S320000, .f32⟩
  | 16 => ⟨S320000x1, .f32⟩
  | 17 => ⟨S320000x128, .f32⟩
  | 18 => ⟨S320000x128, .f32⟩
  | 19 => ⟨S_, .f32⟩
  | 20 => ⟨S512x128, .f32⟩
  | 21 => ⟨S320000x1, .i32⟩
  | 22 => ⟨S512x128, .f32⟩
  | 23 => ⟨S320000, .f32⟩
  | 24 => ⟨S_, .f32⟩
  | 25 => ⟨S512, .f32⟩
  | 26 => ⟨S320000x1, .i32⟩
  | 27 => ⟨S512, .f32⟩
  | 28 => ⟨S_, .f32⟩
  | 29 => ⟨S_, .f32⟩
  | 30 => ⟨S512, .f32⟩
  | 31 => ⟨S512, .f32⟩
  | 32 => ⟨S512x1, .f32⟩
  | 33 => ⟨S512x128, .f32⟩
  | 34 => ⟨S512x128, .f32⟩
  | 35 => ⟨S512x128, .f32⟩
  | 36 => ⟨S_, .f32⟩
  | 37 => ⟨S512, .f32⟩
  | 38 => ⟨S512x1, .f32⟩
  | 39 => ⟨S_, .f32⟩
  | 40 => ⟨S512x1, .f32⟩
  | 41 => ⟨S512x1, .f32⟩
  | 42 => ⟨S_, .i32⟩
  | 43 => ⟨S_, .f32⟩
  | 44 => ⟨S512, .f32⟩
  | 45 => ⟨S512x1, .f32⟩
  | 46 => ⟨S_, .f32⟩
  | 47 => ⟨S512x1, .f32⟩
  | 48 => ⟨S512x1, .f32⟩
  | 49 => ⟨S512x128, .f32⟩
  | 50 => ⟨S512x128, .f32⟩
  | 51 => ⟨S512x128, .f32⟩
  | 52 => ⟨S_, .f32⟩
  | 53 => ⟨S_, .f32⟩
  | 54 => ⟨S_, .f32⟩
  | 55 => ⟨S_, .f32⟩
  | 56 => ⟨S512, .f32⟩
  | 57 => ⟨S512x1, .f32⟩
  | 58 => ⟨S512x1, .f32⟩
  | 59 => ⟨S512x1, .f32⟩
  | 60 => ⟨S_, .f32⟩
  | 61 => ⟨S_, .i1⟩
  | 62 => ⟨S_, .f32⟩
  | 63 => ⟨S_, .f32⟩
  | 64 => ⟨S512x1, .f32⟩
  | 65 => ⟨S512x1, .f32⟩
  | 66 => ⟨S512x128, .f32⟩
  | 67 => ⟨S512x128, .f32⟩
  | 68 => ⟨S_, .f32⟩
  | 69 => ⟨S512x1, .f32⟩
  | 70 => ⟨S512x1, .f32⟩
  | 71 => ⟨S512x1, .f32⟩
  | 72 => ⟨S512x128, .f32⟩
  | 73 => ⟨S512x128, .f32⟩
  | 74 => ⟨S1x128, .f32⟩
  | 75 => ⟨S512x128, .f32⟩
  | 76 => ⟨S512x128, .f32⟩
  | 77 => ⟨S1x128, .f32⟩
  | 78 => ⟨S512x128, .f32⟩
  | 79 => ⟨S512x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S1, .i32⟩
  | 89 => ⟨S_, .i32⟩
  | 90 => ⟨S320000x1, .i32⟩
  | 91 => ⟨S320000x1, .i1⟩
  | 92 => ⟨S1x1, .i32⟩
  | 93 => ⟨S320000x1, .i32⟩
  | 94 => ⟨S320000x1, .i1⟩
  | 95 => ⟨S320000x1, .i1⟩
  | 96 => ⟨S_, .i1⟩
  | 97 => ⟨S320000, .i1⟩
  | 98 => ⟨S320000x128, .f32⟩
  | 99 => ⟨S320000x128, .i1⟩
  | 100 => ⟨S_, .f32⟩
  | 101 => ⟨S320000x128, .f32⟩
  | 102 => ⟨S320000x128, .f32⟩
  | 103 => ⟨S320000x128, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S1, .i32⟩
  | 113 => ⟨S_, .i32⟩
  | 114 => ⟨S320000x1, .i32⟩
  | 115 => ⟨S320000x1, .i1⟩
  | 116 => ⟨S1x1, .i32⟩
  | 117 => ⟨S320000x1, .i32⟩
  | 118 => ⟨S320000x1, .i1⟩
  | 119 => ⟨S320000x1, .i1⟩
  | 120 => ⟨S_, .i1⟩
  | 121 => ⟨S320000, .i1⟩
  | 122 => ⟨S320000, .f32⟩
  | 123 => ⟨S_, .f32⟩
  | 124 => ⟨S320000, .f32⟩
  | 125 => ⟨S320000, .f32⟩
  | 126 => ⟨S320000x1, .f32⟩
  | 127 => ⟨S_, .f32⟩
  | _ => ⟨S320000x128, .f32⟩

abbrev hbmTy0_3 (i : Nat) : BufTy := match i % 128 with
  | 0 => ⟨S320000x1, .f32⟩
  | 1 => ⟨S320000x1, .f32⟩
  | 2 => ⟨S320000x128, .f32⟩
  | 3 => ⟨S320000x128, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S1, .i32⟩
  | 13 => ⟨S_, .i32⟩
  | 14 => ⟨S320000x1, .i32⟩
  | 15 => ⟨S320000x1, .i1⟩
  | 16 => ⟨S1x1, .i32⟩
  | 17 => ⟨S320000x1, .i32⟩
  | 18 => ⟨S320000x1, .i1⟩
  | 19 => ⟨S320000x1, .i1⟩
  | 20 => ⟨S_, .i1⟩
  | 21 => ⟨S320000, .i1⟩
  | 22 => ⟨S320000x128, .f32⟩
  | 23 => ⟨S320000x128, .i1⟩
  | 24 => ⟨S_, .f32⟩
  | 25 => ⟨S320000x128, .f32⟩
  | 26 => ⟨S320000x128, .f32⟩
  | 27 => ⟨S320000x128, .f32⟩
  | 28 => ⟨S_, .f32⟩
  | 29 => ⟨S320000, .f32⟩
  | 30 => ⟨S320000x1, .f32⟩
  | 31 => ⟨S_, .f32⟩
  | 32 => ⟨S320000x1, .f32⟩
  | 33 => ⟨S320000x1, .f32⟩
  | 34 => ⟨S_, .i32⟩
  | 35 => ⟨S_, .f32⟩
  | 36 => ⟨S320000, .f32⟩
  | 37 => ⟨S320000x1, .f32⟩
  | 38 => ⟨S_, .f32⟩
  | 39 => ⟨S320000x1, .f32⟩
  | 40 => ⟨S320000x1, .f32⟩
  | 41 => ⟨S320000x128, .f32⟩
  | 42 => ⟨S320000x128, .f32⟩
  | 43 => ⟨S320000x128, .f32⟩
  | 44 => ⟨S_, .f32⟩
  | 45 => ⟨S_, .f32⟩
  | 46 => ⟨S_, .f32⟩
  | 47 => ⟨S_, .f32⟩
  | 48 => ⟨S320000, .f32⟩
  | 49 => ⟨S320000x1, .f32⟩
  | 50 => ⟨S320000x1, .f32⟩
  | 51 => ⟨S320000x1, .f32⟩
  | 52 => ⟨S_, .f32⟩
  | 53 => ⟨S_, .i1⟩
  | 54 => ⟨S_, .f32⟩
  | 55 => ⟨S_, .f32⟩
  | 56 => ⟨S320000x1, .f32⟩
  | 57 => ⟨S320000x1, .f32⟩
  | 58 => ⟨S320000x128, .f32⟩
  | 59 => ⟨S320000x128, .f32⟩
  | 60 => ⟨S_, .f32⟩
  | 61 => ⟨S320000x1, .f32⟩
  | 62 => ⟨S320000x1, .f32⟩
  | 63 => ⟨S320000x1, .f32⟩
  | 64 => ⟨S320000x128, .f32⟩
  | 65 => ⟨S320000x128, .f32⟩
  | 66 => ⟨S1x128, .f32⟩
  | 67 => ⟨S320000x128, .f32⟩
  | 68 => ⟨S320000x128, .f32⟩
  | 69 => ⟨S1x128, .f32⟩
  | 70 => ⟨S320000x128, .f32⟩
  | 71 => ⟨S320000x128, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S1, .i32⟩
  | 81 => ⟨S_, .i32⟩
  | 82 => ⟨S320000x1, .i32⟩
  | 83 => ⟨S320000x1, .i1⟩
  | 84 => ⟨S1x1, .i32⟩
  | 85 => ⟨S320000x1, .i32⟩
  | 86 => ⟨S320000x1, .i1⟩
  | 87 => ⟨S320000x1, .i1⟩
  | 88 => ⟨S_, .i1⟩
  | 89 => ⟨S320000, .i1⟩
  | 90 => ⟨S320000x128, .f32⟩
  | 91 => ⟨S320000x128, .i1⟩
  | 92 => ⟨S_, .f32⟩
  | 93 => ⟨S320000x128, .f32⟩
  | 94 => ⟨S320000x128, .f32⟩
  | 95 => ⟨S320000x256, .f32⟩
  | 96 => ⟨S_, .f32⟩
  | 97 => ⟨S320000, .f32⟩
  | 98 => ⟨S320000x1, .f32⟩
  | 99 => ⟨S_, .f32⟩
  | 100 => ⟨S320000x1, .f32⟩
  | 101 => ⟨S320000x1, .f32⟩
  | 102 => ⟨S_, .i32⟩
  | 103 => ⟨S_, .f32⟩
  | 104 => ⟨S320000, .f32⟩
  | 105 => ⟨S320000x1, .f32⟩
  | 106 => ⟨S_, .f32⟩
  | 107 => ⟨S320000x1, .f32⟩
  | 108 => ⟨S320000x1, .f32⟩
  | 109 => ⟨S320000x256, .f32⟩
  | 110 => ⟨S320000x256, .f32⟩
  | 111 => ⟨S320000x256, .f32⟩
  | 112 => ⟨S_, .f32⟩
  | 113 => ⟨S_, .f32⟩
  | 114 => ⟨S_, .f32⟩
  | 115 => ⟨S_, .f32⟩
  | 116 => ⟨S320000, .f32⟩
  | 117 => ⟨S320000x1, .f32⟩
  | 118 => ⟨S320000x1, .f32⟩
  | 119 => ⟨S320000x1, .f32⟩
  | 120 => ⟨S_, .f32⟩
  | 121 => ⟨S_, .i1⟩
  | 122 => ⟨S_, .f32⟩
  | 123 => ⟨S_, .f32⟩
  | 124 => ⟨S320000x1, .f32⟩
  | 125 => ⟨S320000x1, .f32⟩
  | 126 => ⟨S320000x256, .f32⟩
  | 127 => ⟨S320000x256, .f32⟩
  | _ => ⟨S320000x128, .f32⟩

abbrev hbmTy0_4 (i : Nat) : BufTy := match i % 128 with
  | 0 => ⟨S_, .f32⟩
  | 1 => ⟨S320000x1, .f32⟩
  | 2 => ⟨S320000x1, .f32⟩
  | 3 => ⟨S320000x1, .f32⟩
  | 4 => ⟨S320000x256, .f32⟩
  | 5 => ⟨S320000x256, .f32⟩
  | 6 => ⟨S1x256, .f32⟩
  | 7 => ⟨S320000x256, .f32⟩
  | 8 => ⟨S320000x256, .f32⟩
  | 9 => ⟨S1x256, .f32⟩
  | 10 => ⟨S320000x256, .f32⟩
  | 11 => ⟨S320000x256, .f32⟩
  | 12 => ⟨S320000x128, .f32⟩
  | 13 => ⟨S1x128, .f32⟩
  | 14 => ⟨S320000x128, .f32⟩
  | 15 => ⟨S320000x128, .f32⟩
  | 16 => ⟨S_, .f32⟩
  | 17 => ⟨S320000x128, .f32⟩
  | 18 => ⟨S320000x128, .f32⟩
  | 19 => ⟨S320000x128, .f32⟩
  | 20 => ⟨S_, .f32⟩
  | 21 => ⟨S_, .f32⟩
  | 22 => ⟨S320000x128, .f32⟩
  | 23 => ⟨S320000x128, .f32⟩
  | 24 => ⟨S320000x128, .f32⟩
  | 25 => ⟨S320000x128, .f32⟩
  | 26 => ⟨S320000x1, .f32⟩
  | 27 => ⟨S1x1, .f32⟩
  | 28 => ⟨S320000x1, .f32⟩
  | 29 => ⟨S320000x1, .f32⟩
  | 30 => ⟨S320000, .f32⟩
  | 31 => ⟨S512x256, .f32⟩
  | 32 => ⟨S_, .f32⟩
  | 33 => ⟨S512, .f32⟩
  | 34 => ⟨S512x1, .f32⟩
  | 35 => ⟨S_, .f32⟩
  | 36 => ⟨S512x1, .f32⟩
  | 37 => ⟨S512x1, .f32⟩
  | 38 => ⟨S_, .i32⟩
  | 39 => ⟨S_, .f32⟩
  | 40 => ⟨S512, .f32⟩
  | 41 => ⟨S512x1, .f32⟩
  | 42 => ⟨S_, .f32⟩
  | 43 => ⟨S512x1, .f32⟩
  | 44 => ⟨S512x1, .f32⟩
  | 45 => ⟨S512x256, .f32⟩
  | 46 => ⟨S512x256, .f32⟩
  | 47 => ⟨S512x256, .f32⟩
  | 48 => ⟨S_, .f32⟩
  | 49 => ⟨S_, .f32⟩
  | 50 => ⟨S_, .f32⟩
  | 51 => ⟨S_, .f32⟩
  | 52 => ⟨S512, .f32⟩
  | 53 => ⟨S512x1, .f32⟩
  | 54 => ⟨S512x1, .f32⟩
  | 55 => ⟨S512x1, .f32⟩
  | 56 => ⟨S_, .f32⟩
  | 57 => ⟨S_, .i1⟩
  | 58 => ⟨S_, .f32⟩
  | 59 => ⟨S_, .f32⟩
  | 60 => ⟨S512x1, .f32⟩
  | 61 => ⟨S512x1, .f32⟩
  | 62 => ⟨S512x256, .f32⟩
  | 63 => ⟨S512x256, .f32⟩
  | 64 => ⟨S_, .f32⟩
  | 65 => ⟨S512x1, .f32⟩
  | 66 => ⟨S512x1, .f32⟩
  | 67 => ⟨S512x1, .f32⟩
  | 68 => ⟨S512x256, .f32⟩
  | 69 => ⟨S512x256, .f32⟩
  | 70 => ⟨S1x256, .f32⟩
  | 71 => ⟨S512x256, .f32⟩
  | 72 => ⟨S512x256, .f32⟩
  | 73 => ⟨S1x256, .f32⟩
  | 74 => ⟨S512x256, .f32⟩
  | 75 => ⟨S512x256, .f32⟩
  | 76 => ⟨S512x128, .f32⟩
  | 77 => ⟨S1x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S512x128, .f32⟩
  | 84 => ⟨S_, .f32⟩
  | 85 => ⟨S_, .f32⟩
  | 86 => ⟨S512x128, .f32⟩
  | 87 => ⟨S512x128, .f32⟩
  | 88 => ⟨S512x128, .f32⟩
  | 89 => ⟨S512x128, .f32⟩
  | 90 => ⟨S512x1, .f32⟩
  | 91 => ⟨S1x1, .f32⟩
  | 92 => ⟨S512x1, .f32⟩
  | 93 => ⟨S512x1, .f32⟩
  | 94 => ⟨S512, .f32⟩
  | _ => ⟨S320000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_c_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v0 : Ref sig .tc := ⟨.hbm, 40, rfl⟩
abbrev main_c_1 : Ref sig .tc := ⟨.hbm, 41, rfl⟩
abbrev main_v1 : Ref sig .tc := ⟨.hbm, 42, rfl⟩
abbrev main_v2 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v3 : Ref sig .tc := ⟨.hbm, 66, rfl⟩
abbrev main_v4 : Ref sig .tc := ⟨.hbm, 67, rfl⟩
abbrev main_cst : Ref sig .tc := ⟨.hbm, 68, rfl⟩
abbrev main_v5 : Ref sig .tc := ⟨.hbm, 69, rfl⟩
abbrev main_v6 : Ref sig .tc := ⟨.hbm, 70, rfl⟩
abbrev main_cst_2 : Ref sig .tc := ⟨.hbm, 71, rfl⟩
abbrev main_v7 : Ref sig .tc := ⟨.hbm, 72, rfl⟩
abbrev main_v8 : Ref sig .tc := ⟨.hbm, 73, rfl⟩
abbrev main_c_3 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_cst_3 : Ref sig .tc := ⟨.hbm, 92, rfl⟩
abbrev main_call2_v13 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v9 : Ref sig .tc := ⟨.hbm, 97, rfl⟩
abbrev main_v10 : Ref sig .tc := ⟨.hbm, 98, rfl⟩
abbrev main_v11 : Ref sig .tc := ⟨.hbm, 99, rfl⟩
abbrev main_cst_4 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_cst_5 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_cst_6 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_c_1 : Ref sig .tc := ⟨.hbm, 134, rfl⟩
abbrev main_call3_c_2 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_3 : Ref sig .tc := ⟨.hbm, 142, rfl⟩
abbrev main_call3_v12 : Ref sig .tc := ⟨.hbm, 143, rfl⟩
abbrev main_call3_v13 : Ref sig .tc := ⟨.hbm, 144, rfl⟩
abbrev main_call3_v14 : Ref sig .tc := ⟨.hbm, 145, rfl⟩
abbrev main_call3_cst : Ref sig .tc := ⟨.hbm, 146, rfl⟩
abbrev main_call3_v15 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_cst_7 : Ref sig .tc := ⟨.hbm, 155, rfl⟩
abbrev main_v42 : Ref sig .tc := ⟨.hbm, 156, rfl⟩
abbrev main_v43 : Ref sig .tc := ⟨.hbm, 157, rfl⟩
abbrev main_cst_8 : Ref sig .tc := ⟨.hbm, 158, rfl⟩
abbrev main_v44 : Ref sig .tc := ⟨.hbm, 159, rfl⟩
abbrev main_v45 : Ref sig .tc := ⟨.hbm, 160, rfl⟩
abbrev main_c_9 : Ref sig .tc := ⟨.hbm, 161, rfl⟩
abbrev main_call4_cst : Ref sig .tc := ⟨.hbm, 162, rfl⟩
abbrev main_call4_v0 : Ref sig .tc := ⟨.hbm, 163, rfl⟩
abbrev main_call4_v1 : Ref sig .tc := ⟨.hbm, 164, rfl⟩
abbrev main_call4_cst_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_v7 : Ref sig .tc := ⟨.hbm, 171, rfl⟩
abbrev main_call4_cst_1 : Ref sig .tc := ⟨.hbm, 172, rfl⟩
abbrev main_call4_v8 : Ref sig .tc := ⟨.hbm, 173, rfl⟩
abbrev main_call4_cst_2 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_v12 : Ref sig .tc := ⟨.hbm, 178, rfl⟩
abbrev main_call4_cst_3 : Ref sig .tc := ⟨.hbm, 179, rfl⟩
abbrev main_call4_v13 : Ref sig .tc := ⟨.hbm, 180, rfl⟩
abbrev main_call4_cst_4 : Ref sig .tc := ⟨.hbm, 181, rfl⟩
abbrev main_call4_call0_v0 : Ref sig .tc := ⟨.hbm, 182, rfl⟩
abbrev main_call4_call0_v1 : Ref sig .tc := ⟨.hbm, 183, rfl⟩
abbrev main_v46 : Ref sig .tc := ⟨.hbm, 184, rfl⟩
abbrev main_v47 : Ref sig .tc := ⟨.hbm, 185, rfl⟩
abbrev main_v48 : Ref sig .tc := ⟨.hbm, 186, rfl⟩
abbrev main_cst_10 : Ref sig .tc := ⟨.hbm, 187, rfl⟩
abbrev main_v49 : Ref sig .tc := ⟨.hbm, 188, rfl⟩
abbrev main_v50 : Ref sig .tc := ⟨.hbm, 189, rfl⟩
abbrev main_v51 : Ref sig .tc := ⟨.hbm, 190, rfl⟩
abbrev main_v52 : Ref sig .tc := ⟨.hbm, 191, rfl⟩
abbrev main_v53 : Ref sig .tc := ⟨.hbm, 192, rfl⟩
abbrev main_v54 : Ref sig .tc := ⟨.hbm, 193, rfl⟩
abbrev main_v55 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_cst_11 : Ref sig .tc := ⟨.hbm, 203, rfl⟩
abbrev main_v64 : Ref sig .tc := ⟨.hbm, 204, rfl⟩
abbrev main_v65 : Ref sig .tc := ⟨.hbm, 205, rfl⟩
abbrev main_v66 : Ref sig .tc := ⟨.hbm, 206, rfl⟩
abbrev main_cst_12 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_cst_13 : Ref sig .tc := ⟨.hbm, 213, rfl⟩
abbrev main_v72 : Ref sig .tc := ⟨.hbm, 214, rfl⟩
abbrev main_v73 : Ref sig .tc := ⟨.hbm, 215, rfl⟩
abbrev main_cst_14 : Ref sig .tc := ⟨.hbm, 216, rfl⟩
abbrev main_v74 : Ref sig .tc := ⟨.hbm, 217, rfl⟩
abbrev main_v75 : Ref sig .tc := ⟨.hbm, 218, rfl⟩
abbrev main_c_15 : Ref sig .tc := ⟨.hbm, 219, rfl⟩
abbrev main_call5_cst : Ref sig .tc := ⟨.hbm, 220, rfl⟩
abbrev main_call5_v0 : Ref sig .tc := ⟨.hbm, 221, rfl⟩
abbrev main_call5_v1 : Ref sig .tc := ⟨.hbm, 222, rfl⟩
abbrev main_call5_cst_0 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_v6 : Ref sig .tc := ⟨.hbm, 228, rfl⟩
abbrev main_call5_v7 : Ref sig .tc := ⟨.hbm, 229, rfl⟩
abbrev main_call5_cst_1 : Ref sig .tc := ⟨.hbm, 230, rfl⟩
abbrev main_call5_v8 : Ref sig .tc := ⟨.hbm, 231, rfl⟩
abbrev main_call5_cst_2 : Ref sig .tc := ⟨.hbm, 232, rfl⟩
abbrev main_call5_v9 : Ref sig .tc := ⟨.hbm, 233, rfl⟩
abbrev main_call5_v10 : Ref sig .tc := ⟨.hbm, 234, rfl⟩
abbrev main_call5_v11 : Ref sig .tc := ⟨.hbm, 235, rfl⟩
abbrev main_call5_v12 : Ref sig .tc := ⟨.hbm, 236, rfl⟩
abbrev main_call5_cst_3 : Ref sig .tc := ⟨.hbm, 237, rfl⟩
abbrev main_call5_v13 : Ref sig .tc := ⟨.hbm, 238, rfl⟩
abbrev main_call5_cst_4 : Ref sig .tc := ⟨.hbm, 239, rfl⟩
abbrev main_call5_call0_v0 : Ref sig .tc := ⟨.hbm, 240, rfl⟩
abbrev main_call5_call0_v1 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_cst_16 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_v83 : Ref sig .tc := ⟨.hbm, 250, rfl⟩
abbrev main_v84 : Ref sig .tc := ⟨.hbm, 251, rfl⟩
abbrev main_v85 : Ref sig .tc := ⟨.hbm, 252, rfl⟩
abbrev main_v86 : Ref sig .tc := ⟨.hbm, 253, rfl⟩
abbrev main_v87 : Ref sig .tc := ⟨.hbm, 254, rfl⟩
abbrev main_v88 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_v92 : Ref sig .tc := ⟨.hbm, 259, rfl⟩
abbrev main_v93 : Ref sig .tc := ⟨.hbm, 260, rfl⟩
abbrev main_cst_17 : Ref sig .tc := ⟨.hbm, 261, rfl⟩
abbrev main_v94 : Ref sig .tc := ⟨.hbm, 262, rfl⟩
abbrev main_v95 : Ref sig .tc := ⟨.hbm, 263, rfl⟩
abbrev main_v96 : Ref sig .tc := ⟨.hbm, 264, rfl⟩
abbrev main_cst_18 : Ref sig .tc := ⟨.hbm, 265, rfl⟩
abbrev main_v97 : Ref sig .tc := ⟨.hbm, 266, rfl⟩
abbrev main_v98 : Ref sig .tc := ⟨.hbm, 267, rfl⟩
abbrev main_v99 : Ref sig .tc := ⟨.hbm, 268, rfl⟩
abbrev main_v100 : Ref sig .tc := ⟨.hbm, 269, rfl⟩
abbrev main_v101 : Ref sig .tc := ⟨.hbm, 270, rfl⟩
abbrev main_v102 : Ref sig .tc := ⟨.hbm, 271, rfl⟩
abbrev main_v103 : Ref sig .tc := ⟨.hbm, 272, rfl⟩
abbrev main_v104 : Ref sig .tc := ⟨.hbm, 273, rfl⟩
abbrev main_v105 : Ref sig .tc := ⟨.hbm, 274, rfl⟩
abbrev main_cst_19 : Ref sig .tc := ⟨.hbm, 275, rfl⟩
abbrev main_v106 : Ref sig .tc := ⟨.hbm, 276, rfl⟩
abbrev main_v107 : Ref sig .tc := ⟨.hbm, 277, rfl⟩
abbrev main_v108 : Ref sig .tc := ⟨.hbm, 278, rfl⟩
abbrev main_v109 : Ref sig .tc := ⟨.hbm, 279, rfl⟩
abbrev main_cst_20 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_cst_21 : Ref sig .tc := ⟨.hbm, 284, rfl⟩
abbrev main_call6_v0 : Ref sig .tc := ⟨.hbm, 285, rfl⟩
abbrev main_call6_v1 : Ref sig .tc := ⟨.hbm, 286, rfl⟩
abbrev main_v113 : Ref sig .tc := ⟨.hbm, 287, rfl⟩
abbrev main_v114 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_cst_22 : Ref sig .tc := ⟨.hbm, 292, rfl⟩
abbrev main_v118 : Ref sig .tc := ⟨.hbm, 293, rfl⟩
abbrev main_v119 : Ref sig .tc := ⟨.hbm, 294, rfl⟩
abbrev main_cst_23 : Ref sig .tc := ⟨.hbm, 295, rfl⟩
abbrev main_v120 : Ref sig .tc := ⟨.hbm, 296, rfl⟩
abbrev main_v121 : Ref sig .tc := ⟨.hbm, 297, rfl⟩
abbrev main_c_24 : Ref sig .tc := ⟨.hbm, 298, rfl⟩
abbrev main_call7_cst : Ref sig .tc := ⟨.hbm, 299, rfl⟩
abbrev main_call7_v0 : Ref sig .tc := ⟨.hbm, 300, rfl⟩
abbrev main_call7_v1 : Ref sig .tc := ⟨.hbm, 301, rfl⟩
abbrev main_call7_cst_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_v5 : Ref sig .tc := ⟨.hbm, 306, rfl⟩
abbrev main_call7_v6 : Ref sig .tc := ⟨.hbm, 307, rfl⟩
abbrev main_call7_v7 : Ref sig .tc := ⟨.hbm, 308, rfl⟩
abbrev main_call7_cst_1 : Ref sig .tc := ⟨.hbm, 309, rfl⟩
abbrev main_call7_v8 : Ref sig .tc := ⟨.hbm, 310, rfl⟩
abbrev main_call7_cst_2 : Ref sig .tc := ⟨.hbm, 311, rfl⟩
abbrev main_call7_v9 : Ref sig .tc := ⟨.hbm, 312, rfl⟩
abbrev main_call7_v10 : Ref sig .tc := ⟨.hbm, 313, rfl⟩
abbrev main_call7_v11 : Ref sig .tc := ⟨.hbm, 314, rfl⟩
abbrev main_call7_v12 : Ref sig .tc := ⟨.hbm, 315, rfl⟩
abbrev main_call7_cst_3 : Ref sig .tc := ⟨.hbm, 316, rfl⟩
abbrev main_call7_v13 : Ref sig .tc := ⟨.hbm, 317, rfl⟩
abbrev main_call7_cst_4 : Ref sig .tc := ⟨.hbm, 318, rfl⟩
abbrev main_call7_call0_v0 : Ref sig .tc := ⟨.hbm, 319, rfl⟩
abbrev main_call7_call0_v1 : Ref sig .tc := ⟨.hbm, 320, rfl⟩
abbrev main_v122 : Ref sig .tc := ⟨.hbm, 321, rfl⟩
abbrev main_v123 : Ref sig .tc := ⟨.hbm, 322, rfl⟩
abbrev main_v124 : Ref sig .tc := ⟨.hbm, 323, rfl⟩
abbrev main_cst_25 : Ref sig .tc := ⟨.hbm, 324, rfl⟩
abbrev main_v125 : Ref sig .tc := ⟨.hbm, 325, rfl⟩
abbrev main_v126 : Ref sig .tc := ⟨.hbm, 326, rfl⟩
abbrev main_v127 : Ref sig .tc := ⟨.hbm, 327, rfl⟩
abbrev main_v128 : Ref sig .tc := ⟨.hbm, 328, rfl⟩
abbrev main_v129 : Ref sig .tc := ⟨.hbm, 329, rfl⟩
abbrev main_v130 : Ref sig .tc := ⟨.hbm, 330, rfl⟩
abbrev main_v131 : Ref sig .tc := ⟨.hbm, 331, rfl⟩
abbrev main_v132 : Ref sig .tc := ⟨.hbm, 332, rfl⟩
abbrev main_v133 : Ref sig .tc := ⟨.hbm, 333, rfl⟩
abbrev main_v134 : Ref sig .tc := ⟨.hbm, 334, rfl⟩
abbrev main_v135 : Ref sig .tc := ⟨.hbm, 335, rfl⟩
abbrev main_call8_c : Ref sig .tc := ⟨.hbm, 336, rfl⟩
abbrev main_call8_v0 : Ref sig .tc := ⟨.hbm, 337, rfl⟩
abbrev main_call8_v1 : Ref sig .tc := ⟨.hbm, 338, rfl⟩
abbrev main_call8_c_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_c_1 : Ref sig .tc := ⟨.hbm, 344, rfl⟩
abbrev main_call8_c_2 : Ref sig .tc := ⟨.hbm, 345, rfl⟩
abbrev main_call8_v6 : Ref sig .tc := ⟨.hbm, 346, rfl⟩
abbrev main_call8_v7 : Ref sig .tc := ⟨.hbm, 347, rfl⟩
abbrev main_call8_v8 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_c_3 : Ref sig .tc := ⟨.hbm, 352, rfl⟩
abbrev main_call8_v12 : Ref sig .tc := ⟨.hbm, 353, rfl⟩
abbrev main_call8_v13 : Ref sig .tc := ⟨.hbm, 354, rfl⟩
abbrev main_call8_v14 : Ref sig .tc := ⟨.hbm, 355, rfl⟩
abbrev main_call8_cst : Ref sig .tc := ⟨.hbm, 356, rfl⟩
abbrev main_call8_v15 : Ref sig .tc := ⟨.hbm, 357, rfl⟩
abbrev main_v136 : Ref sig .tc := ⟨.hbm, 358, rfl⟩
abbrev main_v137 : Ref sig .tc := ⟨.hbm, 359, rfl⟩
abbrev main_call9_c : Ref sig .tc := ⟨.hbm, 360, rfl⟩
abbrev main_call9_v0 : Ref sig .tc := ⟨.hbm, 361, rfl⟩
abbrev main_call9_v1 : Ref sig .tc := ⟨.hbm, 362, rfl⟩
abbrev main_call9_c_0 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_call9_v5 : Ref sig .tc := ⟨.hbm, 367, rfl⟩
abbrev main_call9_c_1 : Ref sig .tc := ⟨.hbm, 368, rfl⟩
abbrev main_call9_c_2 : Ref sig .tc := ⟨.hbm, 369, rfl⟩
abbrev main_call9_v6 : Ref sig .tc := ⟨.hbm, 370, rfl⟩
abbrev main_call9_v7 : Ref sig .tc := ⟨.hbm, 371, rfl⟩
abbrev main_call9_v8 : Ref sig .tc := ⟨.hbm, 372, rfl⟩
abbrev main_call9_v9 : Ref sig .tc := ⟨.hbm, 373, rfl⟩
abbrev main_call9_v10 : Ref sig .tc := ⟨.hbm, 374, rfl⟩
abbrev main_call9_v11 : Ref sig .tc := ⟨.hbm, 375, rfl⟩
abbrev main_call9_c_3 : Ref sig .tc := ⟨.hbm, 376, rfl⟩
abbrev main_call9_v12 : Ref sig .tc := ⟨.hbm, 377, rfl⟩
abbrev main_call9_v13 : Ref sig .tc := ⟨.hbm, 378, rfl⟩
abbrev main_call9_cst : Ref sig .tc := ⟨.hbm, 379, rfl⟩
abbrev main_call9_v14 : Ref sig .tc := ⟨.hbm, 380, rfl⟩
abbrev main_v138 : Ref sig .tc := ⟨.hbm, 381, rfl⟩
abbrev main_v139 : Ref sig .tc := ⟨.hbm, 382, rfl⟩
abbrev main_cst_26 : Ref sig .tc := ⟨.hbm, 383, rfl⟩
abbrev main_v140 : Ref sig .tc := ⟨.hbm, 384, rfl⟩
abbrev main_v141 : Ref sig .tc := ⟨.hbm, 385, rfl⟩
abbrev main_v142 : Ref sig .tc := ⟨.hbm, 386, rfl⟩
abbrev main_v143 : Ref sig .tc := ⟨.hbm, 387, rfl⟩
abbrev main_call10_c : Ref sig .tc := ⟨.hbm, 388, rfl⟩
abbrev main_call10_v0 : Ref sig .tc := ⟨.hbm, 389, rfl⟩
abbrev main_call10_v1 : Ref sig .tc := ⟨.hbm, 390, rfl⟩
abbrev main_call10_c_0 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_call10_v5 : Ref sig .tc := ⟨.hbm, 395, rfl⟩
abbrev main_call10_c_1 : Ref sig .tc := ⟨.hbm, 396, rfl⟩
abbrev main_call10_c_2 : Ref sig .tc := ⟨.hbm, 397, rfl⟩
abbrev main_call10_v6 : Ref sig .tc := ⟨.hbm, 398, rfl⟩
abbrev main_call10_v7 : Ref sig .tc := ⟨.hbm, 399, rfl⟩
abbrev main_call10_v8 : Ref sig .tc := ⟨.hbm, 400, rfl⟩
abbrev main_call10_v9 : Ref sig .tc := ⟨.hbm, 401, rfl⟩
abbrev main_call10_v10 : Ref sig .tc := ⟨.hbm, 402, rfl⟩
abbrev main_call10_v11 : Ref sig .tc := ⟨.hbm, 403, rfl⟩
abbrev main_call10_c_3 : Ref sig .tc := ⟨.hbm, 404, rfl⟩
abbrev main_call10_v12 : Ref sig .tc := ⟨.hbm, 405, rfl⟩
abbrev main_call10_v13 : Ref sig .tc := ⟨.hbm, 406, rfl⟩
abbrev main_call10_v14 : Ref sig .tc := ⟨.hbm, 407, rfl⟩
abbrev main_call10_cst : Ref sig .tc := ⟨.hbm, 408, rfl⟩
abbrev main_call10_v15 : Ref sig .tc := ⟨.hbm, 409, rfl⟩
abbrev main_v144 : Ref sig .tc := ⟨.hbm, 410, rfl⟩
abbrev main_v145 : Ref sig .tc := ⟨.hbm, 411, rfl⟩
abbrev main_cst_27 : Ref sig .tc := ⟨.hbm, 412, rfl⟩
abbrev main_v146 : Ref sig .tc := ⟨.hbm, 413, rfl⟩
abbrev main_v147 : Ref sig .tc := ⟨.hbm, 414, rfl⟩
abbrev main_cst_28 : Ref sig .tc := ⟨.hbm, 415, rfl⟩
abbrev main_v148 : Ref sig .tc := ⟨.hbm, 416, rfl⟩
abbrev main_v149 : Ref sig .tc := ⟨.hbm, 417, rfl⟩
abbrev main_c_29 : Ref sig .tc := ⟨.hbm, 418, rfl⟩
abbrev main_call11_cst : Ref sig .tc := ⟨.hbm, 419, rfl⟩
abbrev main_call11_v0 : Ref sig .tc := ⟨.hbm, 420, rfl⟩
abbrev main_call11_v1 : Ref sig .tc := ⟨.hbm, 421, rfl⟩
abbrev main_call11_cst_0 : Ref sig .tc := ⟨.hbm, 422, rfl⟩
abbrev main_call11_v2 : Ref sig .tc := ⟨.hbm, 423, rfl⟩
abbrev main_call11_v3 : Ref sig .tc := ⟨.hbm, 424, rfl⟩
abbrev main_call11_v4 : Ref sig .tc := ⟨.hbm, 425, rfl⟩
abbrev main_call11_v5 : Ref sig .tc := ⟨.hbm, 426, rfl⟩
abbrev main_call11_v6 : Ref sig .tc := ⟨.hbm, 427, rfl⟩
abbrev main_call11_v7 : Ref sig .tc := ⟨.hbm, 428, rfl⟩
abbrev main_call11_cst_1 : Ref sig .tc := ⟨.hbm, 429, rfl⟩
abbrev main_call11_v8 : Ref sig .tc := ⟨.hbm, 430, rfl⟩
abbrev main_call11_cst_2 : Ref sig .tc := ⟨.hbm, 431, rfl⟩
abbrev main_call11_v9 : Ref sig .tc := ⟨.hbm, 432, rfl⟩
abbrev main_call11_v10 : Ref sig .tc := ⟨.hbm, 433, rfl⟩
abbrev main_call11_v11 : Ref sig .tc := ⟨.hbm, 434, rfl⟩
abbrev main_call11_v12 : Ref sig .tc := ⟨.hbm, 435, rfl⟩
abbrev main_call11_cst_3 : Ref sig .tc := ⟨.hbm, 436, rfl⟩
abbrev main_call11_v13 : Ref sig .tc := ⟨.hbm, 437, rfl⟩
abbrev main_call11_cst_4 : Ref sig .tc := ⟨.hbm, 438, rfl⟩
abbrev main_call11_call0_v0 : Ref sig .tc := ⟨.hbm, 439, rfl⟩
abbrev main_call11_call0_v1 : Ref sig .tc := ⟨.hbm, 440, rfl⟩
abbrev main_v150 : Ref sig .tc := ⟨.hbm, 441, rfl⟩
abbrev main_v151 : Ref sig .tc := ⟨.hbm, 442, rfl⟩
abbrev main_v152 : Ref sig .tc := ⟨.hbm, 443, rfl⟩
abbrev main_cst_30 : Ref sig .tc := ⟨.hbm, 444, rfl⟩
abbrev main_v153 : Ref sig .tc := ⟨.hbm, 445, rfl⟩
abbrev main_v154 : Ref sig .tc := ⟨.hbm, 446, rfl⟩
abbrev main_v155 : Ref sig .tc := ⟨.hbm, 447, rfl⟩
abbrev main_v156 : Ref sig .tc := ⟨.hbm, 448, rfl⟩
abbrev main_v157 : Ref sig .tc := ⟨.hbm, 449, rfl⟩
abbrev main_v158 : Ref sig .tc := ⟨.hbm, 450, rfl⟩
abbrev main_v159 : Ref sig .tc := ⟨.hbm, 451, rfl⟩
abbrev main_v160 : Ref sig .tc := ⟨.hbm, 452, rfl⟩
abbrev main_v161 : Ref sig .tc := ⟨.hbm, 453, rfl⟩
abbrev main_v162 : Ref sig .tc := ⟨.hbm, 454, rfl⟩
abbrev main_v163 : Ref sig .tc := ⟨.hbm, 455, rfl⟩
abbrev main_call12_c : Ref sig .tc := ⟨.hbm, 456, rfl⟩
abbrev main_call12_v0 : Ref sig .tc := ⟨.hbm, 457, rfl⟩
abbrev main_call12_v1 : Ref sig .tc := ⟨.hbm, 458, rfl⟩
abbrev main_call12_c_0 : Ref sig .tc := ⟨.hbm, 459, rfl⟩
abbrev main_call12_v2 : Ref sig .tc := ⟨.hbm, 460, rfl⟩
abbrev main_call12_v3 : Ref sig .tc := ⟨.hbm, 461, rfl⟩
abbrev main_call12_v4 : Ref sig .tc := ⟨.hbm, 462, rfl⟩
abbrev main_call12_v5 : Ref sig .tc := ⟨.hbm, 463, rfl⟩
abbrev main_call12_c_1 : Ref sig .tc := ⟨.hbm, 464, rfl⟩
abbrev main_call12_c_2 : Ref sig .tc := ⟨.hbm, 465, rfl⟩
abbrev main_call12_v6 : Ref sig .tc := ⟨.hbm, 466, rfl⟩
abbrev main_call12_v7 : Ref sig .tc := ⟨.hbm, 467, rfl⟩
abbrev main_call12_v8 : Ref sig .tc := ⟨.hbm, 468, rfl⟩
abbrev main_call12_v9 : Ref sig .tc := ⟨.hbm, 469, rfl⟩
abbrev main_call12_v10 : Ref sig .tc := ⟨.hbm, 470, rfl⟩
abbrev main_call12_v11 : Ref sig .tc := ⟨.hbm, 471, rfl⟩
abbrev main_call12_c_3 : Ref sig .tc := ⟨.hbm, 472, rfl⟩
abbrev main_call12_v12 : Ref sig .tc := ⟨.hbm, 473, rfl⟩
abbrev main_call12_v13 : Ref sig .tc := ⟨.hbm, 474, rfl⟩
abbrev main_call12_v14 : Ref sig .tc := ⟨.hbm, 475, rfl⟩
abbrev main_call12_cst : Ref sig .tc := ⟨.hbm, 476, rfl⟩
abbrev main_call12_v15 : Ref sig .tc := ⟨.hbm, 477, rfl⟩
abbrev main_v164 : Ref sig .tc := ⟨.hbm, 478, rfl⟩
abbrev main_v165 : Ref sig .tc := ⟨.hbm, 479, rfl⟩
abbrev main_cst_31 : Ref sig .tc := ⟨.hbm, 480, rfl⟩
abbrev main_v166 : Ref sig .tc := ⟨.hbm, 481, rfl⟩
abbrev main_v167 : Ref sig .tc := ⟨.hbm, 482, rfl⟩
abbrev main_cst_32 : Ref sig .tc := ⟨.hbm, 483, rfl⟩
abbrev main_v168 : Ref sig .tc := ⟨.hbm, 484, rfl⟩
abbrev main_v169 : Ref sig .tc := ⟨.hbm, 485, rfl⟩
abbrev main_c_33 : Ref sig .tc := ⟨.hbm, 486, rfl⟩
abbrev main_call13_cst : Ref sig .tc := ⟨.hbm, 487, rfl⟩
abbrev main_call13_v0 : Ref sig .tc := ⟨.hbm, 488, rfl⟩
abbrev main_call13_v1 : Ref sig .tc := ⟨.hbm, 489, rfl⟩
abbrev main_call13_cst_0 : Ref sig .tc := ⟨.hbm, 490, rfl⟩
abbrev main_call13_v2 : Ref sig .tc := ⟨.hbm, 491, rfl⟩
abbrev main_call13_v3 : Ref sig .tc := ⟨.hbm, 492, rfl⟩
abbrev main_call13_v4 : Ref sig .tc := ⟨.hbm, 493, rfl⟩
abbrev main_call13_v5 : Ref sig .tc := ⟨.hbm, 494, rfl⟩
abbrev main_call13_v6 : Ref sig .tc := ⟨.hbm, 495, rfl⟩
abbrev main_call13_v7 : Ref sig .tc := ⟨.hbm, 496, rfl⟩
abbrev main_call13_cst_1 : Ref sig .tc := ⟨.hbm, 497, rfl⟩
abbrev main_call13_v8 : Ref sig .tc := ⟨.hbm, 498, rfl⟩
abbrev main_call13_cst_2 : Ref sig .tc := ⟨.hbm, 499, rfl⟩
abbrev main_call13_v9 : Ref sig .tc := ⟨.hbm, 500, rfl⟩
abbrev main_call13_v10 : Ref sig .tc := ⟨.hbm, 501, rfl⟩
abbrev main_call13_v11 : Ref sig .tc := ⟨.hbm, 502, rfl⟩
abbrev main_call13_v12 : Ref sig .tc := ⟨.hbm, 503, rfl⟩
abbrev main_call13_cst_3 : Ref sig .tc := ⟨.hbm, 504, rfl⟩
abbrev main_call13_v13 : Ref sig .tc := ⟨.hbm, 505, rfl⟩
abbrev main_call13_cst_4 : Ref sig .tc := ⟨.hbm, 506, rfl⟩
abbrev main_call13_call0_v0 : Ref sig .tc := ⟨.hbm, 507, rfl⟩
abbrev main_call13_call0_v1 : Ref sig .tc := ⟨.hbm, 508, rfl⟩
abbrev main_v170 : Ref sig .tc := ⟨.hbm, 509, rfl⟩
abbrev main_v171 : Ref sig .tc := ⟨.hbm, 510, rfl⟩
abbrev main_v172 : Ref sig .tc := ⟨.hbm, 511, rfl⟩
abbrev main_cst_34 : Ref sig .tc := ⟨.hbm, 512, rfl⟩
abbrev main_v173 : Ref sig .tc := ⟨.hbm, 513, rfl⟩
abbrev main_v174 : Ref sig .tc := ⟨.hbm, 514, rfl⟩
abbrev main_v175 : Ref sig .tc := ⟨.hbm, 515, rfl⟩
abbrev main_v176 : Ref sig .tc := ⟨.hbm, 516, rfl⟩
abbrev main_v177 : Ref sig .tc := ⟨.hbm, 517, rfl⟩
abbrev main_v178 : Ref sig .tc := ⟨.hbm, 518, rfl⟩
abbrev main_v179 : Ref sig .tc := ⟨.hbm, 519, rfl⟩
abbrev main_v180 : Ref sig .tc := ⟨.hbm, 520, rfl⟩
abbrev main_v181 : Ref sig .tc := ⟨.hbm, 521, rfl⟩
abbrev main_v182 : Ref sig .tc := ⟨.hbm, 522, rfl⟩
abbrev main_v183 : Ref sig .tc := ⟨.hbm, 523, rfl⟩
abbrev main_v184 : Ref sig .tc := ⟨.hbm, 524, rfl⟩
abbrev main_v185 : Ref sig .tc := ⟨.hbm, 525, rfl⟩
abbrev main_v186 : Ref sig .tc := ⟨.hbm, 526, rfl⟩
abbrev main_v187 : Ref sig .tc := ⟨.hbm, 527, rfl⟩
abbrev main_cst_35 : Ref sig .tc := ⟨.hbm, 528, rfl⟩
abbrev main_v188 : Ref sig .tc := ⟨.hbm, 529, rfl⟩
abbrev main_v189 : Ref sig .tc := ⟨.hbm, 530, rfl⟩
abbrev main_v190 : Ref sig .tc := ⟨.hbm, 531, rfl⟩
abbrev main_cst_36 : Ref sig .tc := ⟨.hbm, 532, rfl⟩
abbrev main_v191 : Ref sig .tc := ⟨.hbm, 533, rfl⟩
abbrev main_v192 : Ref sig .tc := ⟨.hbm, 534, rfl⟩
abbrev main_v193 : Ref sig .tc := ⟨.hbm, 535, rfl⟩
abbrev main_v194 : Ref sig .tc := ⟨.hbm, 536, rfl⟩
abbrev main_v195 : Ref sig .tc := ⟨.hbm, 537, rfl⟩
abbrev main_v196 : Ref sig .tc := ⟨.hbm, 538, rfl⟩
abbrev main_v197 : Ref sig .tc := ⟨.hbm, 539, rfl⟩
abbrev main_v198 : Ref sig .tc := ⟨.hbm, 540, rfl⟩
abbrev main_v199 : Ref sig .tc := ⟨.hbm, 541, rfl⟩
abbrev main_v200 : Ref sig .tc := ⟨.hbm, 542, rfl⟩
abbrev main_v201 : Ref sig .tc := ⟨.hbm, 543, rfl⟩
abbrev main_cst_37 : Ref sig .tc := ⟨.hbm, 544, rfl⟩
abbrev main_v202 : Ref sig .tc := ⟨.hbm, 545, rfl⟩
abbrev main_v203 : Ref sig .tc := ⟨.hbm, 546, rfl⟩
abbrev main_cst_38 : Ref sig .tc := ⟨.hbm, 547, rfl⟩
abbrev main_v204 : Ref sig .tc := ⟨.hbm, 548, rfl⟩
abbrev main_v205 : Ref sig .tc := ⟨.hbm, 549, rfl⟩
abbrev main_c_39 : Ref sig .tc := ⟨.hbm, 550, rfl⟩
abbrev main_call14_cst : Ref sig .tc := ⟨.hbm, 551, rfl⟩
abbrev main_call14_v0 : Ref sig .tc := ⟨.hbm, 552, rfl⟩
abbrev main_call14_v1 : Ref sig .tc := ⟨.hbm, 553, rfl⟩
abbrev main_call14_cst_0 : Ref sig .tc := ⟨.hbm, 554, rfl⟩
abbrev main_call14_v2 : Ref sig .tc := ⟨.hbm, 555, rfl⟩
abbrev main_call14_v3 : Ref sig .tc := ⟨.hbm, 556, rfl⟩
abbrev main_call14_v4 : Ref sig .tc := ⟨.hbm, 557, rfl⟩
abbrev main_call14_v5 : Ref sig .tc := ⟨.hbm, 558, rfl⟩
abbrev main_call14_v6 : Ref sig .tc := ⟨.hbm, 559, rfl⟩
abbrev main_call14_v7 : Ref sig .tc := ⟨.hbm, 560, rfl⟩
abbrev main_call14_cst_1 : Ref sig .tc := ⟨.hbm, 561, rfl⟩
abbrev main_call14_v8 : Ref sig .tc := ⟨.hbm, 562, rfl⟩
abbrev main_call14_cst_2 : Ref sig .tc := ⟨.hbm, 563, rfl⟩
abbrev main_call14_v9 : Ref sig .tc := ⟨.hbm, 564, rfl⟩
abbrev main_call14_v10 : Ref sig .tc := ⟨.hbm, 565, rfl⟩
abbrev main_call14_v11 : Ref sig .tc := ⟨.hbm, 566, rfl⟩
abbrev main_call14_v12 : Ref sig .tc := ⟨.hbm, 567, rfl⟩
abbrev main_call14_cst_3 : Ref sig .tc := ⟨.hbm, 568, rfl⟩
abbrev main_call14_v13 : Ref sig .tc := ⟨.hbm, 569, rfl⟩
abbrev main_call14_cst_4 : Ref sig .tc := ⟨.hbm, 570, rfl⟩
abbrev main_call14_call0_v0 : Ref sig .tc := ⟨.hbm, 571, rfl⟩
abbrev main_call14_call0_v1 : Ref sig .tc := ⟨.hbm, 572, rfl⟩
abbrev main_v206 : Ref sig .tc := ⟨.hbm, 573, rfl⟩
abbrev main_v207 : Ref sig .tc := ⟨.hbm, 574, rfl⟩
abbrev main_v208 : Ref sig .tc := ⟨.hbm, 575, rfl⟩
abbrev main_cst_40 : Ref sig .tc := ⟨.hbm, 576, rfl⟩
abbrev main_v209 : Ref sig .tc := ⟨.hbm, 577, rfl⟩
abbrev main_v210 : Ref sig .tc := ⟨.hbm, 578, rfl⟩
abbrev main_v211 : Ref sig .tc := ⟨.hbm, 579, rfl⟩
abbrev main_v212 : Ref sig .tc := ⟨.hbm, 580, rfl⟩
abbrev main_v213 : Ref sig .tc := ⟨.hbm, 581, rfl⟩
abbrev main_v214 : Ref sig .tc := ⟨.hbm, 582, rfl⟩
abbrev main_v215 : Ref sig .tc := ⟨.hbm, 583, rfl⟩
abbrev main_v216 : Ref sig .tc := ⟨.hbm, 584, rfl⟩
abbrev main_v217 : Ref sig .tc := ⟨.hbm, 585, rfl⟩
abbrev main_v218 : Ref sig .tc := ⟨.hbm, 586, rfl⟩
abbrev main_v219 : Ref sig .tc := ⟨.hbm, 587, rfl⟩
abbrev main_v220 : Ref sig .tc := ⟨.hbm, 588, rfl⟩
abbrev main_v221 : Ref sig .tc := ⟨.hbm, 589, rfl⟩
abbrev main_v222 : Ref sig .tc := ⟨.hbm, 590, rfl⟩
abbrev main_v223 : Ref sig .tc := ⟨.hbm, 591, rfl⟩
abbrev main_cst_41 : Ref sig .tc := ⟨.hbm, 592, rfl⟩
abbrev main_v224 : Ref sig .tc := ⟨.hbm, 593, rfl⟩
abbrev main_v225 : Ref sig .tc := ⟨.hbm, 594, rfl⟩
abbrev main_v226 : Ref sig .tc := ⟨.hbm, 595, rfl⟩
abbrev main_cst_42 : Ref sig .tc := ⟨.hbm, 596, rfl⟩
abbrev main_v227 : Ref sig .tc := ⟨.hbm, 597, rfl⟩
abbrev main_v228 : Ref sig .tc := ⟨.hbm, 598, rfl⟩
abbrev main_v229 : Ref sig .tc := ⟨.hbm, 599, rfl⟩
abbrev main_v230 : Ref sig .tc := ⟨.hbm, 600, rfl⟩
abbrev main_v231 : Ref sig .tc := ⟨.hbm, 601, rfl⟩
abbrev main_v232 : Ref sig .tc := ⟨.hbm, 602, rfl⟩
abbrev main_v233 : Ref sig .tc := ⟨.hbm, 603, rfl⟩
abbrev main_v234 : Ref sig .tc := ⟨.hbm, 604, rfl⟩
abbrev main_v235 : Ref sig .tc := ⟨.hbm, 605, rfl⟩
abbrev main_v236 : Ref sig .tc := ⟨.hbm, 606, rfl⟩

abbrev nD : Nat := 1
abbrev τ : Topo := Topo.v7x

variable {F : FTy → Type} [FloatOps F]
-- ==== Proof.Preconds.lean ====
module

public import proofs.«01_k».proof.Pre_batch_in_range
public import proofs.«01_k».proof.Pre_edges_in_order
public import Idealize.ShloMosaic.Lib.ReduceAll
public import Idealize.ShloMosaic.Lib.WordCmp
public import Idealize.ShloMosaic.Lib.WordArith
public import Idealize.ShloMosaic.Lib.Pointwise
public import Idealize.ShloMosaic.Lib.Decide

/-! What the two preconditions say of the words of the arguments. -/

@[expose] public section

set_option maxRecDepth 16384

noncomputable section

namespace Cert.Preconds

open Idealize.ShloMosaic

theorem batchFacts : Cert.Pre_batch_in_range.Facts := ⟨by decide, by decide, by decide⟩
theorem orderFacts : Cert.Pre_edges_in_order.Facts := ⟨by decide, by decide, by decide, by decide, by decide, by decide⟩

/-- A bit that is the "and" of two bits is one when both are. -/
theorem and_bits : ∀ a b : BitVec 1, IntOp.andi a b = 1#1 → a = 1#1 ∧ b = 1#1 := by decide
theorem ofBool_one (p : Bool) (h : BitVec.ofBool p = 1#1) : p = true := by revert h; cases p <;> decide

/-- A word at least zero and below 512 when signed is below 512. -/
theorem word_range (x : BitVec 32) (h0 : IntOp.cmpi .sge x 0#32 = 1#1) (h1 : IntOp.cmpi .slt x 512#32 = 1#1) : x.toNat < 512 := by
  have a := of_decide_eq_true (ofBool_one _ h0)
  have b := of_decide_eq_true (ofBool_one _ h1)
  have z : (0#32 : BitVec 32).toInt = 0 := by decide
  have z' : (512#32 : BitVec 32).toInt = 512 := by decide
  rw [z] at a; rw [z'] at b
  have := BitVec.toInt_eq_toNat_cond x
  split at this <;> omega

section
variable {F : FTy → Type} [FloatOps F] [Cert.Pre_batch_in_range.Facts]
open Cert.Pre_batch_in_range

/-- Under the first precondition every graph number is below 512. -/
theorem below_of (a0 a1) (a2 : IVec S320000 32) (a3 a4 a5 a6 a7 a8 a9 a10 a11 a12 a13 a14 a15 a16 a17 a18 a19 a20 a21 a22 a23 a24 a25 a26 a27 a28 a29 a30 a31 a32)
    (h : fn (F := F) a0 a1 a2 a3 a4 a5 a6 a7 a8 a9 a10 a11 a12 a13 a14 a15 a16 a17 a18 a19 a20 a21 a22 a23 a24 a25 a26 a27 a28 a29 a30 a31 a32 = fun _ => 1#1)
    (i : S320000.Idx) : (a2 i).toNat < 512 := by
  have h0 := congrFun h (fun a => a.elim0)
  dsimp only [fn] at h0
  have hi := Host.reduce_andi_all _ _ _ _ _ h0 i
  have := and_bits _ _ hi
  exact word_range _ this.1 this.2
end

section
variable {F : FTy → Type} [FloatOps F] [Cert.Pre_edges_in_order.Facts]
open Cert.Pre_edges_in_order

/-- Under the second precondition every graph number is below 512, the numbers never fall, and no order is above ten. -/
theorem ordered_of (a0 a1) (a2 : IVec S320000 32) (a3) (a4 : IVec S320000 32) (a5 a6 a7 a8 a9 a10 a11 a12 a13 a14 a15 a16 a17 a18 a19 a20 a21 a22 a23 a24 a25 a26 a27 a28 a29 a30 a31 a32)
    (h : fn (F := F) a0 a1 a2 a3 a4 a5 a6 a7 a8 a9 a10 a11 a12 a13 a14 a15 a16 a17 a18 a19 a20 a21 a22 a23 a24 a25 a26 a27 a28 a29 a30 a31 a32 = fun _ => 1#1) :
    (∀ i : S320000.Idx, (a2 i).toNat < 512) ∧ (∀ i j : Fin 320000, i ≤ j → (a2 (fun | 0 => i)).toNat ≤ (a2 (fun | 0 => j)).toNat)
      ∧ (∀ i : S320000.Idx, (a4 i).toInt ≤ 10) := by
  have h0 := congrFun h (fun a => a.elim0)
  dsimp only [fn] at h0
  obtain ⟨h1, h3⟩ := and_bits _ _ h0
  obtain ⟨h1, h2⟩ := and_bits _ _ h1
  have below : ∀ i : S320000.Idx, (a2 i).toNat < 512 := fun i => by
    have hi := Host.reduce_andi_all _ _ _ _ _ h1 i
    have := and_bits _ _ hi
    exact word_range _ this.1 this.2
  have step : ∀ (n : Nat) (hn : n + 1 < 320000), (a2 (fun | 0 => (⟨n, by omega⟩ : Fin 320000))).toNat ≤ (a2 (fun | 0 => (⟨n + 1, hn⟩ : Fin 320000))).toNat := fun n hn => by
    have hi := Host.reduce_andi_all _ _ _ _ _ h2 (fun | 0 => (⟨n, by omega⟩ : Fin 319999))
    have hi := of_decide_eq_true (ofBool_one _ hi)
    have e0 : extractStridedSlice S319999 ![1] a2 Facts.slices_S320000_S319999_1 (fun | 0 => (⟨n, by omega⟩ : Fin 319999)) = a2 (fun | 0 => (⟨n + 1, hn⟩ : Fin 320000)) :=
      congrArg a2 (funext fun a => Fin.ext (by match a with | ⟨0, _⟩ => show 1 + n = n + 1; omega))
    have e1 : extractStridedSlice S319999 ![0] a2 Facts.slices_S320000_S319999_0 (fun | 0 => (⟨n, by omega⟩ : Fin 319999)) = a2 (fun | 0 => (⟨n, by omega⟩ : Fin 320000)) :=
      congrArg a2 (funext fun a => Fin.ext (by match a with | ⟨0, _⟩ => show 0 + n = n; omega))
    rw [e0, e1] at hi
    have b0 := below (fun | 0 => (⟨n, by omega⟩ : Fin 320000))
    have b1 := below (fun | 0 => (⟨n + 1, hn⟩ : Fin 320000))
    have c0 := BitVec.toInt_eq_toNat_cond (a2 (fun | 0 => (⟨n, by omega⟩ : Fin 320000)))
    have c1 := BitVec.toInt_eq_toNat_cond (a2 (fun | 0 => (⟨n + 1, hn⟩ : Fin 320000)))
    rw [if_pos (by omega)] at c0 c1
    omega
  refine ⟨below, ?_, fun i => ?_⟩
  · rintro ⟨i, hi⟩ ⟨j, hj⟩ hij
    replace hij : i ≤ j := hij
    induction j, hij using Nat.le_induction with
    | base => exact le_refl _
    | succ k hk ih => exact (ih (by omega)).trans (step k hj)
  · have hi := Host.reduce_andi_all _ _ _ _ _ h3 i
    have hi := of_decide_eq_true (ofBool_one _ hi)
    have z : (10#32 : BitVec 32).toInt = 10 := by decide
    rw [← z]; exact hi
end

end Cert.Preconds

end
-- ==== Proof.IdealRun.Seg.lean ====
module

public import proofs.«01_k».proof.Proof.Gen.KernelIdeal.Regions
public import Idealize.ShloMosaic.Lib.Pipeline.RegionsLoop

/-! A call of the program as one of its items, over every buffer of the core. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- No core owes another anything. -/
abbrev L : GSem nD τ sig → Finset Unit := fun _ => ∅
abbrev lv : GSem nD τ sig → Unit → ℕ := fun _ _ => 0

abbrev Contents : Type := (c : Dev nD) → (b : Ref sig .tc) → Buf (Elt F) ((c : Thread nD τ).loc b)

variable (pdats : (p : Fin 4) → (c : Dev nD) → Dat τ (Elt F) Unit ℕ (UR sig nD τ) ℕ (cfgs p) c)

set_option backward.isDefEq.respectTransparency.types false in
/-- A call as an item of the program: entered with every buffer at `V`, left with every buffer at `Vp`, which is the arrays' last contents at the
    call's windows and `V` elsewhere. -/
def seg (p : Fin 4) (la : Pipeline.LaunchFacts (nD := nD) (τ := τ) cfgs p) (V Vp : Contents (F := F)) (R : Dev nD → sProp 𝕄)
    (hq : ∀ c w, (pdats p c).q w = fullShare) (howed : ∀ c t, (pdats p c).owed t = 0)
    (hrec : ∀ c t, (pdats p c).recorded t = Set.univ)
    (hΦ : ∀ c t, (pdats p c).Φ t = Pipeline.scopedRest (cfgs p).spec c)
    (hA : ∀ c w, (pdats p c).A w = V c (Pipeline.arrRef (cfgs p).spec w))
    (hbody : ∀ c, BodyObligation (pdats p c) (defs₀ (F := F)) Variants.none () Set.univ)
    (hout : ∀ c w, Vp c (Pipeline.arrRef (cfgs p).spec w) = (pdats p c).arrAt w (cfgs p).N)
    (hne : ∀ c b, (∀ w, Pipeline.arrRef (cfgs p).spec w ≠ b) → Vp c b = V c b) :
    Pipeline.RegionSeg (pcfgs (F := F)) adm pdats () defs₀ Variants.none L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) (cfgs p).spec c (V c) ∗ R c)
  hentry c := by
    rw [Pipeline.ownSems0_none]
    have hsplit := Pipeline.arrays_of_unscopedBufs (p := p) (pcfgs (F := F)) adm pdats la.win la.arr_whole c
      ((pdats p c).share_full fun w => hq c w) (V c) (hA c)
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitr; · iempintro
    isplitl [Hrest] <;> iassumption
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) la.win la.arr_whole c
      pdats ((pdats p c).share_full fun w => hq c w) (V c) (Vp c) ((pdats p c).arrAt · (cfgs p).N)
      (fun w => (hout c w).symm)
      (fun b hb => hne c b fun w h => hb (h ▸ Finset.mem_image.mpr ⟨w, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    rw [howed c]
    icases HO with ⟨%W, -, HO⟩; iexists W; iexact HO

end Cert.KernelIdeal.Run

end
-- ==== Proof.IdealRun.Words.lean ====
module

public import proofs.«01_k».proof.Proof.Gen.KernelIdeal.Skeleton
public import Idealize.ShloMosaic.Lib.Tactic
public import Idealize.ShloMosaic.Lib.VecWindow
public import Idealize.ShloMosaic.Lib.WordCmp

/-! The words a block of edges is steered by: the graph number of its first edge rounded down to a multiple of eight
(`lane`), the test whether the block's graphs fit in a window of 128 rows, and what the tests say of each other. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Word `n` of a row of 160 words. -/
abbrev wordAt (x : Vec F S160 .i32) (n : Fin 160) : BitVec 32 := x (fun | 0 => n)

/-- A word rounded down to a multiple of eight, as the kernel computes it. -/
abbrev lane (v : BitVec 32) : BitVec 32 :=
  Scalar.muli (Scalar.select (Scalar.andi (Scalar.cmpi .ne (Scalar.subi (Scalar.extui (Scalar.cmpi .sgt v 0#32)) (Scalar.extui (Scalar.cmpi .slt v 0#32)))
    (Scalar.subi (Scalar.extui (Scalar.cmpi .sgt 8#32 0#32)) (Scalar.extui (Scalar.cmpi .slt 8#32 0#32)))) (Scalar.cmpi .ne (Scalar.remsi v 8#32) 0#32))
    (Scalar.subi (Scalar.divsi v 8#32) 1#32) (Scalar.divsi v 8#32)) 8#32

/-- The bit "the block's graphs fit in the window". -/
abbrev narrowBit (v w : BitVec 32) : BitVec 1 := Scalar.cmpi .slt (Scalar.subi w (lane v)) 128#32

/-- The test the wide branches are entered by. -/
abbrev wideBit (v w : BitVec 32) : BitVec 1 :=
  Scalar.cmpi .ne (Scalar.extui (Scalar.xori (narrowBit v w) 1#1) : BitVec 32) 0#32

/-- The test for the first grid point. -/
abbrev firstBit (n : Nat) : BitVec 1 :=
  Scalar.cmpi .ne (Scalar.extui (Scalar.cmpi .eq (BitVec.ofNat 32 n) 0#32) : BitVec 32) 0#32

theorem cond1_eq (v w : BitVec 32) : k1_cond1 v w = Scalar.cmpi .ne (Scalar.extui (narrowBit v w) : BitVec 32) 0#32 := rfl
theorem cond4_eq (v w : BitVec 32) : k1_cond4 v w = k1_cond1 v w := rfl
theorem head_cond_eq (v w : BitVec 32) : k3_cond1 v w = k1_cond1 v w := rfl

theorem bit_tests (b : BitVec 1) :
    (Scalar.cmpi .ne (Scalar.extui b : BitVec 32) 0#32 = 1#1) ↔ ¬ (Scalar.cmpi .ne (Scalar.extui (Scalar.xori b 1#1) : BitVec 32) 0#32 = 1#1) := by
  revert b; decide

/-- Exactly one of the two branches is entered. -/
theorem narrow_iff (v w : BitVec 32) : k1_cond1 v w = 1#1 ↔ ¬ (wideBit v w = 1#1) := by
  rw [cond1_eq]; exact bit_tests _

theorem narrow_iff_bit (v w : BitVec 32) : k1_cond1 v w = 1#1 ↔ narrowBit v w = 1#1 := by
  rw [cond1_eq]; generalize narrowBit v w = b; revert b; decide

/-- A load of a box of what a view reads. -/
theorem readAt_load {κ sp s e} (v : View sig κ sp s e) (f : v.ty.Contents (Elt F)) {off size : Fin s.rank → ℕ} (inb : ∀ a, off a + size a ≤ s.size a) :
    v.readAt (Elt F) (Rect.unit off size inb).toLoadRect f = VecWindow.window (v.read (Elt F) f) off size inb := rfl

/-- What a view reads after a store of a box, the last of its stores. -/
theorem read_store {κ sp s e} (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- The window that is the whole of an array. -/
theorem window_all2 {α : Type} {a b : ℕ} (x : (⟨2, ![a, b]⟩ : Shape).Idx → α) (inb : ∀ j, (![0, 0] : Fin 2 → ℕ) j + (![a, b] : Fin 2 → ℕ) j ≤ (⟨2, ![a, b]⟩ : Shape).size j) :
    VecWindow.window x ![0, 0] ![a, b] inb = x :=
  funext fun y => congrArg x (funext fun j => Fin.ext (by
    show (![0, 0] : Fin 2 → ℕ) j + 1 * (y j).val = (y j).val
    fin_cases j <;> simp))

theorem window_all3 {α : Type} {a b c : ℕ} (x : (⟨3, ![a, b, c]⟩ : Shape).Idx → α) (inb : ∀ j, (![0, 0, 0] : Fin 3 → ℕ) j + (![a, b, c] : Fin 3 → ℕ) j ≤ (⟨3, ![a, b, c]⟩ : Shape).size j) :
    VecWindow.window x ![0, 0, 0] ![a, b, c] inb = x :=
  funext fun y => congrArg x (funext fun j => Fin.ext (by
    show (![0, 0, 0] : Fin 3 → ℕ) j + 1 * (y j).val = (y j).val
    fin_cases j <;> simp))

/-- A store of the whole of an array. -/
theorem put_all2 {α : Type} {a b : ℕ} (x : (⟨2, ![a, b]⟩ : Shape).Idx → α) (w : (⟨2, ![a, b]⟩ : Shape).Idx → α) :
    VecWindow.put x ![0, 0] ![a, b] w = w := by
  funext y
  unfold VecWindow.put
  rw [dif_pos (fun j => by have := (y j).isLt; fin_cases j <;> simpa using this)]
  exact congrArg w (funext fun j => Fin.ext (by
    show (y j).val - (![0, 0] : Fin 2 → ℕ) j = (y j).val
    fin_cases j <;> simp))

/-- A load of a box of what the stores so far left. -/
theorem readCov_load {κ sp s e} (v : View sig κ sp s e) (L : List (View.Piece (Elt F) s e)) {off size : Fin s.rank → ℕ} (inb : ∀ a, off a + size a ≤ s.size a) :
    v.readCov L (Rect.unit off size inb).toLoadRect = VecWindow.window (v.read (Elt F) (v.writes (Elt F) v.junk L)) off size inb := rfl

theorem firstBit_iff (n : Fin 160) : firstBit n.val = 1#1 ↔ n.val = 0 := by revert n; decide +kernel

end Cert.KernelIdeal.Run

end
-- ==== Proof.IdealRun.QfBody.lean ====
module

public import proofs.«01_k».proof.Proof.IdealRun.Words

/-! The question call. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The question features. -/
def qfOut (q : Vec F S512x128 .f32) (g b : Vec F S1x128 .f32) (W : Vec F S128x128 .f32) (c t : Vec F S1x128 .f32) : Vec F S512x128 .f32 :=
  k0_pay1 (k0_pay2 q g b W c) t

set_option maxHeartbeats 1600000 in
/-- The question call: it leaves the question features. -/
theorem qf_triple (c : Dev nD) (arg0 : Memref sig .tc .vmem S512x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole)
    (x0 : Vec F S512x128 .f32) (x1 : Vec F S1x128 .f32) (x2 : Vec F S1x128 .f32) (x3 : Vec F S128x128 .f32) (x4 : Vec F S1x128 .f32) (x5 : Vec F S1x128 .f32) (d6 : Vec F S512x128 .f32)
     (E : Set ℕ) (K : PUnit → sProp 𝕄) :
    iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare d6 ∗
      (iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare (qfOut x0 x1 x2 x3 x4 x5)) -∗ K ⟨⟩))
    ⊢ wp frame (wpE (defs₀ (F := F)) Variants.none c none) E (cc0__qf_kernel arg0 harg0 arg1 harg1 arg2 harg2 arg3 harg3 arg4 harg4 arg5 harg5 arg6 harg6) K := by
  simp only [cc0__qf_kernel_eq_skeleton]; unfold cc0__qf_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  have e0 := harg0.eq_unread hf0; subst e0; have e1 := harg1.eq_unread hf1; subst e1; have e2 := harg2.eq_unread hf2; subst e2; have e3 := harg3.eq_unread hf3; subst e3; have e4 := harg4.eq_unread hf4; subst e4; have e5 := harg5.eq_unread hf5; subst e5; have e6 := harg6.eq_unread hf6; subst e6
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H6
    ipureintro;
    sl_unfold_run_names
    simp only [qfOut, readAt_load, read_store, readCov_load, View.writes_nil, Memref.IsWhole.read_unread, window_all2, window_all3, put_all2]
    first | done | rfl | exact put_halves _ _ _ _

end Cert.KernelIdeal.Run

end
-- ==== Proof.IdealRun.QfRegion.lean ====
module

public import proofs.«01_k».proof.Proof.IdealRun.QfBody
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions

/-! Call 0: what its windows hold, point by point, and its body at any point. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, of the array as the call finds it. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the call's windows hold, point by point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => qfOut (blk0 V c 0 t) (blk0 V c 1 t) (blk0 V c 2 t) (blk0 V c 3 t) (blk0 V c 4 t) (blk0 V c 5 t)
  Φ _ := Pipeline.scopedRest spec0 c
  q _ := fullShare
  owed _ := 0

theorem dat0_A (c : Dev nD) (w : Fin cfg0.W) : (dat0 V c).A w = V c (Pipeline.arrRef spec0 w) := by dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = qfOut (blk0 V c 0 t) (blk0 V c 1 t) (blk0 V c 2 t) (blk0 V c 3 t) (blk0 V c 4 t) (blk0 V c 5 t) := by dsimp only [dat0]

/-! An input's staging buffer holds its block at every point. -/

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf; rw [dat0_A]; try rfl) t d).trans
    (by unfold Dat.fetched Dat.blockOf; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf; rw [dat0_A]; try rfl) t d).trans
    (by unfold Dat.fetched Dat.blockOf; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf; rw [dat0_A]; try rfl) t d).trans
    (by unfold Dat.fetched Dat.blockOf; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf; rw [dat0_A]; try rfl) t d).trans
    (by unfold Dat.fetched Dat.blockOf; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf; rw [dat0_A]; try rfl) t d).trans
    (by unfold Dat.fetched Dat.blockOf; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf; rw [dat0_A]; try rfl) t d).trans
    (by unfold Dat.fetched Dat.blockOf; rw [dat0_A]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point of the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (qf_triple c _ _ _ _ _ _ _ _ _ _ _ _ _ _
    (blk0 V c 0 t) (blk0 V c 1 t) (blk0 V c 2 t) (blk0 V c 3 t) (blk0 V c 4 t) (blk0 V c 5 t)
    ((dat0 V c).before 6 t d6)   Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.IdealRun.FwdBody.lean ====
module

public import proofs.«01_k».proof.Proof.IdealRun.Words

/-! One grid point of the forward call. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The gathered question features of a block: from the window when the block's graphs fit in it, from the whole table otherwise. -/
def fwdGath (w1 w2 : BitVec 32) (eb : Vec F S1x1x2000 .i32) (tab : Vec F S640x128 .f32) : FVec F S2000x128 .f32 :=
  if h : k1_chk1 w1 w2 ∧ k1_cond1 w1 w2 = 1#1 then k1_pay13 (F := F) w1 eb (VecWindow.window tab (k1_off2 w1) S128x128.size (h.1.1 h.2))
  else k1_pay14 eb (VecWindow.window tab ![0, 0] S512x128.size inb_S640x128_S512x128_0_0)

/-- The second layer before its bias. -/
def fwdPre (w1 w2 : BitVec 32) (et : Vec F S2000x128 .f32) (eb ord : Vec F S1x1x2000 .i32) (tab : Vec F S640x128 .f32) (emb : Vec F S16x128 .f32)
    (g1 b1 : Vec F S1x128 .f32) (W1 : Vec F S128x128 .f32) (c1 g2 b2 : Vec F S1x128 .f32) (W2 : Vec F S128x128 .f32) : FVec F S2000x128 .f32 :=
  k1_pay18 (k1_pay17 (k1_pay15 ord) k1_pay16 et emb (fwdGath w1 w2 eb tab) g1 b1) W1 c1 g2 b2 W2

/-- The block of edge features. -/
def fwdX (pre : FVec F S2000x128 .f32) (c2 : Vec F S1x128 .f32) : FVec F S2000x128 .f32 := k1_pay1 pre c2

/-- The segment sums `z` with a block's masked features added. -/
def fwdSum (w1 w2 : BitVec 32) (eb mask : Vec F S1x1x2000 .i32) (pre : FVec F S2000x128 .f32) (c2 : Vec F S1x128 .f32) (z : Vec F S640x128 .f32) : Vec F S640x128 .f32 :=
  if h : k1_chk1 w1 w2 ∧ k1_cond1 w1 w2 = 1#1 then
    VecWindow.put z (k1_off3 w1) S128x128.size (k1_pay7 (lane w1) (k1_pay12 eb) pre c2 mask (VecWindow.window z (k1_off3 w1) S128x128.size (h.1.2.1 h.2)))
  else VecWindow.put z ![0, 0] S512x128.size (k1_pay10 (k1_pay12 eb) pre c2 mask (VecWindow.window z ![0, 0] S512x128.size inb_S640x128_S512x128_0_0))

/-- The segment counts `z` with a block's mask added. -/
def fwdCnt (w1 w2 : BitVec 32) (eb mask : Vec F S1x1x2000 .i32) (z : Vec F S640x1 .f32) : Vec F S640x1 .f32 :=
  if h : k1_chk1 w1 w2 ∧ k1_cond1 w1 w2 = 1#1 then
    VecWindow.put z (k1_off4 w1) S128x1.size (k1_pay8 (lane w1) (k1_pay12 eb) mask (VecWindow.window z (k1_off4 w1) S128x1.size (h.1.2.2 h.2)))
  else VecWindow.put z ![0, 0] S512x1.size (k1_pay11 (k1_pay12 eb) mask (VecWindow.window z ![0, 0] S512x1.size inb_S640x1_S512x1_0_0))

/-- The word a grid point reads off a row of words. -/
theorem fwd_word (i : grid1.Coords) (arg : Memref sig .tc .smem S160 .i32) (harg : arg.IsWhole) (x : Vec F S160 .i32) :
    View.readAt (Elt F) arg.view (Rect.unit (s := S160) (k1_off1 i) S1.size (k1_off1_inb i)).toLoadRect (harg.unread x) (Shape.Idx.first (numel1_S1.symm ▸ Nat.one_pos))
      = wordAt x (i 0) := by
  simp only [View.readAt_apply, Memref.IsWhole.read_unread]
  refine congrArg x (funext fun a => Fin.ext ?_)
  have : a = 0 := Subsingleton.elim _ _
  subst this
  have h := congrFun (k1_off1_eq i) 0
  show k1_off1 i 0 + 1 * 0 = (i 0).val
  simpa using h

set_option maxHeartbeats 1600000 in
/-- One grid point of the forward call: from the blocks of its operands it leaves the block of edge features, and the two accumulators with the
    block's contribution added. -/
theorem fwd_triple (c : Dev nD) (i : grid1.Coords) (arg1 : Memref sig .tc .smem S160 .i32) (harg1 : arg1.IsWhole) (arg2 : Memref sig .tc .smem S160 .i32) (harg2 : arg2.IsWhole) (arg3 : Memref sig .tc .vmem S2000x128 .f32) (harg3 : arg3.IsWhole) (arg4 : Memref sig .tc .vmem S1x1x2000 .i32) (harg4 : arg4.IsWhole) (arg5 : Memref sig .tc .vmem S1x1x2000 .i32) (harg5 : arg5.IsWhole) (arg6 : Memref sig .tc .vmem S1x1x2000 .i32) (harg6 : arg6.IsWhole) (arg7 : Memref sig .tc .vmem S640x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S2000x128 .f32) (harg17 : arg17.IsWhole) (arg18 : Memref sig .tc .vmem S640x128 .f32) (harg18 : arg18.IsWhole) (arg19 : Memref sig .tc .vmem S640x1 .f32) (harg19 : arg19.IsWhole) (arg20 : Memref sig .tc .vmem S2000x128 .f32) (harg20 : arg20.IsWhole)
    (x0 : Vec F S160 .i32) (x1 : Vec F S160 .i32) (x2 : Vec F S2000x128 .f32) (x3 : Vec F S1x1x2000 .i32) (x4 : Vec F S1x1x2000 .i32) (x5 : Vec F S1x1x2000 .i32) (x6 : Vec F S640x128 .f32) (x7 : Vec F S16x128 .f32) (x8 : Vec F S1x128 .f32) (x9 : Vec F S1x128 .f32) (x10 : Vec F S128x128 .f32) (x11 : Vec F S1x128 .f32) (x12 : Vec F S1x128 .f32) (x13 : Vec F S1x128 .f32) (x14 : Vec F S128x128 .f32) (x15 : Vec F S1x128 .f32) (d16 : Vec F S2000x128 .f32) (d17 : Vec F S640x128 .f32) (d18 : Vec F S640x1 .f32) (d19 : Vec F S2000x128 .f32)
    (hchk : k1_chk1 (wordAt x0 (i 0)) (wordAt x1 (i 0))) (E : Set ℕ) (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg5 fullShare x4 ∗
      owns (c : Thread nD τ) arg6 fullShare x5 ∗
      owns (c : Thread nD τ) arg7 fullShare x6 ∗
      owns (c : Thread nD τ) arg8 fullShare x7 ∗
      owns (c : Thread nD τ) arg9 fullShare x8 ∗
      owns (c : Thread nD τ) arg10 fullShare x9 ∗
      owns (c : Thread nD τ) arg11 fullShare x10 ∗
      owns (c : Thread nD τ) arg12 fullShare x11 ∗
      owns (c : Thread nD τ) arg13 fullShare x12 ∗
      owns (c : Thread nD τ) arg14 fullShare x13 ∗
      owns (c : Thread nD τ) arg15 fullShare x14 ∗
      owns (c : Thread nD τ) arg16 fullShare x15 ∗
      owns (c : Thread nD τ) arg17 fullShare d16 ∗
      owns (c : Thread nD τ) arg18 fullShare d17 ∗
      owns (c : Thread nD τ) arg19 fullShare d18 ∗
      owns (c : Thread nD τ) arg20 fullShare d19 ∗
      (iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg5 fullShare x4 ∗
      owns (c : Thread nD τ) arg6 fullShare x5 ∗
      owns (c : Thread nD τ) arg7 fullShare x6 ∗
      owns (c : Thread nD τ) arg8 fullShare x7 ∗
      owns (c : Thread nD τ) arg9 fullShare x8 ∗
      owns (c : Thread nD τ) arg10 fullShare x9 ∗
      owns (c : Thread nD τ) arg11 fullShare x10 ∗
      owns (c : Thread nD τ) arg12 fullShare x11 ∗
      owns (c : Thread nD τ) arg13 fullShare x12 ∗
      owns (c : Thread nD τ) arg14 fullShare x13 ∗
      owns (c : Thread nD τ) arg15 fullShare x14 ∗
      owns (c : Thread nD τ) arg16 fullShare x15 ∗
      owns (c : Thread nD τ) arg17 fullShare (fwdX (fwdPre (wordAt x0 (i 0)) (wordAt x1 (i 0)) x2 x3 x4 x6 x7 x8 x9 x10 x11 x12 x13 x14) x15) ∗
      owns (c : Thread nD τ) arg18 fullShare (fwdSum (wordAt x0 (i 0)) (wordAt x1 (i 0)) x3 x5 (fwdPre (wordAt x0 (i 0)) (wordAt x1 (i 0)) x2 x3 x4 x6 x7 x8 x9 x10 x11 x12 x13 x14) x15 (if (i 0).val = 0 then k1_pay4 else d17)) ∗
      owns (c : Thread nD τ) arg19 fullShare (fwdCnt (wordAt x0 (i 0)) (wordAt x1 (i 0)) x3 x5 (if (i 0).val = 0 then k1_pay5 else d18)) ∗
      (∃ y, owns (c : Thread nD τ) arg20 fullShare y)) -∗ K ⟨⟩))
    ⊢ wp frame (wpE (defs₀ (F := F)) Variants.none c none) E (cc1__edge_fwd_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  have hw1 : (View.readAt (Elt F) arg1.view (Rect.unit (s := S160) (k1_off1 i) S1.size (k1_off1_inb i)).toLoadRect (harg1.unread x0) (Shape.Idx.first (numel1_S1.symm ▸ Nat.one_pos))) = wordAt x0 (i 0) := fwd_word i arg1 harg1 x0
  have hw2 : (View.readAt (Elt F) arg2.view (Rect.unit (s := S160) (k1_off1 i) S1.size (k1_off1_inb i)).toLoadRect (harg2.unread x1) (Shape.Idx.first (numel1_S1.symm ▸ Nat.one_pos))) = wordAt x1 (i 0) := fwd_word i arg2 harg2 x1
  have hc : k1_chk1 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) := by rw [hw1, hw2]; exact hchk
  simp only [cc1__edge_fwd_kernel_eq_skeleton]; unfold cc1__edge_fwd_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  have e0 := harg1.eq_unread hf0; subst e0; have e1 := harg2.eq_unread hf1; subst e1; have e2 := harg3.eq_unread hf2; subst e2; have e3 := harg4.eq_unread hf3; subst e3; have e4 := harg5.eq_unread hf4; subst e4; have e5 := harg6.eq_unread hf5; subst e5; have e6 := harg7.eq_unread hf6; subst e6; have e7 := harg8.eq_unread hf7; subst e7; have e8 := harg9.eq_unread hf8; subst e8; have e9 := harg10.eq_unread hf9; subst e9; have e10 := harg11.eq_unread hf10; subst e10; have e11 := harg12.eq_unread hf11; subst e11; have e12 := harg13.eq_unread hf12; subst e12; have e13 := harg14.eq_unread hf13; subst e13; have e14 := harg15.eq_unread hf14; subst e14; have e15 := harg16.eq_unread hf15; subst e15; have e16 := harg17.eq_unread hf16; subst e16; have e17 := harg18.eq_unread hf17; subst e17; have e18 := harg19.eq_unread hf18; subst e18; have e19 := harg20.eq_unread hf19; subst e19
  by_cases hf : (i 0).val = 0 <;> by_cases hn : k1_cond1 (wordAt x0 (i 0)) (wordAt x1 (i 0)) = 1#1
  · have h1 : (k1_cond1 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by rw [hw1, hw2]; exact hn
    have h2 : ¬ (wideBit (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : k1_chk1 (wordAt x0 (i 0)) (wordAt x1 (i 0)) ∧ k1_cond1 (wordAt x0 (i 0)) (wordAt x1 (i 0)) = 1#1 := ⟨hchk, hn⟩
    have h4 : (k1_cond4 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := h1
    have h3 : (firstBit (i 0).val = 1#1) := (firstBit_iff (i 0)).mpr hf
    sl_exec (disch := first | sl_exact hc | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro;
      sl_unfold_run_names
      revert hc h1 h2 h4
      rw [hw1, hw2]
      intro hc h1 h2 h4
      simp only [fwdX, fwdPre, fwdGath, fwdSum, fwdCnt, dif_pos hh, if_pos hf, readAt_load, read_store, readCov_load, View.writes_nil, Memref.IsWhole.read_unread, window_all2, window_all3, put_all2]
      try rfl
    isplitl [H17]
    · iexists _; isplitr; swap; · iexact H17
      ipureintro;
      sl_unfold_run_names
      revert hc h1 h2 h4
      rw [hw1, hw2]
      intro hc h1 h2 h4
      simp only [fwdX, fwdPre, fwdGath, fwdSum, fwdCnt, dif_pos hh, if_pos hf, readAt_load, read_store, readCov_load, View.writes_nil, Memref.IsWhole.read_unread, window_all2, window_all3, put_all2]
      try rfl
    isplitl [H18]
    · iexists _; isplitr; swap; · iexact H18
      ipureintro;
      sl_unfold_run_names
      revert hc h1 h2 h4
      rw [hw1, hw2]
      intro hc h1 h2 h4
      simp only [fwdX, fwdPre, fwdGath, fwdSum, fwdCnt, dif_pos hh, if_pos hf, readAt_load, read_store, readCov_load, View.writes_nil, Memref.IsWhole.read_unread, window_all2, window_all3, put_all2]
      try rfl
    iexists _; iexists _; isplitr; swap; · iexact H19
    ipureintro; rfl
  · have h1 : ¬ (k1_cond1 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by rw [hw1, hw2]; exact hn
    have h2 : (wideBit (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : ¬ (k1_chk1 (wordAt x0 (i 0)) (wordAt x1 (i 0)) ∧ k1_cond1 (wordAt x0 (i 0)) (wordAt x1 (i 0)) = 1#1) := fun h => hn h.2
    have h4 : ¬ (k1_cond4 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := h1
    have h3 : (firstBit (i 0).val = 1#1) := (firstBit_iff (i 0)).mpr hf
    sl_exec (disch := first | sl_exact hc | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro;
      sl_unfold_run_names
      revert hc h1 h2 h4
      rw [hw1, hw2]
      intro hc h1 h2 h4
      simp only [fwdX, fwdPre, fwdGath, fwdSum, fwdCnt, dif_neg hh, if_pos hf, readAt_load, read_store, readCov_load, View.writes_nil, Memref.IsWhole.read_unread, window_all2, window_all3, put_all2]
      try rfl
    isplitl [H17]
    · iexists _; isplitr; swap; · iexact H17
      ipureintro;
      sl_unfold_run_names
      revert hc h1 h2 h4
      rw [hw1, hw2]
      intro hc h1 h2 h4
      simp only [fwdX, fwdPre, fwdGath, fwdSum, fwdCnt, dif_neg hh, if_pos hf, readAt_load, read_store, readCov_load, View.writes_nil, Memref.IsWhole.read_unread, window_all2, window_all3, put_all2]
      try rfl
    isplitl [H18]
    · iexists _; isplitr; swap; · iexact H18
      ipureintro;
      sl_unfold_run_names
      revert hc h1 h2 h4
      rw [hw1, hw2]
      intro hc h1 h2 h4
      simp only [fwdX, fwdPre, fwdGath, fwdSum, fwdCnt, dif_neg hh, if_pos hf, readAt_load, read_store, readCov_load, View.writes_nil, Memref.IsWhole.read_unread, window_all2, window_all3, put_all2]
      try rfl
    iexists _; iexists _; isplitr; swap; · iexact H19
    ipureintro; rfl
  · have h1 : (k1_cond1 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by rw [hw1, hw2]; exact hn
    have h2 : ¬ (wideBit (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : k1_chk1 (wordAt x0 (i 0)) (wordAt x1 (i 0)) ∧ k1_cond1 (wordAt x0 (i 0)) (wordAt x1 (i 0)) = 1#1 := ⟨hchk, hn⟩
    have h4 : (k1_cond4 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := h1
    have h3 : ¬ (firstBit (i 0).val = 1#1) := fun h => hf ((firstBit_iff (i 0)).mp h)
    sl_exec (disch := first | sl_exact hc | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro;
      sl_unfold_run_names
      revert hc h1 h2 h4
      rw [hw1, hw2]
      intro hc h1 h2 h4
      simp only [fwdX, fwdPre, fwdGath, fwdSum, fwdCnt, dif_pos hh, if_neg hf, readAt_load, read_store, readCov_load, View.writes_nil, Memref.IsWhole.read_unread, window_all2, window_all3, put_all2]
      try rfl
    isplitl [H17]
    · iexists _; isplitr; swap; · iexact H17
      ipureintro;
      sl_unfold_run_names
      revert hc h1 h2 h4
      rw [hw1, hw2]
      intro hc h1 h2 h4
      simp only [fwdX, fwdPre, fwdGath, fwdSum, fwdCnt, dif_pos hh, if_neg hf, readAt_load, read_store, readCov_load, View.writes_nil, Memref.IsWhole.read_unread, window_all2, window_all3, put_all2]
      try rfl
    isplitl [H18]
    · iexists _; isplitr; swap; · iexact H18
      ipureintro;
      sl_unfold_run_names
      revert hc h1 h2 h4
      rw [hw1, hw2]
      intro hc h1 h2 h4
      simp only [fwdX, fwdPre, fwdGath, fwdSum, fwdCnt, dif_pos hh, if_neg hf, readAt_load, read_store, readCov_load, View.writes_nil, Memref.IsWhole.read_unread, window_all2, window_all3, put_all2]
      try rfl
    iexists _; iexists _; isplitr; swap; · iexact H19
    ipureintro; rfl
  · have h1 : ¬ (k1_cond1 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by rw [hw1, hw2]; exact hn
    have h2 : (wideBit (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : ¬ (k1_chk1 (wordAt x0 (i 0)) (wordAt x1 (i 0)) ∧ k1_cond1 (wordAt x0 (i 0)) (wordAt x1 (i 0)) = 1#1) := fun h => hn h.2
    have h4 : ¬ (k1_cond4 (View.readAt (Elt F) arg1.view (Rect.unit (s := S160) (k1_off1 i) S1.size (k1_off1_inb i)).toLoadRect (harg1.unread x0) (Shape.Idx.first (numel1_S1.symm ▸ Nat.one_pos))) (View.readAt (Elt F) arg2.view (Rect.unit (s := S160) (k1_off1 i) S1.size (k1_off1_inb i)).toLoadRect (harg2.unread x1) (Shape.Idx.first (numel1_S1.symm ▸ Nat.one_pos))) = 1#1) := h1
    have h3 : ¬ (firstBit (i 0).val = 1#1) := fun h => hf ((firstBit_iff (i 0)).mp h)
    sl_exec (disch := first | sl_exact hc | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro;
      sl_unfold_run_names
      revert hc h1 h2 h4
      rw [hw1, hw2]
      intro hc h1 h2 h4
      simp only [fwdX, fwdPre, fwdGath, fwdSum, fwdCnt, dif_neg hh, if_neg hf, readAt_load, read_store, readCov_load, View.writes_nil, Memref.IsWhole.read_unread, window_all2, window_all3, put_all2]
      try rfl
    isplitl [H17]
    · iexists _; isplitr; swap; · iexact H17
      ipureintro;
      sl_unfold_run_names
      revert hc h1 h2 h4
      rw [hw1, hw2]
      intro hc h1 h2 h4
      simp only [fwdX, fwdPre, fwdGath, fwdSum, fwdCnt, dif_neg hh, if_neg hf, readAt_load, read_store, readCov_load, View.writes_nil, Memref.IsWhole.read_unread, window_all2, window_all3, put_all2]
      try rfl
    isplitl [H18]
    · iexists _; isplitr; swap; · iexact H18
      ipureintro;
      sl_unfold_run_names
      revert hc h1 h2 h4
      rw [hw1, hw2]
      intro hc h1 h2 h4
      simp only [fwdX, fwdPre, fwdGath, fwdSum, fwdCnt, dif_neg hh, if_neg hf, readAt_load, read_store, readCov_load, View.writes_nil, Memref.IsWhole.read_unread, window_all2, window_all3, put_all2]
      try rfl
    iexists _; iexists _; isplitr; swap; · iexact H19
    ipureintro; rfl

end Cert.KernelIdeal.Run

end
-- ==== Proof.IdealRun.FwdRegion.lean ====
module

public import proofs.«01_k».proof.Proof.IdealRun.FwdBody
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions

/-! Call 1: what its windows hold, point by point, and its body at any point. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, of the array as the call finds it. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second layer before its bias, at point `t`. -/
abbrev preAt (c : Dev nD) (t : Fin cfg1.N) : FVec F S2000x128 .f32 :=
  fwdPre (wordAt (blk1 V c 0 t) (grid1.coords t 0)) (wordAt (blk1 V c 1 t) (grid1.coords t 0)) (blk1 V c 2 t) (blk1 V c 3 t) (blk1 V c 4 t) (blk1 V c 6 t) (blk1 V c 7 t) (blk1 V c 8 t) (blk1 V c 9 t) (blk1 V c 10 t) (blk1 V c 11 t) (blk1 V c 12 t) (blk1 V c 13 t) (blk1 V c 14 t)

/-- The segment sums, and the counts, after the first `n` points. -/
def ssumAt (c : Dev nD) : ℕ → Vec F S640x128 .f32
  | 0 => k1_pay4
  | n + 1 => if h : n < cfg1.N then (fun t : Fin cfg1.N => fwdSum (wordAt (blk1 V c 0 t) (grid1.coords t 0)) (wordAt (blk1 V c 1 t) (grid1.coords t 0)) (blk1 V c 3 t) (blk1 V c 5 t) (preAt V c t) (blk1 V c 15 t) (ssumAt c n)) ⟨n, h⟩ else ssumAt c n

def cntAt (c : Dev nD) : ℕ → Vec F S640x1 .f32
  | 0 => k1_pay5
  | n + 1 => if h : n < cfg1.N then (fun t : Fin cfg1.N => fwdCnt (wordAt (blk1 V c 0 t) (grid1.coords t 0)) (wordAt (blk1 V c 1 t) (grid1.coords t 0)) (blk1 V c 3 t) (blk1 V c 5 t) (cntAt c n)) ⟨n, h⟩ else cntAt c n

/-- The point's number is its coordinate. -/
theorem coord1 (t : Fin cfg1.N) : (grid1.coords t 0).val = t.val := by
  have ht : t.val < 160 := Nat.lt_of_lt_of_eq t.isLt N_1
  have e0 : (grid1.coords t 0).val = t.val / 1 % 160 := Pipeline.Grid.coords_val t 0 (by decide) rfl
  rw [e0]; omega

theorem ssumAt_step (c : Dev nD) (t : Fin cfg1.N) (d : Vec F S640x128 .f32) : ssumAt V c (t.val + 1)
    = fwdSum (wordAt (blk1 V c 0 t) (grid1.coords t 0)) (wordAt (blk1 V c 1 t) (grid1.coords t 0)) (blk1 V c 3 t) (blk1 V c 5 t) (preAt V c t) (blk1 V c 15 t)
      (if (grid1.coords t 0).val = 0 then k1_pay4 else (if t.val = 0 then d else ssumAt V c t.val)) := by
  have h : ssumAt V c (t.val + 1) = fwdSum (wordAt (blk1 V c 0 t) (grid1.coords t 0)) (wordAt (blk1 V c 1 t) (grid1.coords t 0)) (blk1 V c 3 t) (blk1 V c 5 t) (preAt V c t) (blk1 V c 15 t) (ssumAt V c t.val) := dif_pos t.isLt
  rw [h]
  refine congrArg _ ?_
  by_cases h0 : t.val = 0
  · rw [if_pos ((coord1 t).trans h0), h0]; rfl
  · rw [if_neg (by rw [coord1]; exact h0), if_neg h0]

theorem cntAt_step (c : Dev nD) (t : Fin cfg1.N) (d : Vec F S640x1 .f32) : cntAt V c (t.val + 1)
    = fwdCnt (wordAt (blk1 V c 0 t) (grid1.coords t 0)) (wordAt (blk1 V c 1 t) (grid1.coords t 0)) (blk1 V c 3 t) (blk1 V c 5 t)
      (if (grid1.coords t 0).val = 0 then k1_pay5 else (if t.val = 0 then d else cntAt V c t.val)) := by
  have h : cntAt V c (t.val + 1) = fwdCnt (wordAt (blk1 V c 0 t) (grid1.coords t 0)) (wordAt (blk1 V c 1 t) (grid1.coords t 0)) (blk1 V c 3 t) (blk1 V c 5 t) (cntAt V c t.val) := dif_pos t.isLt
  rw [h]
  refine congrArg _ ?_
  by_cases h0 : t.val = 0
  · rw [if_pos ((coord1 t).trans h0), h0]; rfl
  · rw [if_neg (by rw [coord1]; exact h0), if_neg h0]

/-- What the call's windows hold, point by point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => blk1 V c 14 t
    | ⟨15, _⟩ => blk1 V c 15 t
    | ⟨16, _⟩ => fwdX (preAt V c t) (blk1 V c 15 t)
    | ⟨17, _⟩ => ssumAt V c (t.val + 1)
    | ⟨18, _⟩ => cntAt V c (t.val + 1)
    | ⟨n + 19, h⟩ => absurd h (Nat.not_lt.2 (Nat.le_add_left _ _))
  Φ _ := Pipeline.scopedRest spec1 c
  q _ := fullShare
  owed _ := 0

theorem dat1_A (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = blk1 V c 10 t := by dsimp only [dat1]
theorem after1_11 (c : Dev nD) (t : Fin cfg1.N) : (dat1 V c).after 11 t = blk1 V c 11 t := by dsimp only [dat1]
theorem after1_12 (c : Dev nD) (t : Fin cfg1.N) : (dat1 V c).after 12 t = blk1 V c 12 t := by dsimp only [dat1]
theorem after1_13 (c : Dev nD) (t : Fin cfg1.N) : (dat1 V c).after 13 t = blk1 V c 13 t := by dsimp only [dat1]
theorem after1_14 (c : Dev nD) (t : Fin cfg1.N) : (dat1 V c).after 14 t = blk1 V c 14 t := by dsimp only [dat1]
theorem after1_15 (c : Dev nD) (t : Fin cfg1.N) : (dat1 V c).after 15 t = blk1 V c 15 t := by dsimp only [dat1]
theorem after1_16 (c : Dev nD) (t : Fin cfg1.N) : (dat1 V c).after 16 t = fwdX (preAt V c t) (blk1 V c 15 t) := by dsimp only [dat1]
theorem after1_17 (c : Dev nD) (t : Fin cfg1.N) : (dat1 V c).after 17 t = ssumAt V c (t.val + 1) := by dsimp only [dat1]
theorem after1_18 (c : Dev nD) (t : Fin cfg1.N) : (dat1 V c).after 18 t = cntAt V c (t.val + 1) := by dsimp only [dat1]

/-! An input's staging buffer holds its block at every point. -/

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf; rw [dat1_A]; try rfl) t d).trans
    (by unfold Dat.fetched Dat.blockOf; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf; rw [dat1_A]; try rfl) t d).trans
    (by unfold Dat.fetched Dat.blockOf; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf; rw [dat1_A]; try rfl) t d).trans
    (by unfold Dat.fetched Dat.blockOf; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf; rw [dat1_A]; try rfl) t d).trans
    (by unfold Dat.fetched Dat.blockOf; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf; rw [dat1_A]; try rfl) t d).trans
    (by unfold Dat.fetched Dat.blockOf; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf; rw [dat1_A]; try rfl) t d).trans
    (by unfold Dat.fetched Dat.blockOf; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf; rw [dat1_A]; try rfl) t d).trans
    (by unfold Dat.fetched Dat.blockOf; rw [dat1_A]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf; rw [dat1_A]; try rfl) t d).trans
    (by unfold Dat.fetched Dat.blockOf; rw [dat1_A]; try rfl)
theorem before1_8 (c : Dev nD) (t : Fin cfg1.N) (d) : (dat1 V c).before 8 t d = blk1 V c 8 t :=
  ((dat1 V c).before_in_eq_fetched 8 rfl (fun _ => rfl) (fun _ _ _ => rfl) (fun t => by rw [after1_8]; unfold Dat.blockOf; rw [dat1_A]; try rfl) t d).trans
    (by unfold Dat.fetched Dat.blockOf; rw [dat1_A]; try rfl)
theorem before1_9 (c : Dev nD) (t : Fin cfg1.N) (d) : (dat1 V c).before 9 t d = blk1 V c 9 t :=
  ((dat1 V c).before_in_eq_fetched 9 rfl (fun _ => rfl) (fun _ _ _ => rfl) (fun t => by rw [after1_9]; unfold Dat.blockOf; rw [dat1_A]; try rfl) t d).trans
    (by unfold Dat.fetched Dat.blockOf; rw [dat1_A]; try rfl)
theorem before1_10 (c : Dev nD) (t : Fin cfg1.N) (d) : (dat1 V c).before 10 t d = blk1 V c 10 t :=
  ((dat1 V c).before_in_eq_fetched 10 rfl (fun _ => rfl) (fun _ _ _ => rfl) (fun t => by rw [after1_10]; unfold Dat.blockOf; rw [dat1_A]; try rfl) t d).trans
    (by unfold Dat.fetched Dat.blockOf; rw [dat1_A]; try rfl)
theorem before1_11 (c : Dev nD) (t : Fin cfg1.N) (d) : (dat1 V c).before 11 t d = blk1 V c 11 t :=
  ((dat1 V c).before_in_eq_fetched 11 rfl (fun _ => rfl) (fun _ _ _ => rfl) (fun t => by rw [after1_11]; unfold Dat.blockOf; rw [dat1_A]; try rfl) t d).trans
    (by unfold Dat.fetched Dat.blockOf; rw [dat1_A]; try rfl)
theorem before1_12 (c : Dev nD) (t : Fin cfg1.N) (d) : (dat1 V c).before 12 t d = blk1 V c 12 t :=
  ((dat1 V c).before_in_eq_fetched 12 rfl (fun _ => rfl) (fun _ _ _ => rfl) (fun t => by rw [after1_12]; unfold Dat.blockOf; rw [dat1_A]; try rfl) t d).trans
    (by unfold Dat.fetched Dat.blockOf; rw [dat1_A]; try rfl)
theorem before1_13 (c : Dev nD) (t : Fin cfg1.N) (d) : (dat1 V c).before 13 t d = blk1 V c 13 t :=
  ((dat1 V c).before_in_eq_fetched 13 rfl (fun _ => rfl) (fun _ _ _ => rfl) (fun t => by rw [after1_13]; unfold Dat.blockOf; rw [dat1_A]; try rfl) t d).trans
    (by unfold Dat.fetched Dat.blockOf; rw [dat1_A]; try rfl)
theorem before1_14 (c : Dev nD) (t : Fin cfg1.N) (d) : (dat1 V c).before 14 t d = blk1 V c 14 t :=
  ((dat1 V c).before_in_eq_fetched 14 rfl (fun _ => rfl) (fun _ _ _ => rfl) (fun t => by rw [after1_14]; unfold Dat.blockOf; rw [dat1_A]; try rfl) t d).trans
    (by unfold Dat.fetched Dat.blockOf; rw [dat1_A]; try rfl)
theorem before1_15 (c : Dev nD) (t : Fin cfg1.N) (d) : (dat1 V c).before 15 t d = blk1 V c 15 t :=
  ((dat1 V c).before_in_eq_fetched 15 rfl (fun _ => rfl) (fun _ _ _ => rfl) (fun t => by rw [after1_15]; unfold Dat.blockOf; rw [dat1_A]; try rfl) t d).trans
    (by unfold Dat.fetched Dat.blockOf; rw [dat1_A]; try rfl)

theorem before1_17 (c : Dev nD) (t : Fin cfg1.N) (d) : (dat1 V c).before 17 t d = if t.val = 0 then d else ssumAt V c t.val := by
  by_cases h : t.val = 0
  · rw [if_pos h]; exact (dat1 V c).before_out_reset 17 rfl t (.inl h) d
  · rw [if_neg h]
    have hN : t.val < 160 := lt_of_lt_of_eq t.isLt N_1
    have hfl : (cfg1.win 17).flush ⟨t.val - 1, Nat.lt_of_le_of_lt (Nat.sub_le _ _) t.isLt⟩ = false := by
      rw [← Bool.not_eq_true, flush1_17]; show ¬ (t.val - 1) % 160 = 159; omega
    refine ((dat1 V c).before_out_kept 17 rfl t h hfl (fun _ => rfl) (fun _ _ => rfl) d).trans ?_
    rw [after1_17]
    show ssumAt V c (t.val - 1 + 1) = _
    rw [Nat.sub_add_cancel (Nat.one_le_iff_ne_zero.mpr h)]

theorem before1_18 (c : Dev nD) (t : Fin cfg1.N) (d) : (dat1 V c).before 18 t d = if t.val = 0 then d else cntAt V c t.val := by
  by_cases h : t.val = 0
  · rw [if_pos h]; exact (dat1 V c).before_out_reset 18 rfl t (.inl h) d
  · rw [if_neg h]
    have hN : t.val < 160 := lt_of_lt_of_eq t.isLt N_1
    have hfl : (cfg1.win 18).flush ⟨t.val - 1, Nat.lt_of_le_of_lt (Nat.sub_le _ _) t.isLt⟩ = false := by
      rw [← Bool.not_eq_true, flush1_18]; show ¬ (t.val - 1) % 160 = 159; omega
    refine ((dat1 V c).before_out_kept 18 rfl t h hfl (fun _ => rfl) (fun _ _ => rfl) d).trans ?_
    rw [after1_18]
    show cntAt V c (t.val - 1 + 1) = _
    rw [Nat.sub_add_cancel (Nat.one_le_iff_ne_zero.mpr h)]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t))

set_option maxHeartbeats 1600000 in
/-- The body at any point of the call. -/
theorem sound_body1 (hchk : ∀ (c : Dev nD) (t : Fin cfg1.N), k1_chk1 (wordAt (blk1 V c 0 t) (grid1.coords t 0)) (wordAt (blk1 V c 1 t) (grid1.coords t 0))) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_17, before1_18]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  rw [show (dat1 V c).Φ t.castSucc = Pipeline.scopedRest spec1 c from rfl, scopedRest1_split]
  rw [← Memref.IsWhole.exists_owns_eq (c := (c : Thread nD τ)) (Memref.isWhole_whole cc1_scratch0) fullShare]
  iintro ⟨⟨⟨%s0, S0⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (fwd_triple c (grid1.coords t) _ _ _ _ _ _ _ _ _ _ _ _ _ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t)
    ((dat1 V c).before 16 t d16) (if t.val = 0 then d17 else ssumAt V c t.val) (if t.val = 0 then d18 else cntAt V c t.val) s0 (hchk c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [S0]; · iexact S0
  iintro ⟨H0, H1, H2, H3, H4, H5, H6, H7, H8, H9, H10, H11, H12, H13, H14, H15, H16, H17, H18, ⟨%y0, S0⟩⟩
  isplitl [HΦ S0]
  · isplitl [S0]
    · iexists _; iexact S0
    · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · rw [ssumAt_step V c t d17]; iexact H17
  rw [cntAt_step V c t d18]; iexact H18

theorem defs₀_row1 (t : Fin cfg1.N) : defs₀ (F := F) .tc cfg1.body (cfg1.bodyArgs t (cfg1.slots t)) = bodyAt1 t := by
  unfold defs₀; rw [Defs.onTc_tc]

theorem body_obligation1 (hchk : ∀ (c : Dev nD) (t : Fin cfg1.N), k1_chk1 (wordAt (blk1 V c 0 t) (grid1.coords t 0)) (wordAt (blk1 V c 1 t) (grid1.coords t 0))) (c : Dev nD) : BodyObligation (dat1 V c) (defs₀ (F := F)) Variants.none () Set.univ := fun t => by
  rw [bigSep_W1, bigSep_W1, defs₀_row1]
  exact triple_restated (sound_body1 V hchk c t) rfl .rfl fun _ => .rfl

end Cert.KernelIdeal.Run

end
-- ==== Proof.IdealRun.GraphBody.lean ====
module

public import proofs.«01_k».proof.Proof.IdealRun.Words

/-! The graph call. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first 512 rows of the sums, and of the counts. -/
abbrev topRows (z : Vec F S640x128 .f32) : Vec F S512x128 .f32 := VecWindow.window z ![0, 0] S512x128.size inb_S640x128_S512x128_0_0
abbrev topCol (z : Vec F S640x1 .f32) : Vec F S512x1 .f32 := VecWindow.window z ![0, 0] S512x1.size inb_S640x1_S512x1_0_0

/-- Both stores cover: what the rows held does not matter. -/
theorem put_halves {α : Type} {n : ℕ} (z z' : (⟨2, ![640, n]⟩ : Shape).Idx → α) (a : (⟨2, ![512, n]⟩ : Shape).Idx → α) (b : (⟨2, ![128, n]⟩ : Shape).Idx → α) :
    VecWindow.put (VecWindow.put (s := ⟨2, ![640, n]⟩) z ![0, 0] ![512, n] a) ![512, 0] ![128, n] b
      = VecWindow.put (VecWindow.put (s := ⟨2, ![640, n]⟩) z' ![0, 0] ![512, n] a) ![512, 0] ![128, n] b := by
  funext y
  unfold VecWindow.put
  by_cases h : ∀ j, (![512, 0] : Fin 2 → ℕ) j ≤ (y j).val ∧ (y j).val < (![512, 0] : Fin 2 → ℕ) j + (![128, n] : Fin 2 → ℕ) j
  · rw [dif_pos h, dif_pos h]
  · rw [dif_neg h, dif_neg h]
    have h' : ∀ j, (![0, 0] : Fin 2 → ℕ) j ≤ (y j).val ∧ (y j).val < (![0, 0] : Fin 2 → ℕ) j + (![512, n] : Fin 2 → ℕ) j := by
      have h0 : (y 0).val < 640 := (y 0).isLt
      have h1 : (y 1).val < n := (y 1).isLt
      by_contra hc
      apply h
      intro j
      have : ¬ (y 0).val < 512 := fun hl => hc fun j => by fin_cases j <;> simp [hl, h1]
      fin_cases j
      · simp; omega
      · simp [h1]
    rw [dif_pos h', dif_pos h']

/-- The current states. -/
def graphState (ss : Vec F S640x128 .f32) (cn : Vec F S640x1 .f32) (q : Vec F S512x128 .f32) (g b : Vec F S1x128 .f32) : Vec F S512x128 .f32 :=
  k2_pay4 (topRows ss) q (topCol cn) g b

/-- The stop logits. -/
def graphStop (ss : Vec F S640x128 .f32) (cn : Vec F S640x1 .f32) (q : Vec F S512x128 .f32) (g b : Vec F S1x128 .f32) (lg lb : Vec F S1x256 .f32)
    (W1 : Vec F S256x128 .f32) (b1 : Vec F S1x128 .f32) (W2 : Vec F S128x1 .f32) (b2 : Vec F S1x1 .f32) : Vec F S512x1 .f32 :=
  k2_pay1 (k2_pay9 q (graphState ss cn q g b) lg lb) W1 b1 W2 b2

/-- The table of per-graph features. -/
def graphTab (ss : Vec F S640x128 .f32) (cn : Vec F S640x1 .f32) (q : Vec F S512x128 .f32) (g b : Vec F S1x128 .f32) : Vec F S640x256 .f32 :=
  VecWindow.put (VecWindow.put (s := S640x256) (fun _ => Scalar.ofBits .f32 0x00000000#32) ![0, 0] S512x256.size (k2_pay7 (k2_pay2 (topRows ss)) q (graphState ss cn q g b) (k2_pay5 (topCol cn))))
    ![512, 0] S128x256.size k2_pay8

/-- The reciprocals. -/
def graphRecip (cn : Vec F S640x1 .f32) : Vec F S640x1 .f32 :=
  VecWindow.put (VecWindow.put (s := S640x1) (fun _ => Scalar.ofBits .f32 0x00000000#32) ![0, 0] S512x1.size (k2_pay5 (topCol cn))) ![512, 0] S128x1.size k2_pay6

set_option maxHeartbeats 1600000 in
/-- The graph call: it leaves the states, the stop logits, the table of per-graph features and the reciprocals. -/
theorem graph_triple (c : Dev nD) (arg0 : Memref sig .tc .vmem S640x128 .f32) (harg0 : arg0.IsWhole) (arg1 : Memref sig .tc .vmem S640x1 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S512x128 .f32) (harg11 : arg11.IsWhole) (arg12 : Memref sig .tc .vmem S512x1 .f32) (harg12 : arg12.IsWhole) (arg13 : Memref sig .tc .vmem S640x256 .f32) (harg13 : arg13.IsWhole) (arg14 : Memref sig .tc .vmem S640x1 .f32) (harg14 : arg14.IsWhole)
    (x0 : Vec F S640x128 .f32) (x1 : Vec F S640x1 .f32) (x2 : Vec F S512x128 .f32) (x3 : Vec F S1x128 .f32) (x4 : Vec F S1x128 .f32) (x5 : Vec F S1x256 .f32) (x6 : Vec F S1x256 .f32) (x7 : Vec F S256x128 .f32) (x8 : Vec F S1x128 .f32) (x9 : Vec F S128x1 .f32) (x10 : Vec F S1x1 .f32) (d11 : Vec F S512x128 .f32) (d12 : Vec F S512x1 .f32) (d13 : Vec F S640x256 .f32) (d14 : Vec F S640x1 .f32)
     (E : Set ℕ) (K : PUnit → sProp 𝕄) :
    iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare d11 ∗
      owns (c : Thread nD τ) arg12 fullShare d12 ∗
      owns (c : Thread nD τ) arg13 fullShare d13 ∗
      owns (c : Thread nD τ) arg14 fullShare d14 ∗
      (iprop(owns (c : Thread nD τ) arg0 fullShare x0 ∗
      owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare (graphState x0 x1 x2 x3 x4) ∗
      owns (c : Thread nD τ) arg12 fullShare (graphStop x0 x1 x2 x3 x4 x5 x6 x7 x8 x9 x10) ∗
      owns (c : Thread nD τ) arg13 fullShare (graphTab x0 x1 x2 x3 x4) ∗
      owns (c : Thread nD τ) arg14 fullShare (graphRecip x1)) -∗ K ⟨⟩))
    ⊢ wp frame (wpE (defs₀ (F := F)) Variants.none c none) E (cc2__graph_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__graph_kernel_eq_skeleton]; unfold cc2__graph_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  have e0 := harg0.eq_unread hf0; subst e0; have e1 := harg1.eq_unread hf1; subst e1; have e2 := harg2.eq_unread hf2; subst e2; have e3 := harg3.eq_unread hf3; subst e3; have e4 := harg4.eq_unread hf4; subst e4; have e5 := harg5.eq_unread hf5; subst e5; have e6 := harg6.eq_unread hf6; subst e6; have e7 := harg7.eq_unread hf7; subst e7; have e8 := harg8.eq_unread hf8; subst e8; have e9 := harg9.eq_unread hf9; subst e9; have e10 := harg10.eq_unread hf10; subst e10; have e11 := harg11.eq_unread hf11; subst e11; have e12 := harg12.eq_unread hf12; subst e12; have e13 := harg13.eq_unread hf13; subst e13; have e14 := harg14.eq_unread hf14; subst e14
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro;
    sl_unfold_run_names
    simp only [graphState, graphStop, graphTab, graphRecip, topRows, topCol, readAt_load, read_store, readCov_load, View.writes_nil, Memref.IsWhole.read_unread, window_all2, window_all3, put_all2]
    first | done | rfl | exact put_halves _ _ _ _
  isplitl [H12]
  · iexists _; isplitr; swap; · iexact H12
    ipureintro;
    sl_unfold_run_names
    simp only [graphState, graphStop, graphTab, graphRecip, topRows, topCol, readAt_load, read_store, readCov_load, View.writes_nil, Memref.IsWhole.read_unread, window_all2, window_all3, put_all2]
    first | done | rfl | exact put_halves _ _ _ _
  isplitl [H13]
  · iexists _; isplitr; swap; · iexact H13
    ipureintro;
    sl_unfold_run_names
    simp only [graphState, graphStop, graphTab, graphRecip, topRows, topCol, readAt_load, read_store, readCov_load, View.writes_nil, Memref.IsWhole.read_unread, window_all2, window_all3, put_all2]
    first | done | rfl | exact put_halves _ _ _ _
  · iexists _; isplitr; swap; · iexact H14
    ipureintro;
    sl_unfold_run_names
    simp only [graphState, graphStop, graphTab, graphRecip, topRows, topCol, readAt_load, read_store, readCov_load, View.writes_nil, Memref.IsWhole.read_unread, window_all2, window_all3, put_all2]
    first | done | rfl | exact put_halves _ _ _ _

end Cert.KernelIdeal.Run

end
-- ==== Proof.IdealRun.GraphRegion.lean ====
module

public import proofs.«01_k».proof.Proof.IdealRun.GraphBody
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions

/-! Call 2: what its windows hold, point by point, and its body at any point. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, of the array as the call finds it. -/
abbrev blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the call's windows hold, point by point. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => graphState (blk2 V c 0 t) (blk2 V c 1 t) (blk2 V c 2 t) (blk2 V c 3 t) (blk2 V c 4 t)
    | ⟨12, _⟩ => graphStop (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t)
    | ⟨13, _⟩ => graphTab (blk2 V c 0 t) (blk2 V c 1 t) (blk2 V c 2 t) (blk2 V c 3 t) (blk2 V c 4 t)
    | ⟨14, _⟩ => graphRecip (blk2 V c 1 t)
    | ⟨n + 15, h⟩ => absurd h (Nat.not_lt.2 (Nat.le_add_left _ _))
  Φ _ := Pipeline.scopedRest spec2 c
  q _ := fullShare
  owed _ := 0

theorem dat2_A (c : Dev nD) (w : Fin cfg2.W) : (dat2 V c).A w = V c (Pipeline.arrRef spec2 w) := by dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = graphState (blk2 V c 0 t) (blk2 V c 1 t) (blk2 V c 2 t) (blk2 V c 3 t) (blk2 V c 4 t) := by dsimp only [dat2]
theorem after2_12 (c : Dev nD) (t : Fin cfg2.N) : (dat2 V c).after 12 t = graphStop (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) := by dsimp only [dat2]
theorem after2_13 (c : Dev nD) (t : Fin cfg2.N) : (dat2 V c).after 13 t = graphTab (blk2 V c 0 t) (blk2 V c 1 t) (blk2 V c 2 t) (blk2 V c 3 t) (blk2 V c 4 t) := by dsimp only [dat2]
theorem after2_14 (c : Dev nD) (t : Fin cfg2.N) : (dat2 V c).after 14 t = graphRecip (blk2 V c 1 t) := by dsimp only [dat2]

/-! An input's staging buffer holds its block at every point. -/

theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf; rw [dat2_A]; try rfl) t d).trans
    (by unfold Dat.fetched Dat.blockOf; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf; rw [dat2_A]; try rfl) t d).trans
    (by unfold Dat.fetched Dat.blockOf; rw [dat2_A]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf; rw [dat2_A]; try rfl) t d).trans
    (by unfold Dat.fetched Dat.blockOf; rw [dat2_A]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf; rw [dat2_A]; try rfl) t d).trans
    (by unfold Dat.fetched Dat.blockOf; rw [dat2_A]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf; rw [dat2_A]; try rfl) t d).trans
    (by unfold Dat.fetched Dat.blockOf; rw [dat2_A]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf; rw [dat2_A]; try rfl) t d).trans
    (by unfold Dat.fetched Dat.blockOf; rw [dat2_A]; try rfl)
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf; rw [dat2_A]; try rfl) t d).trans
    (by unfold Dat.fetched Dat.blockOf; rw [dat2_A]; try rfl)
theorem before2_7 (c : Dev nD) (t : Fin cfg2.N) (d) : (dat2 V c).before 7 t d = blk2 V c 7 t :=
  ((dat2 V c).before_in_eq_fetched 7 rfl (fun _ => rfl) (fun _ _ _ => rfl) (fun t => by rw [after2_7]; unfold Dat.blockOf; rw [dat2_A]; try rfl) t d).trans
    (by unfold Dat.fetched Dat.blockOf; rw [dat2_A]; try rfl)
theorem before2_8 (c : Dev nD) (t : Fin cfg2.N) (d) : (dat2 V c).before 8 t d = blk2 V c 8 t :=
  ((dat2 V c).before_in_eq_fetched 8 rfl (fun _ => rfl) (fun _ _ _ => rfl) (fun t => by rw [after2_8]; unfold Dat.blockOf; rw [dat2_A]; try rfl) t d).trans
    (by unfold Dat.fetched Dat.blockOf; rw [dat2_A]; try rfl)
theorem before2_9 (c : Dev nD) (t : Fin cfg2.N) (d) : (dat2 V c).before 9 t d = blk2 V c 9 t :=
  ((dat2 V c).before_in_eq_fetched 9 rfl (fun _ => rfl) (fun _ _ _ => rfl) (fun t => by rw [after2_9]; unfold Dat.blockOf; rw [dat2_A]; try rfl) t d).trans
    (by unfold Dat.fetched Dat.blockOf; rw [dat2_A]; try rfl)
theorem before2_10 (c : Dev nD) (t : Fin cfg2.N) (d) : (dat2 V c).before 10 t d = blk2 V c 10 t :=
  ((dat2 V c).before_in_eq_fetched 10 rfl (fun _ => rfl) (fun _ _ _ => rfl) (fun t => by rw [after2_10]; unfold Dat.blockOf; rw [dat2_A]; try rfl) t d).trans
    (by unfold Dat.fetched Dat.blockOf; rw [dat2_A]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

set_option maxHeartbeats 1600000 in
/-- The body at any point of the call. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (graph_triple c _ _ _ _ _ _ _ _ _ _ _ _ _ _ _ _ _ _ _ _ _ _ _ _ _ _ _ _ _ _
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t)
    ((dat2 V c).before 11 t d11) ((dat2 V c).before 12 t d12) ((dat2 V c).before 13 t d13) ((dat2 V c).before 14 t d14)   Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row2 (t : Fin cfg2.N) : defs₀ (F := F) .tc cfg2.body (cfg2.bodyArgs t (cfg2.slots t)) = bodyAt2 t := by
  unfold defs₀; rw [Defs.onTc_tc]

theorem body_obligation2 (c : Dev nD) : BodyObligation (dat2 V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.IdealRun.HeadBody.lean ====
module

public import proofs.«01_k».proof.Proof.IdealRun.Words

/-! One grid point of the head call. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The rows of the table of per-graph features (and of the reciprocals) gathered at the edges of a block. -/
def headGath (w1 w2 : BitVec 32) (eb : Vec F S1x1x2000 .i32) (tab : Vec F S640x256 .f32) : FVec F S2000x256 .f32 :=
  if h : k3_chk1 w1 w2 ∧ k3_cond1 w1 w2 = 1#1 then k3_pay4 (F := F) w1 eb (VecWindow.window tab (k3_off2 w1) S128x256.size (h.1.1 h.2))
  else k3_pay7 eb (VecWindow.window tab ![0, 0] S512x256.size inb_S640x256_S512x256_0_0)

def headRecip (w1 w2 : BitVec 32) (eb : Vec F S1x1x2000 .i32) (r : Vec F S640x1 .f32) : FVec F S2000x1 .f32 :=
  if h : k3_chk1 w1 w2 ∧ k3_cond1 w1 w2 = 1#1 then k3_pay5 (F := F) w1 eb (VecWindow.window r (k3_off3 w1) S128x1.size (h.1.2 h.2))
  else k3_pay8 eb (VecWindow.window r ![0, 0] S512x1.size inb_S640x1_S512x1_0_0)

/-- From the gathered rows on. -/
def headMid (gath : FVec F S2000x256 .f32) (rec : FVec F S2000x1 .f32) (x : Vec F S2000x128 .f32) (g b : Vec F S1x128 .f32)
    (lg lb : Vec F S1x256 .f32) (W1 : Vec F S256x128 .f32) (b1 : Vec F S1x128 .f32) (W2 : Vec F S128x1 .f32) (b2 : Vec F S1x1 .f32) : FVec F S2000x1 .f32 :=
  k3_pay1 (k3_pay12 lg) (k3_pay13 lb) (k3_pay14 (k3_pay9 gath) (k3_pay10 gath) (k3_pay11 x) rec g b)
    (k3_pay15 (k3_pay9 gath) (k3_pay10 gath) (k3_pay11 x) rec g b) (Scalar.ofBits .f32 0x43800000#32 : F .f32) W1 b1 W2 b2

/-- The block of edge logits. -/
def headOut (w1 w2 : BitVec 32) (x : Vec F S2000x128 .f32) (eb : Vec F S1x1x2000 .i32) (tab : Vec F S640x256 .f32) (r : Vec F S640x1 .f32) (g b : Vec F S1x128 .f32)
    (lg lb : Vec F S1x256 .f32) (W1 : Vec F S256x128 .f32) (b1 : Vec F S1x128 .f32) (W2 : Vec F S128x1 .f32) (b2 : Vec F S1x1 .f32) : FVec F S2000x1 .f32 :=
  headMid (headGath w1 w2 eb tab) (headRecip w1 w2 eb r) x g b lg lb W1 b1 W2 b2

/-- The word a grid point reads off a row of words. -/
theorem head_word (i : grid3.Coords) (arg : Memref sig .tc .smem S160 .i32) (harg : arg.IsWhole) (x : Vec F S160 .i32) :
    View.readAt (Elt F) arg.view (Rect.unit (s := S160) (k3_off1 i) S1.size (k3_off1_inb i)).toLoadRect (harg.unread x) (Shape.Idx.first (numel1_S1.symm ▸ Nat.one_pos))
      = wordAt x (i 0) := by
  simp only [View.readAt_apply, Memref.IsWhole.read_unread]
  refine congrArg x (funext fun a => Fin.ext ?_)
  have : a = 0 := Subsingleton.elim _ _
  subst this
  have h := congrFun (k3_off1_eq i) 0
  show k3_off1 i 0 + 1 * 0 = (i 0).val
  simpa using h

set_option maxHeartbeats 1600000 in
/-- One grid point of the head call: from the blocks of its operands it leaves the block of edge logits. -/
theorem head_triple (c : Dev nD) (i : grid3.Coords) (arg1 : Memref sig .tc .smem S160 .i32) (harg1 : arg1.IsWhole) (arg2 : Memref sig .tc .smem S160 .i32) (harg2 : arg2.IsWhole) (arg3 : Memref sig .tc .vmem S2000x128 .f32) (harg3 : arg3.IsWhole) (arg4 : Memref sig .tc .vmem S1x1x2000 .i32) (harg4 : arg4.IsWhole) (arg5 : Memref sig .tc .vmem S640x256 .f32) (harg5 : arg5.IsWhole) (arg6 : Memref sig .tc .vmem S640x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S2000x1 .f32) (harg15 : arg15.IsWhole) (arg16 : Memref sig .tc .vmem S2000x256 .f32) (harg16 : arg16.IsWhole) (arg17 : Memref sig .tc .vmem S2000x1 .f32) (harg17 : arg17.IsWhole)
    (x0 : Vec F S160 .i32) (x1 : Vec F S160 .i32) (x2 : Vec F S2000x128 .f32) (x3 : Vec F S1x1x2000 .i32) (x4 : Vec F S640x256 .f32) (x5 : Vec F S640x1 .f32) (x6 : Vec F S1x128 .f32) (x7 : Vec F S1x128 .f32) (x8 : Vec F S1x256 .f32) (x9 : Vec F S1x256 .f32) (x10 : Vec F S256x128 .f32) (x11 : Vec F S1x128 .f32) (x12 : Vec F S128x1 .f32) (x13 : Vec F S1x1 .f32) (d14 : Vec F S2000x1 .f32) (d15 : Vec F S2000x256 .f32) (d16 : Vec F S2000x1 .f32)
    (hchk : k3_chk1 (wordAt x0 (i 0)) (wordAt x1 (i 0))) (E : Set ℕ) (K : PUnit → sProp 𝕄) :
    iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg5 fullShare x4 ∗
      owns (c : Thread nD τ) arg6 fullShare x5 ∗
      owns (c : Thread nD τ) arg7 fullShare x6 ∗
      owns (c : Thread nD τ) arg8 fullShare x7 ∗
      owns (c : Thread nD τ) arg9 fullShare x8 ∗
      owns (c : Thread nD τ) arg10 fullShare x9 ∗
      owns (c : Thread nD τ) arg11 fullShare x10 ∗
      owns (c : Thread nD τ) arg12 fullShare x11 ∗
      owns (c : Thread nD τ) arg13 fullShare x12 ∗
      owns (c : Thread nD τ) arg14 fullShare x13 ∗
      owns (c : Thread nD τ) arg15 fullShare d14 ∗
      owns (c : Thread nD τ) arg16 fullShare d15 ∗
      owns (c : Thread nD τ) arg17 fullShare d16 ∗
      (iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg5 fullShare x4 ∗
      owns (c : Thread nD τ) arg6 fullShare x5 ∗
      owns (c : Thread nD τ) arg7 fullShare x6 ∗
      owns (c : Thread nD τ) arg8 fullShare x7 ∗
      owns (c : Thread nD τ) arg9 fullShare x8 ∗
      owns (c : Thread nD τ) arg10 fullShare x9 ∗
      owns (c : Thread nD τ) arg11 fullShare x10 ∗
      owns (c : Thread nD τ) arg12 fullShare x11 ∗
      owns (c : Thread nD τ) arg13 fullShare x12 ∗
      owns (c : Thread nD τ) arg14 fullShare x13 ∗
      owns (c : Thread nD τ) arg15 fullShare (headOut (wordAt x0 (i 0)) (wordAt x1 (i 0)) x2 x3 x4 x5 x6 x7 x8 x9 x10 x11 x12 x13) ∗
      (∃ y, owns (c : Thread nD τ) arg16 fullShare y) ∗
      (∃ y, owns (c : Thread nD τ) arg17 fullShare y)) -∗ K ⟨⟩))
    ⊢ wp frame (wpE (defs₀ (F := F)) Variants.none c none) E (cc3__edge_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hw1 : (View.readAt (Elt F) arg1.view (Rect.unit (s := S160) (k3_off1 i) S1.size (k3_off1_inb i)).toLoadRect (harg1.unread x0) (Shape.Idx.first (numel1_S1.symm ▸ Nat.one_pos))) = wordAt x0 (i 0) := head_word i arg1 harg1 x0
  have hw2 : (View.readAt (Elt F) arg2.view (Rect.unit (s := S160) (k3_off1 i) S1.size (k3_off1_inb i)).toLoadRect (harg2.unread x1) (Shape.Idx.first (numel1_S1.symm ▸ Nat.one_pos))) = wordAt x1 (i 0) := head_word i arg2 harg2 x1
  have hc : k3_chk1 (View.readAt (Elt F) arg1.view (Rect.unit (s := S160) (k3_off1 i) S1.size (k3_off1_inb i)).toLoadRect (harg1.unread x0) (Shape.Idx.first (numel1_S1.symm ▸ Nat.one_pos))) (View.readAt (Elt F) arg2.view (Rect.unit (s := S160) (k3_off1 i) S1.size (k3_off1_inb i)).toLoadRect (harg2.unread x1) (Shape.Idx.first (numel1_S1.symm ▸ Nat.one_pos))) := by rw [hw1, hw2]; exact hchk
  simp only [cc3__edge_head_kernel_eq_skeleton]; unfold cc3__edge_head_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  have e0 := harg1.eq_unread hf0; subst e0; have e1 := harg2.eq_unread hf1; subst e1; have e2 := harg3.eq_unread hf2; subst e2; have e3 := harg4.eq_unread hf3; subst e3; have e4 := harg5.eq_unread hf4; subst e4; have e5 := harg6.eq_unread hf5; subst e5; have e6 := harg7.eq_unread hf6; subst e6; have e7 := harg8.eq_unread hf7; subst e7; have e8 := harg9.eq_unread hf8; subst e8; have e9 := harg10.eq_unread hf9; subst e9; have e10 := harg11.eq_unread hf10; subst e10; have e11 := harg12.eq_unread hf11; subst e11; have e12 := harg13.eq_unread hf12; subst e12; have e13 := harg14.eq_unread hf13; subst e13; have e14 := harg15.eq_unread hf14; subst e14; have e15 := harg16.eq_unread hf15; subst e15; have e16 := harg17.eq_unread hf16; subst e16
  by_cases hn : k3_cond1 (wordAt x0 (i 0)) (wordAt x1 (i 0)) = 1#1
  · have h1 : (k3_cond1 (View.readAt (Elt F) arg1.view (Rect.unit (s := S160) (k3_off1 i) S1.size (k3_off1_inb i)).toLoadRect (harg1.unread x0) (Shape.Idx.first (numel1_S1.symm ▸ Nat.one_pos))) (View.readAt (Elt F) arg2.view (Rect.unit (s := S160) (k3_off1 i) S1.size (k3_off1_inb i)).toLoadRect (harg2.unread x1) (Shape.Idx.first (numel1_S1.symm ▸ Nat.one_pos))) = 1#1) := by rw [hw1, hw2]; exact hn
    have h2 : ¬ (wideBit (View.readAt (Elt F) arg1.view (Rect.unit (s := S160) (k3_off1 i) S1.size (k3_off1_inb i)).toLoadRect (harg1.unread x0) (Shape.Idx.first (numel1_S1.symm ▸ Nat.one_pos))) (View.readAt (Elt F) arg2.view (Rect.unit (s := S160) (k3_off1 i) S1.size (k3_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : k3_chk1 (wordAt x0 (i 0)) (wordAt x1 (i 0)) ∧ k3_cond1 (wordAt x0 (i 0)) (wordAt x1 (i 0)) = 1#1 := ⟨hchk, hn⟩
    sl_exec (disch := first | sl_exact hc | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro;
      sl_unfold_run_names
      revert hc h1 h2
      rw [hw1, hw2]
      intro hc h1 h2
      simp only [headOut, headMid, headGath, headRecip, dif_pos hh, readAt_load, read_store, readCov_load, View.writes_nil, Memref.IsWhole.read_unread, window_all2, window_all3, put_all2]
      try rfl
    isplitl [H15]
    · iexists _; iexists _; isplitr; swap; · iexact H15
      ipureintro; rfl
    · iexists _; iexists _; isplitr; swap; · iexact H16
      ipureintro; rfl
  · have h1 : ¬ (k3_cond1 (View.readAt (Elt F) arg1.view (Rect.unit (s := S160) (k3_off1 i) S1.size (k3_off1_inb i)).toLoadRect (harg1.unread x0) (Shape.Idx.first (numel1_S1.symm ▸ Nat.one_pos))) (View.readAt (Elt F) arg2.view (Rect.unit (s := S160) (k3_off1 i) S1.size (k3_off1_inb i)).toLoadRect (harg2.unread x1) (Shape.Idx.first (numel1_S1.symm ▸ Nat.one_pos))) = 1#1) := by rw [hw1, hw2]; exact hn
    have h2 : (wideBit (View.readAt (Elt F) arg1.view (Rect.unit (s := S160) (k3_off1 i) S1.size (k3_off1_inb i)).toLoadRect (harg1.unread x0) (Shape.Idx.first (numel1_S1.symm ▸ Nat.one_pos))) (View.readAt (Elt F) arg2.view (Rect.unit (s := S160) (k3_off1 i) S1.size (k3_off1_inb i)).toLoadRect (harg2.unread x1) (Shape.Idx.first (numel1_S1.symm ▸ Nat.one_pos))) = 1#1) := by first | exact (narrow_iff _ _).mp h1 | exact not_not.mp fun h => h1 ((narrow_iff _ _).mpr h)
    have hh : ¬ (k3_chk1 (wordAt x0 (i 0)) (wordAt x1 (i 0)) ∧ k3_cond1 (wordAt x0 (i 0)) (wordAt x1 (i 0)) = 1#1) := fun h => hn h.2
    sl_exec (disch := first | sl_exact hc | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro;
      sl_unfold_run_names
      revert hc h1 h2
      rw [hw1, hw2]
      intro hc h1 h2
      simp only [headOut, headMid, headGath, headRecip, dif_neg hh, readAt_load, read_store, readCov_load, View.writes_nil, Memref.IsWhole.read_unread, window_all2, window_all3, put_all2]
      try rfl
    isplitl [H15]
    · iexists _; iexists _; isplitr; swap; · iexact H15
      ipureintro; rfl
    · iexists _; iexists _; isplitr; swap; · iexact H16
      ipureintro; rfl

end Cert.KernelIdeal.Run

end
-- ==== Proof.IdealRun.HeadRegion.lean ====
module

public import proofs.«01_k».proof.Proof.IdealRun.HeadBody
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions

/-! Call 3: what its windows hold, point by point, and its body at any point. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, of the array as the call finds it. -/
abbrev blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the call's windows hold, point by point. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => blk3 V c 10 t
    | ⟨11, _⟩ => blk3 V c 11 t
    | ⟨12, _⟩ => blk3 V c 12 t
    | ⟨13, _⟩ => blk3 V c 13 t
    | ⟨14, _⟩ => headOut (wordAt (blk3 V c 0 t) (grid3.coords t 0)) (wordAt (blk3 V c 1 t) (grid3.coords t 0)) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t)
    | ⟨n + 15, h⟩ => absurd h (Nat.not_lt.2 (Nat.le_add_left _ _))
  Φ _ := Pipeline.scopedRest spec3 c
  q _ := fullShare
  owed _ := 0

theorem dat3_A (c : Dev nD) (w : Fin cfg3.W) : (dat3 V c).A w = V c (Pipeline.arrRef spec3 w) := by dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = blk3 V c 8 t := by dsimp only [dat3]
theorem after3_9 (c : Dev nD) (t : Fin cfg3.N) : (dat3 V c).after 9 t = blk3 V c 9 t := by dsimp only [dat3]
theorem after3_10 (c : Dev nD) (t : Fin cfg3.N) : (dat3 V c).after 10 t = blk3 V c 10 t := by dsimp only [dat3]
theorem after3_11 (c : Dev nD) (t : Fin cfg3.N) : (dat3 V c).after 11 t = blk3 V c 11 t := by dsimp only [dat3]
theorem after3_12 (c : Dev nD) (t : Fin cfg3.N) : (dat3 V c).after 12 t = blk3 V c 12 t := by dsimp only [dat3]
theorem after3_13 (c : Dev nD) (t : Fin cfg3.N) : (dat3 V c).after 13 t = blk3 V c 13 t := by dsimp only [dat3]
theorem after3_14 (c : Dev nD) (t : Fin cfg3.N) : (dat3 V c).after 14 t = headOut (wordAt (blk3 V c 0 t) (grid3.coords t 0)) (wordAt (blk3 V c 1 t) (grid3.coords t 0)) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) := by dsimp only [dat3]

/-! An input's staging buffer holds its block at every point. -/

theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf; rw [dat3_A]; try rfl) t d).trans
    (by unfold Dat.fetched Dat.blockOf; rw [dat3_A]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf; rw [dat3_A]; try rfl) t d).trans
    (by unfold Dat.fetched Dat.blockOf; rw [dat3_A]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf; rw [dat3_A]; try rfl) t d).trans
    (by unfold Dat.fetched Dat.blockOf; rw [dat3_A]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf; rw [dat3_A]; try rfl) t d).trans
    (by unfold Dat.fetched Dat.blockOf; rw [dat3_A]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf; rw [dat3_A]; try rfl) t d).trans
    (by unfold Dat.fetched Dat.blockOf; rw [dat3_A]; try rfl)
theorem before3_5 (c : Dev nD) (t : Fin cfg3.N) (d) : (dat3 V c).before 5 t d = blk3 V c 5 t :=
  ((dat3 V c).before_in_eq_fetched 5 rfl (fun _ => rfl) (fun _ _ _ => rfl) (fun t => by rw [after3_5]; unfold Dat.blockOf; rw [dat3_A]; try rfl) t d).trans
    (by unfold Dat.fetched Dat.blockOf; rw [dat3_A]; try rfl)
theorem before3_6 (c : Dev nD) (t : Fin cfg3.N) (d) : (dat3 V c).before 6 t d = blk3 V c 6 t :=
  ((dat3 V c).before_in_eq_fetched 6 rfl (fun _ => rfl) (fun _ _ _ => rfl) (fun t => by rw [after3_6]; unfold Dat.blockOf; rw [dat3_A]; try rfl) t d).trans
    (by unfold Dat.fetched Dat.blockOf; rw [dat3_A]; try rfl)
theorem before3_7 (c : Dev nD) (t : Fin cfg3.N) (d) : (dat3 V c).before 7 t d = blk3 V c 7 t :=
  ((dat3 V c).before_in_eq_fetched 7 rfl (fun _ => rfl) (fun _ _ _ => rfl) (fun t => by rw [after3_7]; unfold Dat.blockOf; rw [dat3_A]; try rfl) t d).trans
    (by unfold Dat.fetched Dat.blockOf; rw [dat3_A]; try rfl)
theorem before3_8 (c : Dev nD) (t : Fin cfg3.N) (d) : (dat3 V c).before 8 t d = blk3 V c 8 t :=
  ((dat3 V c).before_in_eq_fetched 8 rfl (fun _ => rfl) (fun _ _ _ => rfl) (fun t => by rw [after3_8]; unfold Dat.blockOf; rw [dat3_A]; try rfl) t d).trans
    (by unfold Dat.fetched Dat.blockOf; rw [dat3_A]; try rfl)
theorem before3_9 (c : Dev nD) (t : Fin cfg3.N) (d) : (dat3 V c).before 9 t d = blk3 V c 9 t :=
  ((dat3 V c).before_in_eq_fetched 9 rfl (fun _ => rfl) (fun _ _ _ => rfl) (fun t => by rw [after3_9]; unfold Dat.blockOf; rw [dat3_A]; try rfl) t d).trans
    (by unfold Dat.fetched Dat.blockOf; rw [dat3_A]; try rfl)
theorem before3_10 (c : Dev nD) (t : Fin cfg3.N) (d) : (dat3 V c).before 10 t d = blk3 V c 10 t :=
  ((dat3 V c).before_in_eq_fetched 10 rfl (fun _ => rfl) (fun _ _ _ => rfl) (fun t => by rw [after3_10]; unfold Dat.blockOf; rw [dat3_A]; try rfl) t d).trans
    (by unfold Dat.fetched Dat.blockOf; rw [dat3_A]; try rfl)
theorem before3_11 (c : Dev nD) (t : Fin cfg3.N) (d) : (dat3 V c).before 11 t d = blk3 V c 11 t :=
  ((dat3 V c).before_in_eq_fetched 11 rfl (fun _ => rfl) (fun _ _ _ => rfl) (fun t => by rw [after3_11]; unfold Dat.blockOf; rw [dat3_A]; try rfl) t d).trans
    (by unfold Dat.fetched Dat.blockOf; rw [dat3_A]; try rfl)
theorem before3_12 (c : Dev nD) (t : Fin cfg3.N) (d) : (dat3 V c).before 12 t d = blk3 V c 12 t :=
  ((dat3 V c).before_in_eq_fetched 12 rfl (fun _ => rfl) (fun _ _ _ => rfl) (fun t => by rw [after3_12]; unfold Dat.blockOf; rw [dat3_A]; try rfl) t d).trans
    (by unfold Dat.fetched Dat.blockOf; rw [dat3_A]; try rfl)
theorem before3_13 (c : Dev nD) (t : Fin cfg3.N) (d) : (dat3 V c).before 13 t d = blk3 V c 13 t :=
  ((dat3 V c).before_in_eq_fetched 13 rfl (fun _ => rfl) (fun _ _ _ => rfl) (fun t => by rw [after3_13]; unfold Dat.blockOf; rw [dat3_A]; try rfl) t d).trans
    (by unfold Dat.fetched Dat.blockOf; rw [dat3_A]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

set_option maxHeartbeats 1600000 in
/-- The body at any point of the call. -/
theorem sound_body3 (hchk : ∀ (c : Dev nD) (t : Fin cfg3.N), k3_chk1 (wordAt (blk3 V c 0 t) (grid3.coords t 0)) (wordAt (blk3 V c 1 t) (grid3.coords t 0))) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  rw [show (dat3 V c).Φ t.castSucc = Pipeline.scopedRest spec3 c from rfl, scopedRest3_split]
  rw [← Memref.IsWhole.exists_owns_eq (c := (c : Thread nD τ)) (Memref.isWhole_whole cc3_scratch0) fullShare]
  rw [← Memref.IsWhole.exists_owns_eq (c := (c : Thread nD τ)) (Memref.isWhole_whole cc3_scratch1) fullShare]
  iintro ⟨⟨⟨⟨%s0, S0⟩, ⟨%s1, S1⟩⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (head_triple c (grid3.coords t) _ _ _ _ _ _ _ _ _ _ _ _ _ _ _ _ _ _ _ _ _ _ _ _ _ _ _ _ _ _ _ _ _ _
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t)
    ((dat3 V c).before 14 t d14) s0 s1 (hchk c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  iintro ⟨H0, H1, H2, H3, H4, H5, H6, H7, H8, H9, H10, H11, H12, H13, H14, ⟨%y0, S0⟩, ⟨%y1, S1⟩⟩
  isplitl [HΦ S0 S1]
  · isplitl [S0 S1]
    · isplitl [S0]
      · iexists _; iexact S0
      · iexists _; iexact S1
    · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row3 (t : Fin cfg3.N) : defs₀ (F := F) .tc cfg3.body (cfg3.bodyArgs t (cfg3.slots t)) = bodyAt3 t := by
  unfold defs₀; rw [Defs.onTc_tc]

theorem body_obligation3 (hchk : ∀ (c : Dev nD) (t : Fin cfg3.N), k3_chk1 (wordAt (blk3 V c 0 t) (grid3.coords t 0)) (wordAt (blk3 V c 1 t) (grid3.coords t 0))) (c : Dev nD) : BodyObligation (dat3 V c) (defs₀ (F := F)) Variants.none () Set.univ := fun t => by
  rw [bigSep_W3, bigSep_W3, defs₀_row3]
  exact triple_restated (sound_body3 V hchk c t) rfl .rfl fun _ => .rfl

end Cert.KernelIdeal.Run

end
-- ==== Proof.IdealRun.Contents.lean ====
module

public import proofs.«01_k».proof.Proof.IdealRun.Seg
public import proofs.«01_k».proof.Proof.IdealRun.QfRegion
public import proofs.«01_k».proof.Proof.IdealRun.FwdRegion
public import proofs.«01_k».proof.Proof.IdealRun.GraphRegion
public import proofs.«01_k».proof.Proof.IdealRun.HeadRegion

/-! The buffers between the items of the program. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers a call is entered with. -/
abbrev asContents (W : Dev nD → Valuation τ sig (Elt F)) : Contents (F := F) := fun c b => W c b

/-- Core `c`'s buffers after each item of the program, every array a call leaves spelled out. -/
def U1 (c : Dev nD) : Valuation τ sig (Elt F) := V1 m c
def U2 (c : Dev nD) : Valuation τ sig (Elt F) := Function.update (U1 m c) main_v8 ((dat0 (asContents (U1 m)) c).arrAt 6 cfg0.N)
def U3 (c : Dev nD) : Valuation τ sig (Elt F) := StableHlo.after hostOps1 (U2 m c)
def U4 (c : Dev nD) : Valuation τ sig (Elt F) := Function.update (Function.update (Function.update (U3 m c) main_v23_0 ((dat1 (asContents (U3 m)) c).arrAt 16 cfg1.N)) main_v23_1 ((dat1 (asContents (U3 m)) c).arrAt 17 cfg1.N)) main_v23_2 ((dat1 (asContents (U3 m)) c).arrAt 18 cfg1.N)
def U5 (c : Dev nD) : Valuation τ sig (Elt F) := StableHlo.after hostOps2 (U4 m c)
def U6 (c : Dev nD) : Valuation τ sig (Elt F) := Function.update (Function.update (Function.update (Function.update (U5 m c) main_v30_0 ((dat2 (asContents (U5 m)) c).arrAt 11 cfg2.N)) main_v30_1 ((dat2 (asContents (U5 m)) c).arrAt 12 cfg2.N)) main_v30_2 ((dat2 (asContents (U5 m)) c).arrAt 13 cfg2.N)) main_v30_3 ((dat2 (asContents (U5 m)) c).arrAt 14 cfg2.N)
def U7 (c : Dev nD) : Valuation τ sig (Elt F) := StableHlo.after hostOps3 (U6 m c)
def U8 (c : Dev nD) : Valuation τ sig (Elt F) := Function.update (U7 m c) main_v37 ((dat3 (asContents (U7 m)) c).arrAt 14 cfg3.N)
def U9 (c : Dev nD) : Valuation τ sig (Elt F) := StableHlo.after hostOps4 (U8 m c)

/-- The arrays the calls leave. -/
def outs : Outs (F := F) := fun J r c => match J with
  | 2 => U2 m c r
  | 4 => U4 m c r
  | 6 => U6 m c r
  | _ => U8 m c r

theorem V1_eq (c : Dev nD) : V1 m c = U1 m c := rfl
theorem U2_main_v8 (c : Dev nD) : U2 m c main_v8 = (dat0 (asContents (U1 m)) c).arrAt 6 cfg0.N := by
  unfold U2
  exact Function.update_self ..
theorem U2_ne (c : Dev nD) (b : Ref sig .tc) (h : b ∉ ([main_v8] : List (Ref sig .tc))) : U2 m c b = U1 m c b := by
  simp only [List.mem_cons, List.not_mem_nil, or_false, not_or] at h
  unfold U2
  rw [Function.update_of_ne (fun e => h (Proc.devRef_injective _ e))]
theorem V2_eq (c : Dev nD) : V2 m (outs m) c = U2 m c := by
  unfold V2
  rw [V1_eq]
  show Function.update (U1 m c) main_v8 (U2 m c main_v8) = _
  rw [U2_main_v8]
  rfl
theorem V3_eq (c : Dev nD) : V3 m (outs m) c = U3 m c := by
  unfold V3
  rw [V2_eq]
  rfl
theorem U4_main_v23_0 (c : Dev nD) : U4 m c main_v23_0 = (dat1 (asContents (U3 m)) c).arrAt 16 cfg1.N := by
  unfold U4
  rw [Function.update_of_ne (by decide)]; rw [Function.update_of_ne (by decide)]; exact Function.update_self ..
theorem U4_main_v23_1 (c : Dev nD) : U4 m c main_v23_1 = (dat1 (asContents (U3 m)) c).arrAt 17 cfg1.N := by
  unfold U4
  rw [Function.update_of_ne (by decide)]; exact Function.update_self ..
theorem U4_main_v23_2 (c : Dev nD) : U4 m c main_v23_2 = (dat1 (asContents (U3 m)) c).arrAt 18 cfg1.N := by
  unfold U4
  exact Function.update_self ..
theorem U4_ne (c : Dev nD) (b : Ref sig .tc) (h : b ∉ ([main_v23_0, main_v23_1, main_v23_2] : List (Ref sig .tc))) : U4 m c b = U3 m c b := by
  simp only [List.mem_cons, List.not_mem_nil, or_false, not_or] at h
  unfold U4
  rw [Function.update_of_ne (fun e => h.2.2 (Proc.devRef_injective _ e)), Function.update_of_ne (fun e => h.2.1 (Proc.devRef_injective _ e)), Function.update_of_ne (fun e => h.1 (Proc.devRef_injective _ e))]
theorem V4_eq (c : Dev nD) : V4 m (outs m) c = U4 m c := by
  unfold V4
  rw [V3_eq]
  show Function.update (Function.update (Function.update (U3 m c) main_v23_0 (U4 m c main_v23_0)) main_v23_1 (U4 m c main_v23_1)) main_v23_2 (U4 m c main_v23_2) = _
  rw [U4_main_v23_0, U4_main_v23_1, U4_main_v23_2]
  rfl
theorem V5_eq (c : Dev nD) : V5 m (outs m) c = U5 m c := by
  unfold V5
  rw [V4_eq]
  rfl
theorem U6_main_v30_0 (c : Dev nD) : U6 m c main_v30_0 = (dat2 (asContents (U5 m)) c).arrAt 11 cfg2.N := by
  unfold U6
  rw [Function.update_of_ne (by decide)]; rw [Function.update_of_ne (by decide)]; rw [Function.update_of_ne (by decide)]; exact Function.update_self ..
theorem U6_main_v30_1 (c : Dev nD) : U6 m c main_v30_1 = (dat2 (asContents (U5 m)) c).arrAt 12 cfg2.N := by
  unfold U6
  rw [Function.update_of_ne (by decide)]; rw [Function.update_of_ne (by decide)]; exact Function.update_self ..
theorem U6_main_v30_2 (c : Dev nD) : U6 m c main_v30_2 = (dat2 (asContents (U5 m)) c).arrAt 13 cfg2.N := by
  unfold U6
  rw [Function.update_of_ne (by decide)]; exact Function.update_self ..
theorem U6_main_v30_3 (c : Dev nD) : U6 m c main_v30_3 = (dat2 (asContents (U5 m)) c).arrAt 14 cfg2.N := by
  unfold U6
  exact Function.update_self ..
theorem U6_ne (c : Dev nD) (b : Ref sig .tc) (h : b ∉ ([main_v30_0, main_v30_1, main_v30_2, main_v30_3] : List (Ref sig .tc))) : U6 m c b = U5 m c b := by
  simp only [List.mem_cons, List.not_mem_nil, or_false, not_or] at h
  unfold U6
  rw [Function.update_of_ne (fun e => h.2.2.2 (Proc.devRef_injective _ e)), Function.update_of_ne (fun e => h.2.2.1 (Proc.devRef_injective _ e)), Function.update_of_ne (fun e => h.2.1 (Proc.devRef_injective _ e)), Function.update_of_ne (fun e => h.1 (Proc.devRef_injective _ e))]
theorem V6_eq (c : Dev nD) : V6 m (outs m) c = U6 m c := by
  unfold V6
  rw [V5_eq]
  show Function.update (Function.update (Function.update (Function.update (U5 m c) main_v30_0 (U6 m c main_v30_0)) main_v30_1 (U6 m c main_v30_1)) main_v30_2 (U6 m c main_v30_2)) main_v30_3 (U6 m c main_v30_3) = _
  rw [U6_main_v30_0, U6_main_v30_1, U6_main_v30_2, U6_main_v30_3]
  rfl
theorem V7_eq (c : Dev nD) : V7 m (outs m) c = U7 m c := by
  unfold V7
  rw [V6_eq]
  rfl
theorem U8_main_v37 (c : Dev nD) : U8 m c main_v37 = (dat3 (asContents (U7 m)) c).arrAt 14 cfg3.N := by
  unfold U8
  exact Function.update_self ..
theorem U8_ne (c : Dev nD) (b : Ref sig .tc) (h : b ∉ ([main_v37] : List (Ref sig .tc))) : U8 m c b = U7 m c b := by
  simp only [List.mem_cons, List.not_mem_nil, or_false, not_or] at h
  unfold U8
  rw [Function.update_of_ne (fun e => h (Proc.devRef_injective _ e))]
theorem V8_eq (c : Dev nD) : V8 m (outs m) c = U8 m c := by
  unfold V8
  rw [V7_eq]
  show Function.update (U7 m c) main_v37 (U8 m c main_v37) = _
  rw [U8_main_v37]
  rfl
theorem V9_eq (c : Dev nD) : V9 m (outs m) c = U9 m c := by
  unfold V9
  rw [V8_eq]
  rfl

end Cert.KernelIdeal.Run

end
-- ==== Proof.IdealRun.Run.lean ====
module

public import proofs.«01_k».proof.Proof.IdealRun.Contents

/-! The run of the whole program: every buffer of the core ends at the contents the last item leaves, and every semaphore at zero. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the four calls, each over the buffers the call is entered with. -/
def pdats : (p : Fin 4) → (c : Dev nD) → Dat τ (Elt F) Unit ℕ (UR sig nD τ) ℕ (cfgs p) c
  | ⟨0, _⟩ => fun c => dat0 (asContents (U1 m)) c
  | ⟨1, _⟩ => fun c => dat1 (asContents (U3 m)) c
  | ⟨2, _⟩ => fun c => dat2 (asContents (U5 m)) c
  | ⟨3, _⟩ => fun c => dat3 (asContents (U7 m)) c

/-- The window of the gather at a point of the first gridded call lies in the table. -/
def GatherInside1 : Prop := ∀ (c : Dev nD) (t : Fin cfg1.N),
  k1_chk1 (wordAt (blk1 (asContents (U3 m)) c 0 t) (grid1.coords t 0)) (wordAt (blk1 (asContents (U3 m)) c 1 t) (grid1.coords t 0))
/-- The window of the gather at a point of the last call lies in the table. -/
def GatherInside3 : Prop := ∀ (c : Dev nD) (t : Fin cfg3.N),
  k3_chk1 (wordAt (blk3 (asContents (U7 m)) c 0 t) (grid3.coords t 0)) (wordAt (blk3 (asContents (U7 m)) c 1 t) (grid3.coords t 0))

/-- What a core holds besides its buffers between the items. -/
abbrev rest (c : Dev nD) : sProp 𝕄 := iprop(emp ∗ ∃ W, owes (c : Thread nD τ) (0 : CellTallies nD τ sig Unit) W)

set_option maxHeartbeats 4000000 in
/-- Every array of call 0 ends at what the buffers after it say. -/
theorem out0 (c : Dev nD) (w : Fin cfg0.W) : U2 m c (Pipeline.arrRef spec0 w) = (pdats m 0 c).arrAt w cfg0.N := by
  match w with
  | 0 => exact (U2_ne m c _ (by decide)).trans ((dat0 (asContents (U1 m)) c).arrAt_in 0 rfl _).symm
  | 1 => exact (U2_ne m c _ (by decide)).trans ((dat0 (asContents (U1 m)) c).arrAt_in 1 rfl _).symm
  | 2 => exact (U2_ne m c _ (by decide)).trans ((dat0 (asContents (U1 m)) c).arrAt_in 2 rfl _).symm
  | 3 => exact (U2_ne m c _ (by decide)).trans ((dat0 (asContents (U1 m)) c).arrAt_in 3 rfl _).symm
  | 4 => exact (U2_ne m c _ (by decide)).trans ((dat0 (asContents (U1 m)) c).arrAt_in 4 rfl _).symm
  | 5 => exact (U2_ne m c _ (by decide)).trans ((dat0 (asContents (U1 m)) c).arrAt_in 5 rfl _).symm
  | 6 => exact U2_main_v8 m c
  | ⟨n + 7, h⟩ => exact absurd h (Nat.not_lt.2 (Nat.le_add_left _ _))

theorem other0 (c : Dev nD) (b : Ref sig .tc) (h : ∀ w, Pipeline.arrRef spec0 w ≠ b) : U2 m c b = U1 m c b :=
  U2_ne m c b (by
    simp only [List.mem_cons, List.not_mem_nil, or_false]
    exact fun e => h 6 e.symm)

/-- Call 0 as an item of the program. -/
def reg0 : Pipeline.RegionSeg (pcfgs (F := F)) adm (pdats m) () defs₀ Variants.none L lv 0 :=
  seg (pdats m) 0 launch0 (asContents (U1 m)) (asContents (U2 m)) (fun _ => BI.emp)
    (fun _ _ => rfl) (fun _ _ => rfl) (fun _ _ => rfl) (fun _ _ => rfl) (fun c w => dat0_A (asContents (U1 m)) c w)
    (fun c => body_obligation0 (asContents (U1 m)) c) (out0 m) (other0 m)

set_option maxHeartbeats 4000000 in
/-- Every array of call 1 ends at what the buffers after it say. -/
theorem out1 (c : Dev nD) (w : Fin cfg1.W) : U4 m c (Pipeline.arrRef spec1 w) = (pdats m 1 c).arrAt w cfg1.N := by
  match w with
  | 0 => exact (U4_ne m c _ (by decide)).trans ((dat1 (asContents (U3 m)) c).arrAt_in 0 rfl _).symm
  | 1 => exact (U4_ne m c _ (by decide)).trans ((dat1 (asContents (U3 m)) c).arrAt_in 1 rfl _).symm
  | 2 => exact (U4_ne m c _ (by decide)).trans ((dat1 (asContents (U3 m)) c).arrAt_in 2 rfl _).symm
  | 3 => exact (U4_ne m c _ (by decide)).trans ((dat1 (asContents (U3 m)) c).arrAt_in 3 rfl _).symm
  | 4 => exact (U4_ne m c _ (by decide)).trans ((dat1 (asContents (U3 m)) c).arrAt_in 4 rfl _).symm
  | 5 => exact (U4_ne m c _ (by decide)).trans ((dat1 (asContents (U3 m)) c).arrAt_in 5 rfl _).symm
  | 6 => exact (U4_ne m c _ (by decide)).trans ((dat1 (asContents (U3 m)) c).arrAt_in 6 rfl _).symm
  | 7 => exact (U4_ne m c _ (by decide)).trans ((dat1 (asContents (U3 m)) c).arrAt_in 7 rfl _).symm
  | 8 => exact (U4_ne m c _ (by decide)).trans ((dat1 (asContents (U3 m)) c).arrAt_in 8 rfl _).symm
  | 9 => exact (U4_ne m c _ (by decide)).trans ((dat1 (asContents (U3 m)) c).arrAt_in 9 rfl _).symm
  | 10 => exact (U4_ne m c _ (by decide)).trans ((dat1 (asContents (U3 m)) c).arrAt_in 10 rfl _).symm
  | 11 => exact (U4_ne m c _ (by decide)).trans ((dat1 (asContents (U3 m)) c).arrAt_in 11 rfl _).symm
  | 12 => exact (U4_ne m c _ (by decide)).trans ((dat1 (asContents (U3 m)) c).arrAt_in 12 rfl _).symm
  | 13 => exact (U4_ne m c _ (by decide)).trans ((dat1 (asContents (U3 m)) c).arrAt_in 13 rfl _).symm
  | 14 => exact (U4_ne m c _ (by decide)).trans ((dat1 (asContents (U3 m)) c).arrAt_in 14 rfl _).symm
  | 15 => exact (U4_ne m c _ (by decide)).trans ((dat1 (asContents (U3 m)) c).arrAt_in 15 rfl _).symm
  | 16 => exact U4_main_v23_0 m c
  | 17 => exact U4_main_v23_1 m c
  | 18 => exact U4_main_v23_2 m c
  | ⟨n + 19, h⟩ => exact absurd h (Nat.not_lt.2 (Nat.le_add_left _ _))

theorem other1 (c : Dev nD) (b : Ref sig .tc) (h : ∀ w, Pipeline.arrRef spec1 w ≠ b) : U4 m c b = U3 m c b :=
  U4_ne m c b (by
    simp only [List.mem_cons, List.not_mem_nil, or_false, not_or]
    exact ⟨fun e => h 16 e.symm, fun e => h 17 e.symm, fun e => h 18 e.symm⟩)

/-- Call 1 as an item of the program. -/
def reg1 (h1 : GatherInside1 m) : Pipeline.RegionSeg (pcfgs (F := F)) adm (pdats m) () defs₀ Variants.none L lv 1 :=
  seg (pdats m) 1 launch1 (asContents (U3 m)) (asContents (U4 m)) (fun _ => BI.emp)
    (fun _ _ => rfl) (fun _ _ => rfl) (fun _ _ => rfl) (fun _ _ => rfl) (fun c w => dat1_A (asContents (U3 m)) c w)
    (fun c => body_obligation1 (asContents (U3 m)) h1 c) (out1 m) (other1 m)

set_option maxHeartbeats 4000000 in
/-- Every array of call 2 ends at what the buffers after it say. -/
theorem out2 (c : Dev nD) (w : Fin cfg2.W) : U6 m c (Pipeline.arrRef spec2 w) = (pdats m 2 c).arrAt w cfg2.N := by
  match w with
  | 0 => exact (U6_ne m c _ (by decide)).trans ((dat2 (asContents (U5 m)) c).arrAt_in 0 rfl _).symm
  | 1 => exact (U6_ne m c _ (by decide)).trans ((dat2 (asContents (U5 m)) c).arrAt_in 1 rfl _).symm
  | 2 => exact (U6_ne m c _ (by decide)).trans ((dat2 (asContents (U5 m)) c).arrAt_in 2 rfl _).symm
  | 3 => exact (U6_ne m c _ (by decide)).trans ((dat2 (asContents (U5 m)) c).arrAt_in 3 rfl _).symm
  | 4 => exact (U6_ne m c _ (by decide)).trans ((dat2 (asContents (U5 m)) c).arrAt_in 4 rfl _).symm
  | 5 => exact (U6_ne m c _ (by decide)).trans ((dat2 (asContents (U5 m)) c).arrAt_in 5 rfl _).symm
  | 6 => exact (U6_ne m c _ (by decide)).trans ((dat2 (asContents (U5 m)) c).arrAt_in 6 rfl _).symm
  | 7 => exact (U6_ne m c _ (by decide)).trans ((dat2 (asContents (U5 m)) c).arrAt_in 7 rfl _).symm
  | 8 => exact (U6_ne m c _ (by decide)).trans ((dat2 (asContents (U5 m)) c).arrAt_in 8 rfl _).symm
  | 9 => exact (U6_ne m c _ (by decide)).trans ((dat2 (asContents (U5 m)) c).arrAt_in 9 rfl _).symm
  | 10 => exact (U6_ne m c _ (by decide)).trans ((dat2 (asContents (U5 m)) c).arrAt_in 10 rfl _).symm
  | 11 => exact U6_main_v30_0 m c
  | 12 => exact U6_main_v30_1 m c
  | 13 => exact U6_main_v30_2 m c
  | 14 => exact U6_main_v30_3 m c
  | ⟨n + 15, h⟩ => exact absurd h (Nat.not_lt.2 (Nat.le_add_left _ _))

theorem other2 (c : Dev nD) (b : Ref sig .tc) (h : ∀ w, Pipeline.arrRef spec2 w ≠ b) : U6 m c b = U5 m c b :=
  U6_ne m c b (by
    simp only [List.mem_cons, List.not_mem_nil, or_false, not_or]
    exact ⟨fun e => h 11 e.symm, fun e => h 12 e.symm, fun e => h 13 e.symm, fun e => h 14 e.symm⟩)

/-- Call 2 as an item of the program. -/
def reg2 : Pipeline.RegionSeg (pcfgs (F := F)) adm (pdats m) () defs₀ Variants.none L lv 2 :=
  seg (pdats m) 2 launch2 (asContents (U5 m)) (asContents (U6 m)) (fun _ => BI.emp)
    (fun _ _ => rfl) (fun _ _ => rfl) (fun _ _ => rfl) (fun _ _ => rfl) (fun c w => dat2_A (asContents (U5 m)) c w)
    (fun c => body_obligation2 (asContents (U5 m)) c) (out2 m) (other2 m)

set_option maxHeartbeats 4000000 in
/-- Every array of call 3 ends at what the buffers after it say. -/
theorem out3 (c : Dev nD) (w : Fin cfg3.W) : U8 m c (Pipeline.arrRef spec3 w) = (pdats m 3 c).arrAt w cfg3.N := by
  match w with
  | 0 => exact (U8_ne m c _ (by decide)).trans ((dat3 (asContents (U7 m)) c).arrAt_in 0 rfl _).symm
  | 1 => exact (U8_ne m c _ (by decide)).trans ((dat3 (asContents (U7 m)) c).arrAt_in 1 rfl _).symm
  | 2 => exact (U8_ne m c _ (by decide)).trans ((dat3 (asContents (U7 m)) c).arrAt_in 2 rfl _).symm
  | 3 => exact (U8_ne m c _ (by decide)).trans ((dat3 (asContents (U7 m)) c).arrAt_in 3 rfl _).symm
  | 4 => exact (U8_ne m c _ (by decide)).trans ((dat3 (asContents (U7 m)) c).arrAt_in 4 rfl _).symm
  | 5 => exact (U8_ne m c _ (by decide)).trans ((dat3 (asContents (U7 m)) c).arrAt_in 5 rfl _).symm
  | 6 => exact (U8_ne m c _ (by decide)).trans ((dat3 (asContents (U7 m)) c).arrAt_in 6 rfl _).symm
  | 7 => exact (U8_ne m c _ (by decide)).trans ((dat3 (asContents (U7 m)) c).arrAt_in 7 rfl _).symm
  | 8 => exact (U8_ne m c _ (by decide)).trans ((dat3 (asContents (U7 m)) c).arrAt_in 8 rfl _).symm
  | 9 => exact (U8_ne m c _ (by decide)).trans ((dat3 (asContents (U7 m)) c).arrAt_in 9 rfl _).symm
  | 10 => exact (U8_ne m c _ (by decide)).trans ((dat3 (asContents (U7 m)) c).arrAt_in 10 rfl _).symm
  | 11 => exact (U8_ne m c _ (by decide)).trans ((dat3 (asContents (U7 m)) c).arrAt_in 11 rfl _).symm
  | 12 => exact (U8_ne m c _ (by decide)).trans ((dat3 (asContents (U7 m)) c).arrAt_in 12 rfl _).symm
  | 13 => exact (U8_ne m c _ (by decide)).trans ((dat3 (asContents (U7 m)) c).arrAt_in 13 rfl _).symm
  | 14 => exact U8_main_v37 m c
  | ⟨n + 15, h⟩ => exact absurd h (Nat.not_lt.2 (Nat.le_add_left _ _))

theorem other3 (c : Dev nD) (b : Ref sig .tc) (h : ∀ w, Pipeline.arrRef spec3 w ≠ b) : U8 m c b = U7 m c b :=
  U8_ne m c b (by
    simp only [List.mem_cons, List.not_mem_nil, or_false]
    exact fun e => h 14 e.symm)

/-- Call 3 as an item of the program. -/
def reg3 (h3 : GatherInside3 m) : Pipeline.RegionSeg (pcfgs (F := F)) adm (pdats m) () defs₀ Variants.none L lv 3 :=
  seg (pdats m) 3 launch3 (asContents (U7 m)) (asContents (U8 m)) (fun _ => BI.emp)
    (fun _ _ => rfl) (fun _ _ => rfl) (fun _ _ => rfl) (fun _ _ => rfl) (fun c w => dat3_A (asContents (U7 m)) c w)
    (fun c => body_obligation3 (asContents (U7 m)) h3 c) (out3 m) (other3 m)

/-- The buffers of a core, one by one or together. -/
theorem held_iff (c : Dev nD) (W W' : Valuation τ sig (Elt F)) (h : W = W') :
    (StableHlo.held (c : Thread nD τ) (Pipeline.ucRefs τ sig) W : sProp 𝕄) = unscopedBufs c (fun b => W' b) := by
  subst h; exact (Pipeline.unscopedBufs_held c W).symm

set_option maxHeartbeats 1600000 in
set_option backward.isDefEq.respectTransparency.types false in
/-- Every weakly fair execution of the program ends, every buffer of a core at the contents after the last item and every semaphore at zero. -/
theorem run_main (h1 : GatherInside1 m) (h3 : GatherInside3 m) : θ_run (defs (F := F)) (onTc (τ := τ) (main (F := F))) ⟨m, fun _ => 0, ρ⟩
    (fun r => (∀ c : Dev nD, ∀ b ∈ Pipeline.ucRefs τ sig, r.2.mem ((c : Thread nD τ).1, b) = U9 m c b) ∧ r.2.sem = fun _ => 0) := by
  have hE : ∀ c, (rest c : sProp 𝕄) ⊢ ∃ W, owes (c : Thread nD τ) (0 : CellTallies nD τ sig Unit) W := fun c => by
    iintro ⟨-, H⟩; iexact H
  refine Pipeline.θ_run_regions_kit_dev_sems (pcfgs (F := F)) adm (pdats m) () cellOf_inj emb₁ defs₀ Variants.none L lv m ρ main
    (segs m (outs m) Variants.none L lv (fun _ c => rest c) () (pdats m) (reg0 m) (reg1 m h1) (reg2 m) (reg3 m h3))
    (fun c Q => by
      rewrite [main_chain c, Pipeline.Seg.run_eq_chain, show (segs m (outs m) Variants.none L lv (fun _ c => rest c) () (pdats m) (reg0 m) (reg1 m h1) (reg2 m) (reg3 m h3) c).map Pipeline.Seg.prog = [StableHlo.seq hostOps0, Prog.lift (.customCall (Pipeline.entry 0) ()), StableHlo.seq hostOps1, Prog.lift (.customCall (Pipeline.entry 1) ()), StableHlo.seq hostOps2, Prog.lift (.customCall (Pipeline.entry 2) ()), StableHlo.seq hostOps3, Prog.lift (.customCall (Pipeline.entry 3) ()), StableHlo.seq hostOps4] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => BI.emp)
    (initOf (Pipeline.cells (Pipeline.pin (pcfgs (F := F)) adm) cellOf_inj) (Pipeline.launchToks (Pipeline.pin (pcfgs (F := F)) adm) cellOf_inj))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (V9 m (outs m) c))
    (hch := fun c => ⟨.rfl, ?_, ?_, ?_, ?_, ?_, ?_, ?_, ?_, sep_mono .rfl (hE c)⟩)
    (hinit := ?_) (QY := fun c s => ∀ b ∈ Pipeline.ucRefs τ sig, s.mem ((c : Thread nD τ).1, b) = U9 m c b)
    (hfin := fun c s' => ?_) (hQ := fun _ h hz => ⟨h, funext fun g => hz g (.inr (regions_no_unscoped g.2))⟩)
  · iintro Hu; imodintro
    isplitl [Hu]; · iapply (show (ownU (initOf (Pipeline.cells (Pipeline.pin (pcfgs (F := F)) adm) cellOf_inj) (Pipeline.launchToks (Pipeline.pin (pcfgs (F := F)) adm) cellOf_inj)) : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
    iapply (show (BI.emp : sProp 𝕄) ⊢ bigSep Finset.univ (fun _ : Dev nD => (BI.emp : sProp 𝕄)) from by rw [BI.bigSep_emp_const])
    iempintro
  · exact sep_mono (held_iff c _ _ (V1_eq m c)).le .rfl
  · exact sep_mono (held_iff c _ _ (V2_eq m c)).ge .rfl
  · exact sep_mono (held_iff c _ _ (V3_eq m c)).le .rfl
  · exact sep_mono (held_iff c _ _ (V4_eq m c)).ge .rfl
  · exact sep_mono (held_iff c _ _ (V5_eq m c)).le .rfl
  · exact sep_mono (held_iff c _ _ (V6_eq m c)).ge .rfl
  · exact sep_mono (held_iff c _ _ (V7_eq m c)).le .rfl
  · exact sep_mono (held_iff c _ _ (V8_eq m c)).ge .rfl
  · refine Pipeline.initEach L lv fun c => ?_
    rw [Pipeline.unscopedBufs_held c (V0 m c)]
    iintro ⟨⟨Hh, -, HO, -, -, -⟩, -⟩
    imodintro
    isplitl [Hh]; · iexact Hh
    isplitr; · iempintro
    iexists ∅; iexact HO
  · rw [V9_eq m c]
    unfold StableHlo.held
    iintro ⟨Hh, HSI⟩
    ihave Hr := (pointsTo_read_all (Pipeline.ucRefs τ sig) (fun b => ((c : Thread nD τ).1, b)) (U9 m c) s') $$ [Hh HSI]
    · isplitl [Hh] <;> iassumption
    icases Hr with ⟨%h, HSI⟩
    imodintro; isplitr
    · ipureintro; exact h
    iexact HSI

end Cert.KernelIdeal.Run

end
-- ==== Proof.IdealRun.Inside.lean ====
module

public import proofs.«01_k».proof.Proof.IdealRun.Run
public import Idealize.ShloMosaic.Lib.Pipeline.ValueKit.Geometry
public import Idealize.ShloMosaic.Lib.Pointwise

/-! The windows the two gridded calls gather from lie in the table when every graph number is below 512. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Every edge's graph number is below 512. -/
def BatchBelow : Prop := ∀ (c : Dev nD) (i : S320000.Idx), (m ((c : Thread nD τ).loc main_arg2) i : BitVec 32).toNat < 512

/-- The window's first row, and its room in the table, for each of the 512 graph numbers. -/
theorem lane_of : ∀ n : Fin 512, (lane (BitVec.ofNat 32 n.val)).toNat = n.val / 8 * 8 := by decide +kernel
theorem lane_toNat (v : BitVec 32) (h : v.toNat < 512) : (lane v).toNat = v.toNat / 8 * 8 := by
  have := lane_of ⟨v.toNat, h⟩
  rwa [show BitVec.ofNat 32 v.toNat = v from by simp] at this
theorem off_room : ∀ n : Fin 512, (∀ a, k1_off2 (BitVec.ofNat 32 n.val) a + S128x128.size a ≤ S640x128.size a)
    ∧ (∀ a, k1_off3 (BitVec.ofNat 32 n.val) a + S128x128.size a ≤ S640x128.size a)
    ∧ (∀ a, k1_off4 (BitVec.ofNat 32 n.val) a + S128x1.size a ≤ S640x1.size a)
    ∧ (∀ a, k3_off2 (BitVec.ofNat 32 n.val) a + S128x256.size a ≤ S640x256.size a)
    ∧ (∀ a, k3_off3 (BitVec.ofNat 32 n.val) a + S128x1.size a ≤ S640x1.size a) := by decide +kernel

theorem chk1_of (v w : BitVec 32) (h : v.toNat < 512) : k1_chk1 v w := by
  have := off_room ⟨v.toNat, h⟩
  rw [show BitVec.ofNat 32 v.toNat = v from by simp] at this
  exact ⟨fun _ => this.1, fun _ => this.2.1, fun _ => this.2.2.1⟩
theorem chk3_of (v w : BitVec 32) (h : v.toNat < 512) : k3_chk1 v w := by
  have := off_room ⟨v.toNat, h⟩
  rw [show BitVec.ofNat 32 v.toNat = v from by simp] at this
  exact ⟨fun _ => this.2.2.2.1, fun _ => this.2.2.2.2⟩

/-- The arguments reach the calls unchanged. -/
theorem U2_main_arg2 (c : Dev nD) : U2 m c main_arg2 = m ((c : Thread nD τ).loc main_arg2) :=
  (U2_ne m c main_arg2 (by decide)).trans ((congrFun (V1_eq m c).symm _).trans ((V1_of m c main_arg2 (by decide)).trans rfl))

/-- The two rows of graph numbers, the first and the last of each block of edges. -/
theorem U3_main_v11 (c : Dev nD) : U3 m c main_v11 = Host.slice S160 ![0] ![2000] (m ((c : Thread nD τ).loc main_arg2) : IVec S320000 32) slicesBy_S320000_S160_0s2000 := by
  have h : U3 m c main_v11 = Host.slice S160 ![0] ![2000] (U2 m c main_arg2 : IVec S320000 32) slicesBy_S320000_S160_0s2000 := by
    show StableHlo.after hostOps1 _ (Proc.devRef .tc main_v11) = _
    after_results
    try rfl
  rw [h, U2_main_arg2]
theorem U3_main_v12 (c : Dev nD) : U3 m c main_v12 = Host.slice S160 ![1999] ![2000] (m ((c : Thread nD τ).loc main_arg2) : IVec S320000 32) slicesBy_S320000_S160_1999s2000 := by
  have h : U3 m c main_v12 = Host.slice S160 ![1999] ![2000] (U2 m c main_arg2 : IVec S320000 32) slicesBy_S320000_S160_1999s2000 := by
    show StableHlo.after hostOps1 _ (Proc.devRef .tc main_v12) = _
    after_results
    try rfl
  rw [h, U2_main_arg2]
theorem U7_main_v11 (c : Dev nD) : U7 m c main_v11 = U3 m c main_v11 := by
  rw [← V7_eq, ← V3_eq]
  exact (V7_of m (outs m) c main_v11 (by decide)).trans <| (V6_of m (outs m) c main_v11 (by decide)).trans <| (V5_of m (outs m) c main_v11 (by decide)).trans <| V4_of m (outs m) c main_v11 (by decide)
theorem U7_main_v12 (c : Dev nD) : U7 m c main_v12 = U3 m c main_v12 := by
  rw [← V7_eq, ← V3_eq]
  exact (V7_of m (outs m) c main_v12 (by decide)).trans <| (V6_of m (outs m) c main_v12 (by decide)).trans <| (V5_of m (outs m) c main_v12 (by decide)).trans <| V4_of m (outs m) c main_v12 (by decide)

/-- A word of a row held whole by its window. -/
theorem blk1_word0 (V : Contents (F := F)) (c : Dev nD) (t : Fin cfg1.N) : (blk1 V c 0 t : Vec F S160 .i32) = V c main_v11 := by
  funext y
  refine congrArg (V c main_v11) ?_
  funext a; apply Fin.ext
  match a with
  | ⟨0, _⟩ => exact Pipeline.Window.rect_emb_val_of_index_zero win1_0 t 0 rfl y
theorem blk1_word1 (V : Contents (F := F)) (c : Dev nD) (t : Fin cfg1.N) : (blk1 V c 1 t : Vec F S160 .i32) = V c main_v12 := by
  funext y
  refine congrArg (V c main_v12) ?_
  funext a; apply Fin.ext
  match a with
  | ⟨0, _⟩ => exact Pipeline.Window.rect_emb_val_of_index_zero win1_1 t 0 rfl y
theorem blk3_word0 (V : Contents (F := F)) (c : Dev nD) (t : Fin cfg3.N) : (blk3 V c 0 t : Vec F S160 .i32) = V c main_v11 := by
  funext y
  refine congrArg (V c main_v11) ?_
  funext a; apply Fin.ext
  match a with
  | ⟨0, _⟩ => exact Pipeline.Window.rect_emb_val_of_index_zero win3_0 t 0 rfl y
theorem blk3_word1 (V : Contents (F := F)) (c : Dev nD) (t : Fin cfg3.N) : (blk3 V c 1 t : Vec F S160 .i32) = V c main_v12 := by
  funext y
  refine congrArg (V c main_v12) ?_
  funext a; apply Fin.ext
  match a with
  | ⟨0, _⟩ => exact Pipeline.Window.rect_emb_val_of_index_zero win3_1 t 0 rfl y

theorem inside1 (h : BatchBelow m) : GatherInside1 m := fun c t => by
  rw [blk1_word0]
  refine chk1_of _ _ ?_
  show (U3 m c main_v11 _ : BitVec 32).toNat < 512
  rw [U3_main_v11]
  exact h c _
theorem inside3 (h : BatchBelow m) : GatherInside3 m := fun c t => by
  rw [blk3_word0]
  refine chk3_of _ _ ?_
  show (U7 m c main_v11 _ : BitVec 32).toNat < 512
  rw [U7_main_v11, U3_main_v11]
  exact h c _

/-- What a run that ends as `run_main` says leaves in the arguments. -/
theorem args_kept (c : Dev nD) (s : MemSt nD τ sig (Elt F))
    (h : ∀ c : Dev nD, ∀ b ∈ Pipeline.ucRefs τ sig, s.mem ((c : Thread nD τ).1, b) = U9 m c b) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8)
      ∧ s.mem ((c : Thread nD τ).loc main_arg9) = m ((c : Thread nD τ).loc main_arg9)
      ∧ s.mem ((c : Thread nD τ).loc main_arg10) = m ((c : Thread nD τ).loc main_arg10)
      ∧ s.mem ((c : Thread nD τ).loc main_arg11) = m ((c : Thread nD τ).loc main_arg11)
      ∧ s.mem ((c : Thread nD τ).loc main_arg12) = m ((c : Thread nD τ).loc main_arg12)
      ∧ s.mem ((c : Thread nD τ).loc main_arg13) = m ((c : Thread nD τ).loc main_arg13)
      ∧ s.mem ((c : Thread nD τ).loc main_arg14) = m ((c : Thread nD τ).loc main_arg14)
      ∧ s.mem ((c : Thread nD τ).loc main_arg15) = m ((c : Thread nD τ).loc main_arg15)
      ∧ s.mem ((c : Thread nD τ).loc main_arg16) = m ((c : Thread nD τ).loc main_arg16)
      ∧ s.mem ((c : Thread nD τ).loc main_arg17) = m ((c : Thread nD τ).loc main_arg17)
      ∧ s.mem ((c : Thread nD τ).loc main_arg18) = m ((c : Thread nD τ).loc main_arg18)
      ∧ s.mem ((c : Thread nD τ).loc main_arg19) = m ((c : Thread nD τ).loc main_arg19)
      ∧ s.mem ((c : Thread nD τ).loc main_arg20) = m ((c : Thread nD τ).loc main_arg20)
      ∧ s.mem ((c : Thread nD τ).loc main_arg21) = m ((c : Thread nD τ).loc main_arg21)
      ∧ s.mem ((c : Thread nD τ).loc main_arg22) = m ((c : Thread nD τ).loc main_arg22)
      ∧ s.mem ((c : Thread nD τ).loc main_arg23) = m ((c : Thread nD τ).loc main_arg23)
      ∧ s.mem ((c : Thread nD τ).loc main_arg24) = m ((c : Thread nD τ).loc main_arg24)
      ∧ s.mem ((c : Thread nD τ).loc main_arg25) = m ((c : Thread nD τ).loc main_arg25)
      ∧ s.mem ((c : Thread nD τ).loc main_arg26) = m ((c : Thread nD τ).loc main_arg26)
      ∧ s.mem ((c : Thread nD τ).loc main_arg27) = m ((c : Thread nD τ).loc main_arg27)
      ∧ s.mem ((c : Thread nD τ).loc main_arg28) = m ((c : Thread nD τ).loc main_arg28)
      ∧ s.mem ((c : Thread nD τ).loc main_arg29) = m ((c : Thread nD τ).loc main_arg29)
      ∧ s.mem ((c : Thread nD τ).loc main_arg30) = m ((c : Thread nD τ).loc main_arg30)
      ∧ s.mem ((c : Thread nD τ).loc main_arg31) = m ((c : Thread nD τ).loc main_arg31)
      ∧ s.mem ((c : Thread nD τ).loc main_arg32) = m ((c : Thread nD τ).loc main_arg32) :=
  ⟨(h c (Proc.devRef .tc main_arg0) (Finset.mem_filter.mpr ⟨StableHlo.devRef_mem_tcRefs main_arg0, by decide⟩)).trans ((congrFun (V9_eq m c).symm _).trans (V9_main_arg0 m (outs m) c)),
    (h c (Proc.devRef .tc main_arg1) (Finset.mem_filter.mpr ⟨StableHlo.devRef_mem_tcRefs main_arg1, by decide⟩)).trans ((congrFun (V9_eq m c).symm _).trans (V9_main_arg1 m (outs m) c)),
    (h c (Proc.devRef .tc main_arg2) (Finset.mem_filter.mpr ⟨StableHlo.devRef_mem_tcRefs main_arg2, by decide⟩)).trans ((congrFun (V9_eq m c).symm _).trans (V9_main_arg2 m (outs m) c)),
    (h c (Proc.devRef .tc main_arg3) (Finset.mem_filter.mpr ⟨StableHlo.devRef_mem_tcRefs main_arg3, by decide⟩)).trans ((congrFun (V9_eq m c).symm _).trans (V9_main_arg3 m (outs m) c)),
    (h c (Proc.devRef .tc main_arg4) (Finset.mem_filter.mpr ⟨StableHlo.devRef_mem_tcRefs main_arg4, by decide⟩)).trans ((congrFun (V9_eq m c).symm _).trans (V9_main_arg4 m (outs m) c)),
    (h c (Proc.devRef .tc main_arg5) (Finset.mem_filter.mpr ⟨StableHlo.devRef_mem_tcRefs main_arg5, by decide⟩)).trans ((congrFun (V9_eq m c).symm _).trans (V9_main_arg5 m (outs m) c)),
    (h c (Proc.devRef .tc main_arg6) (Finset.mem_filter.mpr ⟨StableHlo.devRef_mem_tcRefs main_arg6, by decide⟩)).trans ((congrFun (V9_eq m c).symm _).trans (V9_main_arg6 m (outs m) c)),
    (h c (Proc.devRef .tc main_arg7) (Finset.mem_filter.mpr ⟨StableHlo.devRef_mem_tcRefs main_arg7, by decide⟩)).trans ((congrFun (V9_eq m c).symm _).trans (V9_main_arg7 m (outs m) c)),
    (h c (Proc.devRef .tc main_arg8) (Finset.mem_filter.mpr ⟨StableHlo.devRef_mem_tcRefs main_arg8, by decide⟩)).trans ((congrFun (V9_eq m c).symm _).trans (V9_main_arg8 m (outs m) c)),
    (h c (Proc.devRef .tc main_arg9) (Finset.mem_filter.mpr ⟨StableHlo.devRef_mem_tcRefs main_arg9, by decide⟩)).trans ((congrFun (V9_eq m c).symm _).trans (V9_main_arg9 m (outs m) c)),
    (h c (Proc.devRef .tc main_arg10) (Finset.mem_filter.mpr ⟨StableHlo.devRef_mem_tcRefs main_arg10, by decide⟩)).trans ((congrFun (V9_eq m c).symm _).trans (V9_main_arg10 m (outs m) c)),
    (h c (Proc.devRef .tc main_arg11) (Finset.mem_filter.mpr ⟨StableHlo.devRef_mem_tcRefs main_arg11, by decide⟩)).trans ((congrFun (V9_eq m c).symm _).trans (V9_main_arg11 m (outs m) c)),
    (h c (Proc.devRef .tc main_arg12) (Finset.mem_filter.mpr ⟨StableHlo.devRef_mem_tcRefs main_arg12, by decide⟩)).trans ((congrFun (V9_eq m c).symm _).trans (V9_main_arg12 m (outs m) c)),
    (h c (Proc.devRef .tc main_arg13) (Finset.mem_filter.mpr ⟨StableHlo.devRef_mem_tcRefs main_arg13, by decide⟩)).trans ((congrFun (V9_eq m c).symm _).trans (V9_main_arg13 m (outs m) c)),
    (h c (Proc.devRef .tc main_arg14) (Finset.mem_filter.mpr ⟨StableHlo.devRef_mem_tcRefs main_arg14, by decide⟩)).trans ((congrFun (V9_eq m c).symm _).trans (V9_main_arg14 m (outs m) c)),
    (h c (Proc.devRef .tc main_arg15) (Finset.mem_filter.mpr ⟨StableHlo.devRef_mem_tcRefs main_arg15, by decide⟩)).trans ((congrFun (V9_eq m c).symm _).trans (V9_main_arg15 m (outs m) c)),
    (h c (Proc.devRef .tc main_arg16) (Finset.mem_filter.mpr ⟨StableHlo.devRef_mem_tcRefs main_arg16, by decide⟩)).trans ((congrFun (V9_eq m c).symm _).trans (V9_main_arg16 m (outs m) c)),
    (h c (Proc.devRef .tc main_arg17) (Finset.mem_filter.mpr ⟨StableHlo.devRef_mem_tcRefs main_arg17, by decide⟩)).trans ((congrFun (V9_eq m c).symm _).trans (V9_main_arg17 m (outs m) c)),
    (h c (Proc.devRef .tc main_arg18) (Finset.mem_filter.mpr ⟨StableHlo.devRef_mem_tcRefs main_arg18, by decide⟩)).trans ((congrFun (V9_eq m c).symm _).trans (V9_main_arg18 m (outs m) c)),
    (h c (Proc.devRef .tc main_arg19) (Finset.mem_filter.mpr ⟨StableHlo.devRef_mem_tcRefs main_arg19, by decide⟩)).trans ((congrFun (V9_eq m c).symm _).trans (V9_main_arg19 m (outs m) c)),
    (h c (Proc.devRef .tc main_arg20) (Finset.mem_filter.mpr ⟨StableHlo.devRef_mem_tcRefs main_arg20, by decide⟩)).trans ((congrFun (V9_eq m c).symm _).trans (V9_main_arg20 m (outs m) c)),
    (h c (Proc.devRef .tc main_arg21) (Finset.mem_filter.mpr ⟨StableHlo.devRef_mem_tcRefs main_arg21, by decide⟩)).trans ((congrFun (V9_eq m c).symm _).trans (V9_main_arg21 m (outs m) c)),
    (h c (Proc.devRef .tc main_arg22) (Finset.mem_filter.mpr ⟨StableHlo.devRef_mem_tcRefs main_arg22, by decide⟩)).trans ((congrFun (V9_eq m c).symm _).trans (V9_main_arg22 m (outs m) c)),
    (h c (Proc.devRef .tc main_arg23) (Finset.mem_filter.mpr ⟨StableHlo.devRef_mem_tcRefs main_arg23, by decide⟩)).trans ((congrFun (V9_eq m c).symm _).trans (V9_main_arg23 m (outs m) c)),
    (h c (Proc.devRef .tc main_arg24) (Finset.mem_filter.mpr ⟨StableHlo.devRef_mem_tcRefs main_arg24, by decide⟩)).trans ((congrFun (V9_eq m c).symm _).trans (V9_main_arg24 m (outs m) c)),
    (h c (Proc.devRef .tc main_arg25) (Finset.mem_filter.mpr ⟨StableHlo.devRef_mem_tcRefs main_arg25, by decide⟩)).trans ((congrFun (V9_eq m c).symm _).trans (V9_main_arg25 m (outs m) c)),
    (h c (Proc.devRef .tc main_arg26) (Finset.mem_filter.mpr ⟨StableHlo.devRef_mem_tcRefs main_arg26, by decide⟩)).trans ((congrFun (V9_eq m c).symm _).trans (V9_main_arg26 m (outs m) c)),
    (h c (Proc.devRef .tc main_arg27) (Finset.mem_filter.mpr ⟨StableHlo.devRef_mem_tcRefs main_arg27, by decide⟩)).trans ((congrFun (V9_eq m c).symm _).trans (V9_main_arg27 m (outs m) c)),
    (h c (Proc.devRef .tc main_arg28) (Finset.mem_filter.mpr ⟨StableHlo.devRef_mem_tcRefs main_arg28, by decide⟩)).trans ((congrFun (V9_eq m c).symm _).trans (V9_main_arg28 m (outs m) c)),
    (h c (Proc.devRef .tc main_arg29) (Finset.mem_filter.mpr ⟨StableHlo.devRef_mem_tcRefs main_arg29, by decide⟩)).trans ((congrFun (V9_eq m c).symm _).trans (V9_main_arg29 m (outs m) c)),
    (h c (Proc.devRef .tc main_arg30) (Finset.mem_filter.mpr ⟨StableHlo.devRef_mem_tcRefs main_arg30, by decide⟩)).trans ((congrFun (V9_eq m c).symm _).trans (V9_main_arg30 m (outs m) c)),
    (h c (Proc.devRef .tc main_arg31) (Finset.mem_filter.mpr ⟨StableHlo.devRef_mem_tcRefs main_arg31, by decide⟩)).trans ((congrFun (V9_eq m c).symm _).trans (V9_main_arg31 m (outs m) c)),
    (h c (Proc.devRef .tc main_arg32) (Finset.mem_filter.mpr ⟨StableHlo.devRef_mem_tcRefs main_arg32, by decide⟩)).trans ((congrFun (V9_eq m c).symm _).trans (V9_main_arg32 m (outs m) c))⟩

end Cert.KernelIdeal.Run

end
-- ==== Proof.Frames.lean ====
module

public import proofs.«01_k».proof.Defs
public import proofs.«01_k».proof.Proof.Preconds
public import proofs.«01_k».proof.Proof.IdealRun.Inside
public import proofs.«01_k».proof.Proof.PlainRun.Inside
public import proofs.«01_k».proof.Proof.Gen.ReferenceIdeal.Run

/-! The runs: each program ends, leaves its arguments as they were and every semaphore at zero; and the named constant is the square root of two. -/

@[expose] public section

set_option maxRecDepth 16384

noncomputable section

namespace Cert.Frames

open Idealize.ShloMosaic Idealize.ShloMosaic.TcCoe Idealize.SL.Sem

attribute [local instance] Cert.Preconds.batchFacts Cert.Preconds.orderFacts

theorem kernel : Cert.quiescent_Kernel := fun m g hpre => by
  have hb : Cert.Kernel.Run.BatchBelow m := fun c i => Cert.Preconds.below_of _ _ _ _ _ _ _ _ _ _ _ _ _ _ _ _ _ _ _ _ _ _ _ _ _ _ _ _ _ _ _ _ _ (hpre c) i
  exact (θ_run _ _ _).mono (fun r h => ⟨fun c => Cert.Kernel.Run.args_kept m c r.2 h.1, h.2⟩)
    (Cert.Kernel.Run.run_main m g (Cert.Kernel.Run.inside1 m hb) (Cert.Kernel.Run.inside3 m hb))

theorem ideal : Cert.quiescent_KernelIdeal := fun m g hpre => by
  have hb : Cert.KernelIdeal.Run.BatchBelow m := fun c i => Cert.Preconds.below_of _ _ _ _ _ _ _ _ _ _ _ _ _ _ _ _ _ _ _ _ _ _ _ _ _ _ _ _ _ _ _ _ _ (hpre c) i
  exact (θ_run _ _ _).mono (fun r h => ⟨fun c => Cert.KernelIdeal.Run.args_kept m c r.2 h.1, h.2⟩)
    (Cert.KernelIdeal.Run.run_main m g (Cert.KernelIdeal.Run.inside1 m hb) (Cert.KernelIdeal.Run.inside3 m hb))

theorem reference : Cert.quiescent_ReferenceIdeal := fun m g _ =>
  (θ_run _ _ _).mono (fun r h => ⟨fun c => (h c).2.2.2, sem_eq_zero_of_no_sems (by decide) r.2⟩)
    (Cert.ReferenceIdeal.Value.run (F := Ideal) m g)

theorem constant : Cert.preserves_Kernel_KernelIdeal := IdealRules.named_const.statement _ _ _ _ _ rfl
theorem idealOrdered : Cert.quiescent_KernelIdeal_pre_edges_in_order := fun m g hpre => by
  have hb : Cert.KernelIdeal.Run.BatchBelow m := fun c i => (Cert.Preconds.ordered_of _ _ _ _ _ _ _ _ _ _ _ _ _ _ _ _ _ _ _ _ _ _ _ _ _ _ _ _ _ _ _ _ _ (hpre c)).1 i
  exact (θ_run _ _ _).mono (fun r h => ⟨fun c => Cert.KernelIdeal.Run.args_kept m c r.2 h.1, h.2⟩)
    (Cert.KernelIdeal.Run.run_main m g (Cert.KernelIdeal.Run.inside1 m hb) (Cert.KernelIdeal.Run.inside3 m hb))

theorem referenceOrdered : Cert.quiescent_ReferenceIdeal_pre_edges_in_order := fun m g _ =>
  (θ_run _ _ _).mono (fun r h => ⟨fun c => (h c).2.2.2, sem_eq_zero_of_no_sems (by decide) r.2⟩)
    (Cert.ReferenceIdeal.Value.run (F := Ideal) m g)

end Cert.Frames

end
-- ==== Proof.Val.Spec.lean ====
module

public import Idealize.ShloMosaic.PureOps.Ideal
public import Idealize.ShloMosaic.PureOps.Ideal.Laws
public import Idealize.ShloMosaic.Lib.IdealHost
public import Mathlib.Data.EReal.Operations
public import Mathlib.Data.EReal.Inv

/-! The mathematics both programs compute, row by row over the extended reals: the normalisation of a row, a dense layer, the GELU,
the sums over the edges of a graph, and the two heads. Two ways of writing each of them are shown to agree. -/

@[expose] public section

noncomputable section

namespace Cert.Spec

open Idealize.ShloMosaic

abbrev w128 : EReal := Ideal.ofBits .f32 0x43000000#32
abbrev w256 : EReal := Ideal.ofBits .f32 0x43800000#32
abbrev eps : EReal := Ideal.ofBits .f32 0x3727C5AC#32
abbrev half : EReal := Ideal.ofBits .f32 0x3F000000#32
abbrev rootTwo : EReal := ((Real.sqrt 2 : ℝ) : EReal)

variable {n k : ℕ}

/-- The mean of a row, `c` being its length. -/
def mean (c : EReal) (x : Fin n → EReal) : EReal := Ideal.div (∑ i, x i) c
/-- The variance of a row. -/
def var (c : EReal) (x : Fin n → EReal) : EReal := Ideal.div (∑ i, (x i - mean c x) * (x i - mean c x)) c
/-- The normalised row, scaled by `g` and shifted by `b`. -/
def norm (c : EReal) (x g b : Fin n → EReal) (i : Fin n) : EReal := (x i - mean c x) * Ideal.rsqrt (var c x + eps) * g i + b i
/-- The exact GELU. -/
def gelu (z : EReal) : EReal := z * half * (1 + Ideal.erf (Ideal.div z rootTwo))
/-- A row through a dense layer. -/
def dense (x : Fin n → EReal) (W : Fin n → Fin k → EReal) (d : Fin k → EReal) (j : Fin k) : EReal := ∑ i, x i * W i j + d j
/-- Normalise, dense layer, GELU. -/
def layer (c : EReal) (x g b : Fin n → EReal) (W : Fin n → Fin k → EReal) (d : Fin k → EReal) (j : Fin k) : EReal := gelu (dense (norm c x g b) W d j)
/-- Two rows of 128 laid side by side. -/
def glue (a b : Fin 128 → EReal) (i : Fin 256) : EReal := if h : i.val < 128 then a ⟨i.val, h⟩ else b ⟨i.val - 128, by omega⟩
/-- A head: two rows side by side, a layer to 128, and a dense layer to one number. -/
def head (a b : Fin 128 → EReal) (g d : Fin 256 → EReal) (W : Fin 256 → Fin 128 → EReal) (c : Fin 128 → EReal) (W' : Fin 128 → EReal) (c' : EReal) : EReal :=
  ∑ i, layer w256 (glue a b) g d W c i * W' i + c'

theorem eps_pos : 0 < eps := by
  simp [eps, Ideal.ofBits, Ideal.ieee, -EReal.coe_mul]
theorem w128_pos : 0 < w128 := by
  simp [w128, Ideal.ofBits, Ideal.ieee, -EReal.coe_mul]
theorem w256_pos : 0 < w256 := by
  simp [w256, Ideal.ofBits, Ideal.ieee, -EReal.coe_mul]

theorem div_of_ne {x y : EReal} (h : y ≠ 0) : Ideal.div x y = x * y⁻¹ := by rw [Ideal.div, if_neg h]
theorem div_nonneg {x y : EReal} (hx : 0 ≤ x) (hy : 0 < y) : 0 ≤ Ideal.div x y := by
  rw [div_of_ne hy.ne']
  exact mul_nonneg hx (EReal.inv_nonneg_of_nonneg hy.le)
theorem sq_nonneg' (x : EReal) : 0 ≤ x * x := by
  rcases le_total 0 x with h | h
  · exact mul_nonneg h h
  · have := mul_nonneg (EReal.neg_nonneg.2 h) (EReal.neg_nonneg.2 h)
    rwa [neg_mul_neg] at this
theorem var_nonneg {c : EReal} (hc : 0 < c) (x : Fin n → EReal) : 0 ≤ var c x :=
  div_nonneg (Finset.sum_nonneg fun i _ => sq_nonneg' _) hc

/-- Dividing by the square root of a positive number is multiplying by its reciprocal square root. -/
theorem div_sqrt (d : EReal) {w : EReal} (h : 0 < w) : Ideal.div d (Ideal.sqrt w) = d * Ideal.rsqrt w := by
  induction w with
  | bot => exact absurd h (by simp)
  | top => rw [Ideal.sqrt_top, Ideal.rsqrt_top, div_of_ne (by simp), EReal.inv_top]
  | coe r =>
    have hr : 0 < r := by exact_mod_cast h
    have hs := Real.sqrt_pos.2 hr
    rw [Ideal.rsqrt_coe, if_neg (not_lt.2 hr.le), if_neg hr.ne', Ideal.sqrt_coe, if_neg (not_lt.2 hr.le), div_of_ne (by exact_mod_cast hs.ne'), EReal.coe_inv]

/-- The normalised row, with a division by the square root. -/
theorem norm_eq {c : EReal} (hc : 0 < c) (x g b : Fin n → EReal) (i : Fin n) :
    Ideal.div (x i - mean c x) (Ideal.sqrt (var c x + eps)) * g i + b i = norm c x g b i := by
  rw [div_sqrt, norm]
  rw [add_comm]; exact EReal.add_pos_of_pos_of_nonneg eps_pos (var_nonneg hc x)

theorem rootTwo_ne : rootTwo ≠ 0 := by
  have : (0 : ℝ) < Real.sqrt 2 := by positivity
  exact fun h => this.ne' (EReal.coe_eq_zero.1 h)

/-- The GELU, with the complementary error function. -/
theorem gelu_eq (z : EReal) : half * z * Ideal.erfc (-z * rootTwo⁻¹) = gelu z := by
  rw [gelu, div_of_ne rootTwo_ne, neg_mul, Ideal.erfc_neg, mul_comm half z]

/-- A sum over two rows laid side by side. -/
theorem sum_glue (a b : Fin 128 → EReal) : ∑ i, glue a b i = ∑ i, a i + ∑ i, b i := by
  rw [show (∑ i, glue a b i) = ∑ i : Fin (128 + 128), glue a b i from rfl, Fin.sum_univ_add]
  refine congrArg₂ (· + ·) (Finset.sum_congr rfl fun i _ => ?_) (Finset.sum_congr rfl fun i _ => ?_)
  · rw [glue, dif_pos (show ((Fin.castAdd 128 i : Fin (128 + 128)) : ℕ) < 128 from i.isLt)]; rfl
  · rw [glue, dif_neg (show ¬ ((Fin.natAdd 128 i : Fin (128 + 128)) : ℕ) < 128 from by simp)]
    exact congrArg b (Fin.ext (by simp))

/-- The sum of one edge's row and its graph's sum over a count: the quotient of the sum, and the sum of the products with the reciprocal. -/
theorem quotient_eq (s x q : EReal) {m : EReal} (h0 : 0 ≤ m) (h1 : m ≠ ⊤) :
    Ideal.div (s + x) (m + 1) + q = x * Ideal.div 1 (m + 1) + (s * Ideal.div 1 (m + 1) + q) := by
  have hp : 0 < m + 1 := by rw [add_comm]; exact EReal.add_pos_of_pos_of_nonneg zero_lt_one h0
  have hn : m + 1 ≠ 0 := hp.ne'
  rw [div_of_ne hn, div_of_ne hn, one_mul, EReal.right_distrib_of_nonneg_of_ne_top (EReal.inv_nonneg_of_nonneg hp.le), add_comm (s * _), add_assoc]
  intro h
  induction m with
  | bot => exact absurd h0 (by simp)
  | top => exact h1 rfl
  | coe r =>
    rw [show ((r : EReal) + 1) = ((r + 1 : ℝ) : EReal) from by push_cast; rfl, ← EReal.coe_inv] at h
    exact EReal.coe_ne_top _ h

/-- One term of a sum picked out by a selector of ones and zeros. -/
theorem pick {N : ℕ} (sel : Fin N → EReal) (T : Fin N → EReal) (m : Fin N) (h : ∀ i, sel i = if i = m then 1 else 0) : ∑ i, sel i * T i = T m := by
  rw [Finset.sum_eq_single m]
  · rw [h, if_pos rfl, one_mul]
  · intro i _ hi; rw [h, if_neg hi, zero_mul]
  · intro hm; exact absurd (Finset.mem_univ _) hm

end Cert.Spec

end
-- ==== Proof.Val.Basic.lean ====
module

public import proofs.«01_k».proof.Proof.IdealRun.Inside
public import proofs.«01_k».proof.Proof.Val.Spec
public import Idealize.ShloMosaic.Lib.Pointwise

/-! How a row of an array is read through a window of rows, and the selector a comparison of two words gives. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

/-- Row `r` of an array of two axes. -/
abbrev r2 {a b : ℕ} (v : (⟨2, ![a, b]⟩ : Shape).Idx → EReal) (r : Fin a) : Fin b → EReal := fun i => v (ix2 r i)

theorem named_root : (Named.named κ "sqrt_two" 0x3FB504F3#32 : Ideal .f32) = rootTwo :=
  IdealRules.named_const.ideal_named_scalar κ "sqrt_two" _ _ rfl

/-- A comparison of two words, as a number. -/
theorem hot (a b : BitVec 32) : (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · rw [if_pos h, show IntOp.cmpi .eq a b = 1#1 from by simp [IntOp.cmpi, h]]
    norm_num
  · rw [if_neg h, show IntOp.cmpi .eq a b = 0#1 from by rw [show IntOp.cmpi .eq a b = BitVec.ofBool (a == b) from rfl, beq_false_of_ne h]; rfl]
    norm_num

/-- Two small words are the same when the numbers are. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

section Window
variable {α : Type} {A B n : ℕ}

/-- A row read through a window of rows. -/
theorem window_row (x : (⟨2, ![A, B]⟩ : Shape).Idx → α) (off : Fin 2 → ℕ) (inb : ∀ a, off a + (⟨2, ![n, B]⟩ : Shape).size a ≤ (⟨2, ![A, B]⟩ : Shape).size a)
    (o : ℕ) (h0 : off 0 = o) (h1 : off 1 = 0) (r : Fin n) (j : Fin B) (h : o + r.val < A) :
    VecWindow.window x off (⟨2, ![n, B]⟩ : Shape).size inb (ix2 r j) = x (ix2 ⟨o + r.val, h⟩ j) := by
  refine congrArg x (funext fun a => Fin.ext ?_)
  match a with
  | ⟨0, _⟩ => show off 0 + 1 * r.val = o + r.val; rw [h0, one_mul]
  | ⟨1, _⟩ => show off 1 + 1 * j.val = j.val; rw [h1, one_mul, zero_add]

/-- A row after a window of rows is stored: inside the window. -/
theorem put_row_in (x : (⟨2, ![A, B]⟩ : Shape).Idx → α) (off : Fin 2 → ℕ) (w : (⟨2, ![n, B]⟩ : Shape).Idx → α)
    (o : ℕ) (h0 : off 0 = o) (h1 : off 1 = 0) (r : Fin A) (j : Fin B) (hl : o ≤ r.val) (hu : r.val < o + n) :
    VecWindow.put x off (⟨2, ![n, B]⟩ : Shape).size w (ix2 r j) = w (ix2 ⟨r.val - o, by omega⟩ j) := by
  unfold VecWindow.put
  have hj := j.isLt
  rw [dif_pos (fun a => by
    match a with
    | ⟨0, _⟩ => exact ⟨by show off 0 ≤ r.val; omega, by show r.val < off 0 + n; omega⟩
    | ⟨1, _⟩ => exact ⟨by show off 1 ≤ j.val; omega, by show j.val < off 1 + B; omega⟩)]
  refine congrArg w (funext fun a => Fin.ext ?_)
  match a with
  | ⟨0, _⟩ => show r.val - off 0 = r.val - o; rw [h0]
  | ⟨1, _⟩ => show j.val - off 1 = j.val; rw [h1, Nat.sub_zero]

/-- A row after a window of rows is stored: outside the window. -/
theorem put_row_out (x : (⟨2, ![A, B]⟩ : Shape).Idx → α) (off : Fin 2 → ℕ) (w : (⟨2, ![n, B]⟩ : Shape).Idx → α)
    (o : ℕ) (h0 : off 0 = o) (r : Fin A) (j : Fin B) (h : ¬ (o ≤ r.val ∧ r.val < o + n)) :
    VecWindow.put x off (⟨2, ![n, B]⟩ : Shape).size w (ix2 r j) = x (ix2 r j) := by
  unfold VecWindow.put
  rw [dif_neg]
  intro hh
  have := hh 0
  exact h ⟨by have := this.1; change off 0 ≤ r.val at this; omega, by have := this.2; change r.val < off 0 + n at this; omega⟩

end Window

theorem offs : ∀ n : Fin 512, (k1_off2 (BitVec.ofNat 32 n.val) 0 = n.val / 8 * 8 ∧ k1_off2 (BitVec.ofNat 32 n.val) 1 = 0)
    ∧ (k1_off3 (BitVec.ofNat 32 n.val) 0 = n.val / 8 * 8 ∧ k1_off3 (BitVec.ofNat 32 n.val) 1 = 0)
    ∧ (k1_off4 (BitVec.ofNat 32 n.val) 0 = n.val / 8 * 8 ∧ k1_off4 (BitVec.ofNat 32 n.val) 1 = 0)
    ∧ (k3_off2 (BitVec.ofNat 32 n.val) 0 = n.val / 8 * 8 ∧ k3_off2 (BitVec.ofNat 32 n.val) 1 = 0)
    ∧ (k3_off3 (BitVec.ofNat 32 n.val) 0 = n.val / 8 * 8 ∧ k3_off3 (BitVec.ofNat 32 n.val) 1 = 0) := by decide +kernel

theorem lane_word (n : Fin 512) : lane (BitVec.ofNat 32 n.val) = BitVec.ofNat 32 (n.val / 8 * 8) := by
  apply BitVec.eq_of_toNat_eq
  rw [lane_of, BitVec.toNat_ofNat, Nat.mod_eq_of_lt (by have := n.isLt; omega)]

/-- The word of a lane and a window's first row. -/
theorem lane_add (x o : ℕ) (hx : x < 128) (ho : o < 512) : IntOp.addi (BitVec.ofNat 32 x) (BitVec.ofNat 32 o) = BitVec.ofNat 32 (x + o) := by
  show BitVec.ofNat 32 x + BitVec.ofNat 32 o = _
  rw [← BitVec.ofNat_add]

/-- The first and the last graph of a block fit in a window of 128 rows: the test, as an inequality. -/
theorem narrow_le (v w : Fin 512) (h : k1_cond1 (BitVec.ofNat 32 v.val) (BitVec.ofNat 32 w.val) = 1#1) (hvw : v.val ≤ w.val) : w.val < v.val / 8 * 8 + 128 := by
  rw [narrow_iff_bit, narrowBit, lane_word] at h
  have hv := v.isLt; have hw := w.isLt
  have hs : (BitVec.ofNat 32 w.val - BitVec.ofNat 32 (v.val / 8 * 8)) = BitVec.ofNat 32 (w.val - v.val / 8 * 8) := by
    apply BitVec.eq_of_toNat_eq
    simp only [BitVec.toNat_sub, BitVec.toNat_ofNat]
    omega
  have h2 : BitVec.slt (BitVec.ofNat 32 (w.val - v.val / 8 * 8)) 128#32 = true := by
    rw [← hs]
    by_contra hc
    have : Scalar.cmpi .slt (Scalar.subi (BitVec.ofNat 32 w.val) (BitVec.ofNat 32 (v.val / 8 * 8))) 128#32 = 0#1 := by
      show BitVec.ofBool (BitVec.slt _ _) = _
      rw [Bool.not_eq_true] at hc
      exact congrArg BitVec.ofBool hc
    rw [this] at h
    exact absurd h (by decide)
  rw [BitVec.slt, decide_eq_true_eq] at h2
  rw [BitVec.toInt_eq_toNat_of_lt (by rw [BitVec.toNat_ofNat]; omega), BitVec.toNat_ofNat, Nat.mod_eq_of_lt (by omega)] at h2
  have : (128#32 : BitVec 32).toInt = 128 := by decide
  omega

/-- A block's graph numbers lie in the window its first graph gives, when the window is used. -/
def Fits (w1 w2 : BitVec 32) (s : Fin 512) (gid : Fin 2000 → Fin 512) : Prop :=
  w1 = BitVec.ofNat 32 s.val ∧ (k1_cond1 w1 w2 = 1#1 → ∀ i, s.val / 8 * 8 ≤ (gid i).val ∧ (gid i).val < s.val / 8 * 8 + 128)

end Cert.KernelIdeal.Val

end
-- ==== Proof.Val.HostV.lean ====
module

public import proofs.«01_k».proof.Proof.Val.Basic

/-! The arrays the calls are entered with, entry by entry. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable (m : (ℓ : Loc nD τ sig) → Buf (Elt Ideal) ℓ) (c : Dev nD)

/-- A buffer the program's first items do not write is as the program was entered with. -/
theorem U1_old (b : Ref sig .tc) (h : b ∉ hostOps0_W) : U1 m c b = m ((c : Thread nD τ).loc b) := (V1_of m c b h).trans rfl
theorem U2_old (b : Ref sig .tc) (h : b ∉ hostOps0_W ∧ b ∉ ([main_v8] : List (Ref sig .tc))) : U2 m c b = m ((c : Thread nD τ).loc b) :=
  (U2_ne m c b h.2).trans (U1_old m c b h.1)
theorem U3_old (b : Ref sig .tc) (h : (b ∉ hostOps0_W ∧ b ∉ ([main_v8] : List (Ref sig .tc))) ∧ b ∉ hostOps1_W) : U3 m c b = m ((c : Thread nD τ).loc b) := by
  rw [← V3_eq]
  exact (V3_of m (outs m) c b h.2).trans ((congrFun (V2_eq m c) _).trans (U2_old m c b h.1))
theorem U4_old (b : Ref sig .tc) (h : ((b ∉ hostOps0_W ∧ b ∉ ([main_v8] : List (Ref sig .tc))) ∧ b ∉ hostOps1_W) ∧ b ∉ ([main_v23_0, main_v23_1, main_v23_2] : List (Ref sig .tc))) :
    U4 m c b = m ((c : Thread nD τ).loc b) := (U4_ne m c b h.2).trans (U3_old m c b h.1)
theorem U5_keep (b : Ref sig .tc) (h : b ∉ hostOps2_W) : U5 m c b = U4 m c b := by
  rw [← V5_eq, ← V4_eq]
  exact V5_of m (outs m) c b h
theorem U7_keep (b : Ref sig .tc) (h : b ∉ hostOps3_W) : U7 m c b = U6 m c b := by
  rw [← V7_eq, ← V6_eq]
  exact V7_of m (outs m) c b h
theorem U6_old (b : Ref sig .tc) (h : (((b ∉ hostOps0_W ∧ b ∉ ([main_v8] : List (Ref sig .tc))) ∧ b ∉ hostOps1_W) ∧ b ∉ ([main_v23_0, main_v23_1, main_v23_2] : List (Ref sig .tc))) ∧ b ∉ hostOps2_W
    ∧ b ∉ ([main_v30_0, main_v30_1, main_v30_2, main_v30_3] : List (Ref sig .tc))) :
    U6 m c b = m ((c : Thread nD τ).loc b) := (U6_ne m c b h.2.2).trans ((U5_keep m c b h.2.1).trans (U4_old m c b h.1))
/-- A buffer of the edge call's inputs is still there for the head call. -/
theorem U7_of_U3 (b : Ref sig .tc) (h : b ∉ hostOps3_W ∧ b ∉ ([main_v30_0, main_v30_1, main_v30_2, main_v30_3] : List (Ref sig .tc)) ∧ b ∉ hostOps2_W ∧ b ∉ ([main_v23_0, main_v23_1, main_v23_2] : List (Ref sig .tc))) :
    U7 m c b = U3 m c b := (U7_keep m c b h.1).trans ((U6_ne m c b h.2.1).trans ((U5_keep m c b h.2.2.1).trans (U4_ne m c b h.2.2.2)))

/-! Vectors laid out as one row. -/

theorem U1_v2 (k : Fin 128) : (U1 m c main_v2 : Vec Ideal S1x128 .f32) (ix2 0 k) = (m ((c : Thread nD τ).loc main_arg9) : Vec Ideal S128 .f32) (ix1 k) := by
  have h : U1 m c main_v2 = shapeCast S1x128 (V0 m c main_arg9 : Vec Ideal S128 .f32) shapeCasts_S128_S1x128 := by
    show StableHlo.after hostOps0 _ (Proc.devRef .tc main_v2) = _
    after_results
    try rfl
  rw [h]
  pointwise
  try rfl
theorem U1_v3 (k : Fin 128) : (U1 m c main_v3 : Vec Ideal S1x128 .f32) (ix2 0 k) = (m ((c : Thread nD τ).loc main_arg10) : Vec Ideal S128 .f32) (ix1 k) := by
  have h : U1 m c main_v3 = shapeCast S1x128 (V0 m c main_arg10 : Vec Ideal S128 .f32) shapeCasts_S128_S1x128 := by
    show StableHlo.after hostOps0 _ (Proc.devRef .tc main_v3) = _
    after_results
    try rfl
  rw [h]
  pointwise
  try rfl
theorem U1_v4 (k : Fin 128) : (U1 m c main_v4 : Vec Ideal S1x128 .f32) (ix2 0 k) = (m ((c : Thread nD τ).loc main_arg12) : Vec Ideal S128 .f32) (ix1 k) := by
  have h : U1 m c main_v4 = shapeCast S1x128 (V0 m c main_arg12 : Vec Ideal S128 .f32) shapeCasts_S128_S1x128 := by
    show StableHlo.after hostOps0 _ (Proc.devRef .tc main_v4) = _
    after_results
    try rfl
  rw [h]
  pointwise
  try rfl
theorem U3_v17 (k : Fin 128) : (U3 m c main_v17 : Vec Ideal S1x128 .f32) (ix2 0 k) = (m ((c : Thread nD τ).loc main_arg13) : Vec Ideal S128 .f32) (ix1 k) := by
  have h : U3 m c main_v17 = shapeCast S1x128 (U2 m c main_arg13 : Vec Ideal S128 .f32) shapeCasts_S128_S1x128 := by
    show StableHlo.after hostOps1 _ (Proc.devRef .tc main_v17) = _
    after_results
    try rfl
  rw [h, U2_old m c main_arg13 (by decide)]
  pointwise
theorem U3_v18 (k : Fin 128) : (U3 m c main_v18 : Vec Ideal S1x128 .f32) (ix2 0 k) = (m ((c : Thread nD τ).loc main_arg14) : Vec Ideal S128 .f32) (ix1 k) := by
  have h : U3 m c main_v18 = shapeCast S1x128 (U2 m c main_arg14 : Vec Ideal S128 .f32) shapeCasts_S128_S1x128 := by
    show StableHlo.after hostOps1 _ (Proc.devRef .tc main_v18) = _
    after_results
    try rfl
  rw [h, U2_old m c main_arg14 (by decide)]
  pointwise
theorem U3_v19 (k : Fin 128) : (U3 m c main_v19 : Vec Ideal S1x128 .f32) (ix2 0 k) = (m ((c : Thread nD τ).loc main_arg16) : Vec Ideal S128 .f32) (ix1 k) := by
  have h : U3 m c main_v19 = shapeCast S1x128 (U2 m c main_arg16 : Vec Ideal S128 .f32) shapeCasts_S128_S1x128 := by
    show StableHlo.after hostOps1 _ (Proc.devRef .tc main_v19) = _
    after_results
    try rfl
  rw [h, U2_old m c main_arg16 (by decide)]
  pointwise
theorem U3_v20 (k : Fin 128) : (U3 m c main_v20 : Vec Ideal S1x128 .f32) (ix2 0 k) = (m ((c : Thread nD τ).loc main_arg17) : Vec Ideal S128 .f32) (ix1 k) := by
  have h : U3 m c main_v20 = shapeCast S1x128 (U2 m c main_arg17 : Vec Ideal S128 .f32) shapeCasts_S128_S1x128 := by
    show StableHlo.after hostOps1 _ (Proc.devRef .tc main_v20) = _
    after_results
    try rfl
  rw [h, U2_old m c main_arg17 (by decide)]
  pointwise
theorem U3_v21 (k : Fin 128) : (U3 m c main_v21 : Vec Ideal S1x128 .f32) (ix2 0 k) = (m ((c : Thread nD τ).loc main_arg18) : Vec Ideal S128 .f32) (ix1 k) := by
  have h : U3 m c main_v21 = shapeCast S1x128 (U2 m c main_arg18 : Vec Ideal S128 .f32) shapeCasts_S128_S1x128 := by
    show StableHlo.after hostOps1 _ (Proc.devRef .tc main_v21) = _
    after_results
    try rfl
  rw [h, U2_old m c main_arg18 (by decide)]
  pointwise
theorem U3_v22 (k : Fin 128) : (U3 m c main_v22 : Vec Ideal S1x128 .f32) (ix2 0 k) = (m ((c : Thread nD τ).loc main_arg20) : Vec Ideal S128 .f32) (ix1 k) := by
  have h : U3 m c main_v22 = shapeCast S1x128 (U2 m c main_arg20 : Vec Ideal S128 .f32) shapeCasts_S128_S1x128 := by
    show StableHlo.after hostOps1 _ (Proc.devRef .tc main_v22) = _
    after_results
    try rfl
  rw [h, U2_old m c main_arg20 (by decide)]
  pointwise
theorem U5_v24 (k : Fin 128) : (U5 m c main_v24 : Vec Ideal S1x128 .f32) (ix2 0 k) = (m ((c : Thread nD τ).loc main_arg7) : Vec Ideal S128 .f32) (ix1 k) := by
  have h : U5 m c main_v24 = shapeCast S1x128 (U4 m c main_arg7 : Vec Ideal S128 .f32) shapeCasts_S128_S1x128 := by
    show StableHlo.after hostOps2 _ (Proc.devRef .tc main_v24) = _
    after_results
    try rfl
  rw [h, U4_old m c main_arg7 (by decide)]
  pointwise
theorem U5_v25 (k : Fin 128) : (U5 m c main_v25 : Vec Ideal S1x128 .f32) (ix2 0 k) = (m ((c : Thread nD τ).loc main_arg8) : Vec Ideal S128 .f32) (ix1 k) := by
  have h : U5 m c main_v25 = shapeCast S1x128 (U4 m c main_arg8 : Vec Ideal S128 .f32) shapeCasts_S128_S1x128 := by
    show StableHlo.after hostOps2 _ (Proc.devRef .tc main_v25) = _
    after_results
    try rfl
  rw [h, U4_old m c main_arg8 (by decide)]
  pointwise
theorem U5_v26 (k : Fin 256) : (U5 m c main_v26 : Vec Ideal S1x256 .f32) (ix2 0 k) = (m ((c : Thread nD τ).loc main_arg27) : Vec Ideal S256 .f32) (ix1 k) := by
  have h : U5 m c main_v26 = shapeCast S1x256 (U4 m c main_arg27 : Vec Ideal S256 .f32) shapeCasts_S256_S1x256 := by
    show StableHlo.after hostOps2 _ (Proc.devRef .tc main_v26) = _
    after_results
    try rfl
  rw [h, U4_old m c main_arg27 (by decide)]
  pointwise
theorem U5_v27 (k : Fin 256) : (U5 m c main_v27 : Vec Ideal S1x256 .f32) (ix2 0 k) = (m ((c : Thread nD τ).loc main_arg28) : Vec Ideal S256 .f32) (ix1 k) := by
  have h : U5 m c main_v27 = shapeCast S1x256 (U4 m c main_arg28 : Vec Ideal S256 .f32) shapeCasts_S256_S1x256 := by
    show StableHlo.after hostOps2 _ (Proc.devRef .tc main_v27) = _
    after_results
    try rfl
  rw [h, U4_old m c main_arg28 (by decide)]
  pointwise
theorem U5_v28 (k : Fin 128) : (U5 m c main_v28 : Vec Ideal S1x128 .f32) (ix2 0 k) = (m ((c : Thread nD τ).loc main_arg30) : Vec Ideal S128 .f32) (ix1 k) := by
  have h : U5 m c main_v28 = shapeCast S1x128 (U4 m c main_arg30 : Vec Ideal S128 .f32) shapeCasts_S128_S1x128 := by
    show StableHlo.after hostOps2 _ (Proc.devRef .tc main_v28) = _
    after_results
    try rfl
  rw [h, U4_old m c main_arg30 (by decide)]
  pointwise
theorem U5_v29 : (U5 m c main_v29 : Vec Ideal S1x1 .f32) (ix2 0 0) = (m ((c : Thread nD τ).loc main_arg32) : Vec Ideal S1 .f32) (ix1 0) := by
  have h : U5 m c main_v29 = shapeCast S1x1 (U4 m c main_arg32 : Vec Ideal S1 .f32) shapeCasts_S1_S1x1 := by
    show StableHlo.after hostOps2 _ (Proc.devRef .tc main_v29) = _
    after_results
    try rfl
  rw [h, U4_old m c main_arg32 (by decide)]
  pointwise
theorem U7_v31 (k : Fin 128) : (U7 m c main_v31 : Vec Ideal S1x128 .f32) (ix2 0 k) = (m ((c : Thread nD τ).loc main_arg7) : Vec Ideal S128 .f32) (ix1 k) := by
  have h : U7 m c main_v31 = shapeCast S1x128 (U6 m c main_arg7 : Vec Ideal S128 .f32) shapeCasts_S128_S1x128 := by
    show StableHlo.after hostOps3 _ (Proc.devRef .tc main_v31) = _
    after_results
    try rfl
  rw [h, U6_old m c main_arg7 (by decide)]
  pointwise
theorem U7_v32 (k : Fin 128) : (U7 m c main_v32 : Vec Ideal S1x128 .f32) (ix2 0 k) = (m ((c : Thread nD τ).loc main_arg8) : Vec Ideal S128 .f32) (ix1 k) := by
  have h : U7 m c main_v32 = shapeCast S1x128 (U6 m c main_arg8 : Vec Ideal S128 .f32) shapeCasts_S128_S1x128 := by
    show StableHlo.after hostOps3 _ (Proc.devRef .tc main_v32) = _
    after_results
    try rfl
  rw [h, U6_old m c main_arg8 (by decide)]
  pointwise
theorem U7_v33 (k : Fin 256) : (U7 m c main_v33 : Vec Ideal S1x256 .f32) (ix2 0 k) = (m ((c : Thread nD τ).loc main_arg21) : Vec Ideal S256 .f32) (ix1 k) := by
  have h : U7 m c main_v33 = shapeCast S1x256 (U6 m c main_arg21 : Vec Ideal S256 .f32) shapeCasts_S256_S1x256 := by
    show StableHlo.after hostOps3 _ (Proc.devRef .tc main_v33) = _
    after_results
    try rfl
  rw [h, U6_old m c main_arg21 (by decide)]
  pointwise
theorem U7_v34 (k : Fin 256) : (U7 m c main_v34 : Vec Ideal S1x256 .f32) (ix2 0 k) = (m ((c : Thread nD τ).loc main_arg22) : Vec Ideal S256 .f32) (ix1 k) := by
  have h : U7 m c main_v34 = shapeCast S1x256 (U6 m c main_arg22 : Vec Ideal S256 .f32) shapeCasts_S256_S1x256 := by
    show StableHlo.after hostOps3 _ (Proc.devRef .tc main_v34) = _
    after_results
    try rfl
  rw [h, U6_old m c main_arg22 (by decide)]
  pointwise
theorem U7_v35 (k : Fin 128) : (U7 m c main_v35 : Vec Ideal S1x128 .f32) (ix2 0 k) = (m ((c : Thread nD τ).loc main_arg24) : Vec Ideal S128 .f32) (ix1 k) := by
  have h : U7 m c main_v35 = shapeCast S1x128 (U6 m c main_arg24 : Vec Ideal S128 .f32) shapeCasts_S128_S1x128 := by
    show StableHlo.after hostOps3 _ (Proc.devRef .tc main_v35) = _
    after_results
    try rfl
  rw [h, U6_old m c main_arg24 (by decide)]
  pointwise
theorem U7_v36 : (U7 m c main_v36 : Vec Ideal S1x1 .f32) (ix2 0 0) = (m ((c : Thread nD τ).loc main_arg26) : Vec Ideal S1 .f32) (ix1 0) := by
  have h : U7 m c main_v36 = shapeCast S1x1 (U6 m c main_arg26 : Vec Ideal S1 .f32) shapeCasts_S1_S1x1 := by
    show StableHlo.after hostOps3 _ (Proc.devRef .tc main_v36) = _
    after_results
    try rfl
  rw [h, U6_old m c main_arg26 (by decide)]
  pointwise

/-- The third row of the type table. -/
theorem U1_v7 (k : Fin 128) : (U1 m c main_v7 : Vec Ideal S1x128 .f32) (ix2 0 k) = (m ((c : Thread nD τ).loc main_arg6) : Vec Ideal S5x128 .f32) (ix2 2 k) := by
  have h : U1 m c main_v7 = shapeCast S1x128 (shapeCast S128 (extractStridedSlice S1x128 ![2, 0] (V0 m c main_arg6 : Vec Ideal S5x128 .f32) slices_S5x128_S1x128_2_0 : Vec Ideal S1x128 .f32) shapeCasts_S1x128_S128 : Vec Ideal S128 .f32) shapeCasts_S128_S1x128 := by
    show StableHlo.after hostOps0 _ (Proc.devRef .tc main_v7) = _
    after_results
    try rfl
  rw [h]
  pointwise
  try rfl
/-- The order table, its first twelve rows. -/
theorem U3_v1 (o : Fin 12) (k : Fin 128) : (U3 m c main_v1 : Vec Ideal S16x128 .f32) (ix2 ⟨o.val, by have := o.isLt; omega⟩ k) = (m ((c : Thread nD τ).loc main_arg5) : Vec Ideal S12x128 .f32) (ix2 o k) := by
  have e : U3 m c main_v1 = U1 m c main_v1 := by
    rw [← V3_eq]
    exact (V3_of m (outs m) c main_v1 (by decide)).trans ((congrFun (V2_eq m c) _).trans (U2_ne m c main_v1 (by decide)))
  have h : U1 m c main_v1 = concatenate S16x128 0 [⟨S12x128, (V0 m c main_arg5 : Vec Ideal S12x128 .f32)⟩, ⟨S4x128, (broadcastInDim S4x128 ![] bcast_S_S4x128 (constant (F := Ideal) S_ .f32 0x00000000#32) : Vec Ideal S4x128 .f32)⟩] concatenates_S12x128_S4x128_S16x128_d0 := by
    show StableHlo.after hostOps0 _ (Proc.devRef .tc main_v1) = _
    after_results
    try rfl
  rw [e, h]
  pointwise
/-- The question features with rows of zeros below, and their first 512 rows. -/
theorem U3_v10 (g : Fin 512) (k : Fin 128) : (U3 m c main_v10 : Vec Ideal S640x128 .f32) (ix2 ⟨g.val, by have := g.isLt; omega⟩ k) = (U2 m c main_v8 : Vec Ideal S512x128 .f32) (ix2 g k) := by
  have h : U3 m c main_v10 = concatenate S640x128 0 [⟨S512x128, (U2 m c main_v8 : Vec Ideal S512x128 .f32)⟩, ⟨S128x128, (broadcastInDim S128x128 ![] bcast_S_S128x128 (constant (F := Ideal) S_ .f32 0x00000000#32) : Vec Ideal S128x128 .f32)⟩] concatenates_S512x128_S128x128_S640x128_d0 := by
    show StableHlo.after hostOps1 _ (Proc.devRef .tc main_v10) = _
    after_results
    try rfl
  rw [h]
  pointwise

/-- The edges' words laid out by blocks of 2000. -/
theorem U3_v13 (t : Fin 160) (i : Fin 2000) (e : Fin 320000) (he : e.val = t.val * 2000 + i.val) : (U3 m c main_v13 : Vec Ideal S160x1x2000 .i32) (ix3 t 0 i) = (m ((c : Thread nD τ).loc main_arg2) : Vec Ideal S320000 .i32) (ix1 e) := by
  have h : U3 m c main_v13 = shapeCast S160x1x2000 (U2 m c main_arg2 : Vec Ideal S320000 .i32) shapeCasts_S320000_S160x1x2000 := by
    show StableHlo.after hostOps1 _ (Proc.devRef .tc main_v13) = _
    after_results
    try rfl
  rw [h, U2_old m c main_arg2 (by decide)]
  pointwise
  refine congrArg _ (congrArg ix1 (Fin.ext ?_))
  try dsimp only
  omega
theorem U3_v14 (t : Fin 160) (i : Fin 2000) (e : Fin 320000) (he : e.val = t.val * 2000 + i.val) : (U3 m c main_v14 : Vec Ideal S160x1x2000 .i32) (ix3 t 0 i) = (m ((c : Thread nD τ).loc main_arg4) : Vec Ideal S320000 .i32) (ix1 e) := by
  have h : U3 m c main_v14 = shapeCast S160x1x2000 (U2 m c main_arg4 : Vec Ideal S320000 .i32) shapeCasts_S320000_S160x1x2000 := by
    show StableHlo.after hostOps1 _ (Proc.devRef .tc main_v14) = _
    after_results
    try rfl
  rw [h, U2_old m c main_arg4 (by decide)]
  pointwise
  refine congrArg _ (congrArg ix1 (Fin.ext ?_))
  try dsimp only
  omega
theorem U3_v16 (t : Fin 160) (i : Fin 2000) (e : Fin 320000) (he : e.val = t.val * 2000 + i.val) : (U3 m c main_v16 : Vec Ideal S160x1x2000 .i32) (ix3 t 0 i) = BitVec.setWidth 32 ((m ((c : Thread nD τ).loc main_arg3) : Vec Ideal S320000 .i1) (ix1 e)) := by
  have h : U3 m c main_v16 = shapeCast S160x1x2000 (extui 32 (U2 m c main_arg3 : Vec Ideal S320000 .i1) natLt_1_32 : Vec Ideal S320000 .i32) shapeCasts_S320000_S160x1x2000 := by
    show StableHlo.after hostOps1 _ (Proc.devRef .tc main_v16) = _
    after_results
    try rfl
  rw [h, U2_old m c main_arg3 (by decide)]
  pointwise
  refine congrArg (BitVec.setWidth 32) (congrArg _ (congrArg ix1 (Fin.ext ?_)))
  try dsimp only
  omega
/-- The first and the last graph number of a block. -/
theorem U3_v11 (t : Fin 160) (e : Fin 320000) (he : e.val = t.val * 2000) : (U3 m c main_v11 : Vec Ideal S160 .i32) (ix1 t) = (m ((c : Thread nD τ).loc main_arg2) : Vec Ideal S320000 .i32) (ix1 e) := by
  rw [U3_main_v11]
  pointwise
  refine congrArg _ (congrArg ix1 (Fin.ext ?_))
  try dsimp only
  omega
theorem U3_v12 (t : Fin 160) (e : Fin 320000) (he : e.val = t.val * 2000 + 1999) : (U3 m c main_v12 : Vec Ideal S160 .i32) (ix1 t) = (m ((c : Thread nD τ).loc main_arg2) : Vec Ideal S320000 .i32) (ix1 e) := by
  rw [U3_main_v12]
  pointwise
  refine congrArg _ (congrArg ix1 (Fin.ext ?_))
  try dsimp only
  omega

/-- The results, from the arrays the calls leave. -/
theorem U9_v38 (e : Fin 320000) : (U9 m c main_v38 : Vec Ideal S320000 .f32) (ix1 e) = (U8 m c main_v37 : Vec Ideal S320000x1 .f32) (ix2 e 0) := by
  have h : U9 m c main_v38 = shapeCast S320000 (U8 m c main_v37 : Vec Ideal S320000x1 .f32) shapeCasts_S320000x1_S320000 := by
    show StableHlo.after hostOps4 _ (Proc.devRef .tc main_v38) = _
    after_results
    try rfl
  rw [h]
  pointwise
theorem U9_v39 (g : Fin 512) : (U9 m c main_v39 : Vec Ideal S512 .f32) (ix1 g) = (U6 m c main_v30_1 : Vec Ideal S512x1 .f32) (ix2 g 0) := by
  have h : U9 m c main_v39 = shapeCast S512 (U8 m c main_v30_1 : Vec Ideal S512x1 .f32) shapeCasts_S512x1_S512 := by
    show StableHlo.after hostOps4 _ (Proc.devRef .tc main_v39) = _
    after_results
    try rfl
  rw [h, U8_ne m c main_v30_1 (by decide), U7_keep m c main_v30_1 (by decide)]
  pointwise
theorem U9_v30 : U9 m c main_v30_0 = U6 m c main_v30_0 := by
  rw [← V9_eq]
  exact (V9_of m (outs m) c main_v30_0 (by decide)).trans ((congrFun (V8_eq m c) _).trans ((U8_ne m c main_v30_0 (by decide)).trans (U7_keep m c main_v30_0 (by decide))))

end Cert.KernelIdeal.Val

end
-- ==== Proof.Val.Blocks.lean ====
module

public import proofs.«01_k».proof.Proof.Val.Basic

/-! What the windows of the four calls hold, in terms of the arrays. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable (V : Contents (F := Ideal)) (c : Dev nD)

/-- An array read at its own indices, axis by axis. -/
theorem read_whole {α : Type} {a b : ℕ} (x : (⟨2, ![a, b]⟩ : Shape).Idx → α) (f : (⟨2, ![a, b]⟩ : Shape).Idx → (⟨2, ![a, b]⟩ : Shape).Idx)
    (h0 : ∀ y, (f y 0).val = (y 0).val) (h1 : ∀ y, (f y 1).val = (y 1).val) : (fun y => x (f y)) = x :=
  funext fun y => congrArg x (funext fun d => Fin.ext (match d with | ⟨0, _⟩ => h0 y | ⟨1, _⟩ => h1 y))

/-! The windows that hold the whole of an array. -/

theorem blk0_w0 (t : Fin cfg0.N) : (blk0 V c 0 t : Vec Ideal S512x128 .f32) = V c main_arg1 :=
  read_whole (V c main_arg1 : Vec Ideal S512x128 .f32) _ (fun y => Pipeline.Window.rect_emb_val_of_index_zero win0_0 t 0 rfl y) (fun y => Pipeline.Window.rect_emb_val_of_index_zero win0_0 t 1 rfl y)
theorem blk0_w1 (t : Fin cfg0.N) : (blk0 V c 1 t : Vec Ideal S1x128 .f32) = V c main_v2 :=
  read_whole (V c main_v2 : Vec Ideal S1x128 .f32) _ (fun y => Pipeline.Window.rect_emb_val_of_index_zero win0_1 t 0 rfl y) (fun y => Pipeline.Window.rect_emb_val_of_index_zero win0_1 t 1 rfl y)
theorem blk0_w2 (t : Fin cfg0.N) : (blk0 V c 2 t : Vec Ideal S1x128 .f32) = V c main_v3 :=
  read_whole (V c main_v3 : Vec Ideal S1x128 .f32) _ (fun y => Pipeline.Window.rect_emb_val_of_index_zero win0_2 t 0 rfl y) (fun y => Pipeline.Window.rect_emb_val_of_index_zero win0_2 t 1 rfl y)
theorem blk0_w3 (t : Fin cfg0.N) : (blk0 V c 3 t : Vec Ideal S128x128 .f32) = V c main_arg11 :=
  read_whole (V c main_arg11 : Vec Ideal S128x128 .f32) _ (fun y => Pipeline.Window.rect_emb_val_of_index_zero win0_3 t 0 rfl y) (fun y => Pipeline.Window.rect_emb_val_of_index_zero win0_3 t 1 rfl y)
theorem blk0_w4 (t : Fin cfg0.N) : (blk0 V c 4 t : Vec Ideal S1x128 .f32) = V c main_v4 :=
  read_whole (V c main_v4 : Vec Ideal S1x128 .f32) _ (fun y => Pipeline.Window.rect_emb_val_of_index_zero win0_4 t 0 rfl y) (fun y => Pipeline.Window.rect_emb_val_of_index_zero win0_4 t 1 rfl y)
theorem blk0_w5 (t : Fin cfg0.N) : (blk0 V c 5 t : Vec Ideal S1x128 .f32) = V c main_v7 :=
  read_whole (V c main_v7 : Vec Ideal S1x128 .f32) _ (fun y => Pipeline.Window.rect_emb_val_of_index_zero win0_5 t 0 rfl y) (fun y => Pipeline.Window.rect_emb_val_of_index_zero win0_5 t 1 rfl y)
theorem blk1_w6 (t : Fin cfg1.N) : (blk1 V c 6 t : Vec Ideal S640x128 .f32) = V c main_v10 :=
  read_whole (V c main_v10 : Vec Ideal S640x128 .f32) _ (fun y => Pipeline.Window.rect_emb_val_of_index_zero win1_6 t 0 rfl y) (fun y => Pipeline.Window.rect_emb_val_of_index_zero win1_6 t 1 rfl y)
theorem blk1_w7 (t : Fin cfg1.N) : (blk1 V c 7 t : Vec Ideal S16x128 .f32) = V c main_v1 :=
  read_whole (V c main_v1 : Vec Ideal S16x128 .f32) _ (fun y => Pipeline.Window.rect_emb_val_of_index_zero win1_7 t 0 rfl y) (fun y => Pipeline.Window.rect_emb_val_of_index_zero win1_7 t 1 rfl y)
theorem blk1_w8 (t : Fin cfg1.N) : (blk1 V c 8 t : Vec Ideal S1x128 .f32) = V c main_v17 :=
  read_whole (V c main_v17 : Vec Ideal S1x128 .f32) _ (fun y => Pipeline.Window.rect_emb_val_of_index_zero win1_8 t 0 rfl y) (fun y => Pipeline.Window.rect_emb_val_of_index_zero win1_8 t 1 rfl y)
theorem blk1_w9 (t : Fin cfg1.N) : (blk1 V c 9 t : Vec Ideal S1x128 .f32) = V c main_v18 :=
  read_whole (V c main_v18 : Vec Ideal S1x128 .f32) _ (fun y => Pipeline.Window.rect_emb_val_of_index_zero win1_9 t 0 rfl y) (fun y => Pipeline.Window.rect_emb_val_of_index_zero win1_9 t 1 rfl y)
theorem blk1_w10 (t : Fin cfg1.N) : (blk1 V c 10 t : Vec Ideal S128x128 .f32) = V c main_arg15 :=
  read_whole (V c main_arg15 : Vec Ideal S128x128 .f32) _ (fun y => Pipeline.Window.rect_emb_val_of_index_zero win1_10 t 0 rfl y) (fun y => Pipeline.Window.rect_emb_val_of_index_zero win1_10 t 1 rfl y)
theorem blk1_w11 (t : Fin cfg1.N) : (blk1 V c 11 t : Vec Ideal S1x128 .f32) = V c main_v19 :=
  read_whole (V c main_v19 : Vec Ideal S1x128 .f32) _ (fun y => Pipeline.Window.rect_emb_val_of_index_zero win1_11 t 0 rfl y) (fun y => Pipeline.Window.rect_emb_val_of_index_zero win1_11 t 1 rfl y)
theorem blk1_w12 (t : Fin cfg1.N) : (blk1 V c 12 t : Vec Ideal S1x128 .f32) = V c main_v20 :=
  read_whole (V c main_v20 : Vec Ideal S1x128 .f32) _ (fun y => Pipeline.Window.rect_emb_val_of_index_zero win1_12 t 0 rfl y) (fun y => Pipeline.Window.rect_emb_val_of_index_zero win1_12 t 1 rfl y)
theorem blk1_w13 (t : Fin cfg1.N) : (blk1 V c 13 t : Vec Ideal S1x128 .f32) = V c main_v21 :=
  read_whole (V c main_v21 : Vec Ideal S1x128 .f32) _ (fun y => Pipeline.Window.rect_emb_val_of_index_zero win1_13 t 0 rfl y) (fun y => Pipeline.Window.rect_emb_val_of_index_zero win1_13 t 1 rfl y)
theorem blk1_w14 (t : Fin cfg1.N) : (blk1 V c 14 t : Vec Ideal S128x128 .f32) = V c main_arg19 :=
  read_whole (V c main_arg19 : Vec Ideal S128x128 .f32) _ (fun y => Pipeline.Window.rect_emb_val_of_index_zero win1_14 t 0 rfl y) (fun y => Pipeline.Window.rect_emb_val_of_index_zero win1_14 t 1 rfl y)
theorem blk1_w15 (t : Fin cfg1.N) : (blk1 V c 15 t : Vec Ideal S1x128 .f32) = V c main_v22 :=
  read_whole (V c main_v22 : Vec Ideal S1x128 .f32) _ (fun y => Pipeline.Window.rect_emb_val_of_index_zero win1_15 t 0 rfl y) (fun y => Pipeline.Window.rect_emb_val_of_index_zero win1_15 t 1 rfl y)
theorem blk2_w0 (t : Fin cfg2.N) : (blk2 V c 0 t : Vec Ideal S640x128 .f32) = V c main_v23_1 :=
  read_whole (V c main_v23_1 : Vec Ideal S640x128 .f32) _ (fun y => Pipeline.Window.rect_emb_val_of_index_zero win2_0 t 0 rfl y) (fun y => Pipeline.Window.rect_emb_val_of_index_zero win2_0 t 1 rfl y)
theorem blk2_w1 (t : Fin cfg2.N) : (blk2 V c 1 t : Vec Ideal S640x1 .f32) = V c main_v23_2 :=
  read_whole (V c main_v23_2 : Vec Ideal S640x1 .f32) _ (fun y => Pipeline.Window.rect_emb_val_of_index_zero win2_1 t 0 rfl y) (fun y => Pipeline.Window.rect_emb_val_of_index_zero win2_1 t 1 rfl y)
theorem blk2_w2 (t : Fin cfg2.N) : (blk2 V c 2 t : Vec Ideal S512x128 .f32) = V c main_arg1 :=
  read_whole (V c main_arg1 : Vec Ideal S512x128 .f32) _ (fun y => Pipeline.Window.rect_emb_val_of_index_zero win2_2 t 0 rfl y) (fun y => Pipeline.Window.rect_emb_val_of_index_zero win2_2 t 1 rfl y)
theorem blk2_w3 (t : Fin cfg2.N) : (blk2 V c 3 t : Vec Ideal S1x128 .f32) = V c main_v24 :=
  read_whole (V c main_v24 : Vec Ideal S1x128 .f32) _ (fun y => Pipeline.Window.rect_emb_val_of_index_zero win2_3 t 0 rfl y) (fun y => Pipeline.Window.rect_emb_val_of_index_zero win2_3 t 1 rfl y)
theorem blk2_w4 (t : Fin cfg2.N) : (blk2 V c 4 t : Vec Ideal S1x128 .f32) = V c main_v25 :=
  read_whole (V c main_v25 : Vec Ideal S1x128 .f32) _ (fun y => Pipeline.Window.rect_emb_val_of_index_zero win2_4 t 0 rfl y) (fun y => Pipeline.Window.rect_emb_val_of_index_zero win2_4 t 1 rfl y)
theorem blk2_w5 (t : Fin cfg2.N) : (blk2 V c 5 t : Vec Ideal S1x256 .f32) = V c main_v26 :=
  read_whole (V c main_v26 : Vec Ideal S1x256 .f32) _ (fun y => Pipeline.Window.rect_emb_val_of_index_zero win2_5 t 0 rfl y) (fun y => Pipeline.Window.rect_emb_val_of_index_zero win2_5 t 1 rfl y)
theorem blk2_w6 (t : Fin cfg2.N) : (blk2 V c 6 t : Vec Ideal S1x256 .f32) = V c main_v27 :=
  read_whole (V c main_v27 : Vec Ideal S1x256 .f32) _ (fun y => Pipeline.Window.rect_emb_val_of_index_zero win2_6 t 0 rfl y) (fun y => Pipeline.Window.rect_emb_val_of_index_zero win2_6 t 1 rfl y)
theorem blk2_w7 (t : Fin cfg2.N) : (blk2 V c 7 t : Vec Ideal S256x128 .f32) = V c main_arg29 :=
  read_whole (V c main_arg29 : Vec Ideal S256x128 .f32) _ (fun y => Pipeline.Window.rect_emb_val_of_index_zero win2_7 t 0 rfl y) (fun y => Pipeline.Window.rect_emb_val_of_index_zero win2_7 t 1 rfl y)
theorem blk2_w8 (t : Fin cfg2.N) : (blk2 V c 8 t : Vec Ideal S1x128 .f32) = V c main_v28 :=
  read_whole (V c main_v28 : Vec Ideal S1x128 .f32) _ (fun y => Pipeline.Window.rect_emb_val_of_index_zero win2_8 t 0 rfl y) (fun y => Pipeline.Window.rect_emb_val_of_index_zero win2_8 t 1 rfl y)
theorem blk2_w9 (t : Fin cfg2.N) : (blk2 V c 9 t : Vec Ideal S128x1 .f32) = V c main_arg31 :=
  read_whole (V c main_arg31 : Vec Ideal S128x1 .f32) _ (fun y => Pipeline.Window.rect_emb_val_of_index_zero win2_9 t 0 rfl y) (fun y => Pipeline.Window.rect_emb_val_of_index_zero win2_9 t 1 rfl y)
theorem blk2_w10 (t : Fin cfg2.N) : (blk2 V c 10 t : Vec Ideal S1x1 .f32) = V c main_v29 :=
  read_whole (V c main_v29 : Vec Ideal S1x1 .f32) _ (fun y => Pipeline.Window.rect_emb_val_of_index_zero win2_10 t 0 rfl y) (fun y => Pipeline.Window.rect_emb_val_of_index_zero win2_10 t 1 rfl y)
theorem blk3_w4 (t : Fin cfg3.N) : (blk3 V c 4 t : Vec Ideal S640x256 .f32) = V c main_v30_2 :=
  read_whole (V c main_v30_2 : Vec Ideal S640x256 .f32) _ (fun y => Pipeline.Window.rect_emb_val_of_index_zero win3_4 t 0 rfl y) (fun y => Pipeline.Window.rect_emb_val_of_index_zero win3_4 t 1 rfl y)
theorem blk3_w5 (t : Fin cfg3.N) : (blk3 V c 5 t : Vec Ideal S640x1 .f32) = V c main_v30_3 :=
  read_whole (V c main_v30_3 : Vec Ideal S640x1 .f32) _ (fun y => Pipeline.Window.rect_emb_val_of_index_zero win3_5 t 0 rfl y) (fun y => Pipeline.Window.rect_emb_val_of_index_zero win3_5 t 1 rfl y)
theorem blk3_w6 (t : Fin cfg3.N) : (blk3 V c 6 t : Vec Ideal S1x128 .f32) = V c main_v31 :=
  read_whole (V c main_v31 : Vec Ideal S1x128 .f32) _ (fun y => Pipeline.Window.rect_emb_val_of_index_zero win3_6 t 0 rfl y) (fun y => Pipeline.Window.rect_emb_val_of_index_zero win3_6 t 1 rfl y)
theorem blk3_w7 (t : Fin cfg3.N) : (blk3 V c 7 t : Vec Ideal S1x128 .f32) = V c main_v32 :=
  read_whole (V c main_v32 : Vec Ideal S1x128 .f32) _ (fun y => Pipeline.Window.rect_emb_val_of_index_zero win3_7 t 0 rfl y) (fun y => Pipeline.Window.rect_emb_val_of_index_zero win3_7 t 1 rfl y)
theorem blk3_w8 (t : Fin cfg3.N) : (blk3 V c 8 t : Vec Ideal S1x256 .f32) = V c main_v33 :=
  read_whole (V c main_v33 : Vec Ideal S1x256 .f32) _ (fun y => Pipeline.Window.rect_emb_val_of_index_zero win3_8 t 0 rfl y) (fun y => Pipeline.Window.rect_emb_val_of_index_zero win3_8 t 1 rfl y)
theorem blk3_w9 (t : Fin cfg3.N) : (blk3 V c 9 t : Vec Ideal S1x256 .f32) = V c main_v34 :=
  read_whole (V c main_v34 : Vec Ideal S1x256 .f32) _ (fun y => Pipeline.Window.rect_emb_val_of_index_zero win3_9 t 0 rfl y) (fun y => Pipeline.Window.rect_emb_val_of_index_zero win3_9 t 1 rfl y)
theorem blk3_w10 (t : Fin cfg3.N) : (blk3 V c 10 t : Vec Ideal S256x128 .f32) = V c main_arg23 :=
  read_whole (V c main_arg23 : Vec Ideal S256x128 .f32) _ (fun y => Pipeline.Window.rect_emb_val_of_index_zero win3_10 t 0 rfl y) (fun y => Pipeline.Window.rect_emb_val_of_index_zero win3_10 t 1 rfl y)
theorem blk3_w11 (t : Fin cfg3.N) : (blk3 V c 11 t : Vec Ideal S1x128 .f32) = V c main_v35 :=
  read_whole (V c main_v35 : Vec Ideal S1x128 .f32) _ (fun y => Pipeline.Window.rect_emb_val_of_index_zero win3_11 t 0 rfl y) (fun y => Pipeline.Window.rect_emb_val_of_index_zero win3_11 t 1 rfl y)
theorem blk3_w12 (t : Fin cfg3.N) : (blk3 V c 12 t : Vec Ideal S128x1 .f32) = V c main_arg25 :=
  read_whole (V c main_arg25 : Vec Ideal S128x1 .f32) _ (fun y => Pipeline.Window.rect_emb_val_of_index_zero win3_12 t 0 rfl y) (fun y => Pipeline.Window.rect_emb_val_of_index_zero win3_12 t 1 rfl y)
theorem blk3_w13 (t : Fin cfg3.N) : (blk3 V c 13 t : Vec Ideal S1x1 .f32) = V c main_v36 :=
  read_whole (V c main_v36 : Vec Ideal S1x1 .f32) _ (fun y => Pipeline.Window.rect_emb_val_of_index_zero win3_13 t 0 rfl y) (fun y => Pipeline.Window.rect_emb_val_of_index_zero win3_13 t 1 rfl y)

/-! The windows that hold a block of 2000 edges. -/

theorem blk1_w2 (t : Fin cfg1.N) (i : Fin 2000) (k : Fin 128) (e : Fin 320000) (he : e.val = t.val * 2000 + i.val) :
    (blk1 V c 2 t : Vec Ideal S2000x128 .f32) (ix2 i k) = (V c main_arg0 : Vec Ideal S320000x128 .f32) (ix2 e k) := by
  have hi : ∀ t : Fin cfg1.N, win1_2.index t 0 = t.val := by decide +kernel
  refine congrArg (V c main_arg0 : Vec Ideal S320000x128 .f32) (funext fun d => Fin.ext ?_)
  match d with
  | ⟨0, _⟩ =>
    refine (Pipeline.Window.rect_emb_val win1_2 t (ix2 i k) 0).trans ?_
    show win1_2.index t 0 * 2000 + i.val = e.val
    rw [he, show win1_2.index t 0 = t.val from hi t]
  | ⟨1, _⟩ => exact Pipeline.Window.rect_emb_val_of_index_zero win1_2 t 1 rfl (ix2 i k)
theorem blk3_w2 (t : Fin cfg3.N) (i : Fin 2000) (k : Fin 128) (e : Fin 320000) (he : e.val = t.val * 2000 + i.val) :
    (blk3 V c 2 t : Vec Ideal S2000x128 .f32) (ix2 i k) = (V c main_v23_0 : Vec Ideal S320000x128 .f32) (ix2 e k) := by
  have hi : ∀ t : Fin cfg3.N, win3_2.index t 0 = t.val := by decide +kernel
  refine congrArg (V c main_v23_0 : Vec Ideal S320000x128 .f32) (funext fun d => Fin.ext ?_)
  match d with
  | ⟨0, _⟩ =>
    refine (Pipeline.Window.rect_emb_val win3_2 t (ix2 i k) 0).trans ?_
    show win3_2.index t 0 * 2000 + i.val = e.val
    rw [he, show win3_2.index t 0 = t.val from hi t]
  | ⟨1, _⟩ => exact Pipeline.Window.rect_emb_val_of_index_zero win3_2 t 1 rfl (ix2 i k)
theorem blk1_w3 (t : Fin cfg1.N) (i : Fin 2000) :
    (blk1 V c 3 t : Vec Ideal S1x1x2000 .i32) (ix3 0 0 i) = (V c main_v13 : Vec Ideal S160x1x2000 .i32) (ix3 (⟨t.val, t.isLt⟩ : Fin 160) 0 i) := by
  have hi : ∀ t : Fin cfg1.N, win1_3.index t 0 = t.val := by decide +kernel
  refine congrArg (V c main_v13 : Vec Ideal S160x1x2000 .i32) (funext fun d => Fin.ext ?_)
  match d with
  | ⟨0, _⟩ =>
    refine (Pipeline.Window.rect_emb_val win1_3 t (ix3 0 0 i) 0).trans ?_
    show win1_3.index t 0 * 1 + 0 = t.val
    rw [show win1_3.index t 0 = t.val from hi t]
    omega
  | ⟨1, _⟩ => exact Pipeline.Window.rect_emb_val_of_index_zero win1_3 t 1 rfl (ix3 0 0 i)
  | ⟨2, _⟩ => exact Pipeline.Window.rect_emb_val_of_index_zero win1_3 t 2 rfl (ix3 0 0 i)
theorem blk1_w4 (t : Fin cfg1.N) (i : Fin 2000) :
    (blk1 V c 4 t : Vec Ideal S1x1x2000 .i32) (ix3 0 0 i) = (V c main_v14 : Vec Ideal S160x1x2000 .i32) (ix3 (⟨t.val, t.isLt⟩ : Fin 160) 0 i) := by
  have hi : ∀ t : Fin cfg1.N, win1_4.index t 0 = t.val := by decide +kernel
  refine congrArg (V c main_v14 : Vec Ideal S160x1x2000 .i32) (funext fun d => Fin.ext ?_)
  match d with
  | ⟨0, _⟩ =>
    refine (Pipeline.Window.rect_emb_val win1_4 t (ix3 0 0 i) 0).trans ?_
    show win1_4.index t 0 * 1 + 0 = t.val
    rw [show win1_4.index t 0 = t.val from hi t]
    omega
  | ⟨1, _⟩ => exact Pipeline.Window.rect_emb_val_of_index_zero win1_4 t 1 rfl (ix3 0 0 i)
  | ⟨2, _⟩ => exact Pipeline.Window.rect_emb_val_of_index_zero win1_4 t 2 rfl (ix3 0 0 i)
theorem blk1_w5 (t : Fin cfg1.N) (i : Fin 2000) :
    (blk1 V c 5 t : Vec Ideal S1x1x2000 .i32) (ix3 0 0 i) = (V c main_v16 : Vec Ideal S160x1x2000 .i32) (ix3 (⟨t.val, t.isLt⟩ : Fin 160) 0 i) := by
  have hi : ∀ t : Fin cfg1.N, win1_5.index t 0 = t.val := by decide +kernel
  refine congrArg (V c main_v16 : Vec Ideal S160x1x2000 .i32) (funext fun d => Fin.ext ?_)
  match d with
  | ⟨0, _⟩ =>
    refine (Pipeline.Window.rect_emb_val win1_5 t (ix3 0 0 i) 0).trans ?_
    show win1_5.index t 0 * 1 + 0 = t.val
    rw [show win1_5.index t 0 = t.val from hi t]
    omega
  | ⟨1, _⟩ => exact Pipeline.Window.rect_emb_val_of_index_zero win1_5 t 1 rfl (ix3 0 0 i)
  | ⟨2, _⟩ => exact Pipeline.Window.rect_emb_val_of_index_zero win1_5 t 2 rfl (ix3 0 0 i)
theorem blk3_w3 (t : Fin cfg3.N) (i : Fin 2000) :
    (blk3 V c 3 t : Vec Ideal S1x1x2000 .i32) (ix3 0 0 i) = (V c main_v13 : Vec Ideal S160x1x2000 .i32) (ix3 (⟨t.val, t.isLt⟩ : Fin 160) 0 i) := by
  have hi : ∀ t : Fin cfg3.N, win3_3.index t 0 = t.val := by decide +kernel
  refine congrArg (V c main_v13 : Vec Ideal S160x1x2000 .i32) (funext fun d => Fin.ext ?_)
  match d with
  | ⟨0, _⟩ =>
    refine (Pipeline.Window.rect_emb_val win3_3 t (ix3 0 0 i) 0).trans ?_
    show win3_3.index t 0 * 1 + 0 = t.val
    rw [show win3_3.index t 0 = t.val from hi t]
    omega
  | ⟨1, _⟩ => exact Pipeline.Window.rect_emb_val_of_index_zero win3_3 t 1 rfl (ix3 0 0 i)
  | ⟨2, _⟩ => exact Pipeline.Window.rect_emb_val_of_index_zero win3_3 t 2 rfl (ix3 0 0 i)

end Cert.KernelIdeal.Val

end
-- ==== Proof.Val.Model.lean ====
module

public import proofs.«01_k».proof.Proof.Val.Spec
public import Idealize.ShloMosaic.Lib.Pointwise

/-! The function both programs compute, from the 33 arguments. -/

@[expose] public section

set_option maxRecDepth 16384

noncomputable section

namespace Cert.Spec

open Idealize.ShloMosaic Idealize.ShloMosaic.TcCoe Idealize.SL.Sem

/-- The arguments, by rows. -/
structure Data where
  et : Fin 320000 → Fin 128 → EReal
  q : Fin 512 → Fin 128 → EReal
  gid : Fin 320000 → Fin 512
  mask : Fin 320000 → EReal
  ord : Fin 320000 → Fin 12
  emb : Fin 12 → Fin 128 → EReal
  ty : Fin 128 → EReal
  gnG : Fin 128 → EReal
  gnB : Fin 128 → EReal
  qfG : Fin 128 → EReal
  qfB : Fin 128 → EReal
  qfW : Fin 128 → Fin 128 → EReal
  qfC : Fin 128 → EReal
  m1G : Fin 128 → EReal
  m1B : Fin 128 → EReal
  m1W : Fin 128 → Fin 128 → EReal
  m1C : Fin 128 → EReal
  m2G : Fin 128 → EReal
  m2B : Fin 128 → EReal
  m2W : Fin 128 → Fin 128 → EReal
  m2C : Fin 128 → EReal
  lhG : Fin 256 → EReal
  lhB : Fin 256 → EReal
  lhW : Fin 256 → Fin 128 → EReal
  lhC : Fin 128 → EReal
  lhV : Fin 128 → EReal
  lhD : EReal
  spG : Fin 256 → EReal
  spB : Fin 256 → EReal
  spW : Fin 256 → Fin 128 → EReal
  spC : Fin 128 → EReal
  spV : Fin 128 → EReal
  spD : EReal

namespace Data
variable (D : Data)

/-- The question features of a graph. -/
def qf (g : Fin 512) : Fin 128 → EReal := layer w128 (D.q g) D.qfG D.qfB D.qfW D.qfC
/-- An edge's row before its layers. -/
def xin (e : Fin 320000) (k : Fin 128) : EReal := D.et e k + D.emb (D.ord e) k + (D.qf (D.gid e) k + D.ty k)
/-- An edge's row after the first layer, and after the second. -/
def x1 (e : Fin 320000) : Fin 128 → EReal := layer w128 (D.xin e) D.m1G D.m1B D.m1W D.m1C
def x2 (e : Fin 320000) : Fin 128 → EReal := layer w128 (D.x1 e) D.m2G D.m2B D.m2W D.m2C
/-- The masked rows summed over a graph's edges, and the number of edges the mask keeps. -/
def ssum (g : Fin 512) (k : Fin 128) : EReal := ∑ e, if D.gid e = g then D.x2 e k * D.mask e else 0
def cnt (g : Fin 512) : EReal := ∑ e, if D.gid e = g then D.mask e else 0
/-- A graph's state. -/
def state (g : Fin 512) : Fin 128 → EReal := norm w128 (fun k => Ideal.div (D.ssum g k) (max (D.cnt g) 1) + D.q g k) D.gnG D.gnB
/-- The state an edge would lead to. -/
def next (e : Fin 320000) : Fin 128 → EReal :=
  norm w128 (fun k => D.x2 e k * Ideal.div 1 (D.cnt (D.gid e) + 1) + (D.ssum (D.gid e) k * Ideal.div 1 (D.cnt (D.gid e) + 1) + D.q (D.gid e) k)) D.gnG D.gnB
/-- The logit of an edge, and the stop logit of a graph. -/
def edge (e : Fin 320000) : EReal := head (D.state (D.gid e)) (D.next e) D.lhG D.lhB D.lhW D.lhC D.lhV D.lhD
def stop (g : Fin 512) : EReal := head (D.state g) (D.q g) D.spG D.spB D.spW D.spC D.spV D.spD
end Data

/-- The row of the order table an edge picks: its order word clipped to lie from -1 to 10, plus one. -/
def ordWord (o : BitVec 32) : BitVec 32 := IntOp.addi (IntOp.minsi 10#32 (IntOp.maxsi 4294967295#32 o)) 1#32

/-- The arguments, by rows, read off their arrays. -/
def ofArrays (a0 : (⟨2, ![320000, 128]⟩ : Shape).Idx → EReal) (a1 : (⟨2, ![512, 128]⟩ : Shape).Idx → EReal) (a2 : (⟨1, ![320000]⟩ : Shape).Idx → BitVec 32)
    (a3 : (⟨1, ![320000]⟩ : Shape).Idx → BitVec 1) (a4 : (⟨1, ![320000]⟩ : Shape).Idx → BitVec 32) (a5 : (⟨2, ![12, 128]⟩ : Shape).Idx → EReal) (a6 : (⟨2, ![5, 128]⟩ : Shape).Idx → EReal)
    (a7 a8 a9 a10 : (⟨1, ![128]⟩ : Shape).Idx → EReal) (a11 : (⟨2, ![128, 128]⟩ : Shape).Idx → EReal) (a12 a13 a14 : (⟨1, ![128]⟩ : Shape).Idx → EReal)
    (a15 : (⟨2, ![128, 128]⟩ : Shape).Idx → EReal) (a16 a17 a18 : (⟨1, ![128]⟩ : Shape).Idx → EReal) (a19 : (⟨2, ![128, 128]⟩ : Shape).Idx → EReal) (a20 : (⟨1, ![128]⟩ : Shape).Idx → EReal)
    (a21 a22 : (⟨1, ![256]⟩ : Shape).Idx → EReal) (a23 : (⟨2, ![256, 128]⟩ : Shape).Idx → EReal) (a24 : (⟨1, ![128]⟩ : Shape).Idx → EReal) (a25 : (⟨2, ![128, 1]⟩ : Shape).Idx → EReal) (a26 : (⟨1, ![1]⟩ : Shape).Idx → EReal)
    (a27 a28 : (⟨1, ![256]⟩ : Shape).Idx → EReal) (a29 : (⟨2, ![256, 128]⟩ : Shape).Idx → EReal) (a30 : (⟨1, ![128]⟩ : Shape).Idx → EReal) (a31 : (⟨2, ![128, 1]⟩ : Shape).Idx → EReal) (a32 : (⟨1, ![1]⟩ : Shape).Idx → EReal) : Data where
  et e k := a0 (ix2 e k)
  q g k := a1 (ix2 g k)
  gid e := ⟨(a2 (ix1 e)).toNat % 512, Nat.mod_lt _ (by norm_num)⟩
  mask e := if a3 (ix1 e) = 1#1 then 1 else 0
  ord e := ⟨(ordWord (a4 (ix1 e))).toNat % 12, Nat.mod_lt _ (by norm_num)⟩
  emb o k := a5 (ix2 o k)
  ty k := a6 (ix2 2 k)
  gnG k := a7 (ix1 k)
  gnB k := a8 (ix1 k)
  qfG k := a9 (ix1 k)
  qfB k := a10 (ix1 k)
  qfW i k := a11 (ix2 i k)
  qfC k := a12 (ix1 k)
  m1G k := a13 (ix1 k)
  m1B k := a14 (ix1 k)
  m1W i k := a15 (ix2 i k)
  m1C k := a16 (ix1 k)
  m2G k := a17 (ix1 k)
  m2B k := a18 (ix1 k)
  m2W i k := a19 (ix2 i k)
  m2C k := a20 (ix1 k)
  lhG k := a21 (ix1 k)
  lhB k := a22 (ix1 k)
  lhW i k := a23 (ix2 i k)
  lhC k := a24 (ix1 k)
  lhV k := a25 (ix2 k 0)
  lhD := a26 (ix1 0)
  spG k := a27 (ix1 k)
  spB k := a28 (ix1 k)
  spW i k := a29 (ix2 i k)
  spC k := a30 (ix1 k)
  spV k := a31 (ix2 k 0)
  spD := a32 (ix1 0)

/-- A graph's count is a natural number: it is neither negative nor infinite. -/
theorem mask_cases {D : Data} (h : ∀ e, D.mask e = 0 ∨ D.mask e = 1) (g : Fin 512) : 0 ≤ D.cnt g ∧ D.cnt g ≠ ⊤ := by
  have : ∀ s : Finset (Fin 320000), ∃ n : ℕ, (∑ e ∈ s, if D.gid e = g then D.mask e else 0) = ((n : ℝ) : EReal) := by
    intro s
    induction s using Finset.induction_on with
    | empty => exact ⟨0, by simp⟩
    | insert a s ha ih =>
      obtain ⟨n, hn⟩ := ih
      rw [Finset.sum_insert ha, hn]
      split
      · rcases h a with h | h <;> rw [h]
        · exact ⟨n, by simp⟩
        · exact ⟨n + 1, by push_cast; rw [add_comm]⟩
      · exact ⟨n, by simp⟩
  obtain ⟨n, hn⟩ := this Finset.univ
  unfold Data.cnt
  rw [hn]
  exact ⟨by exact_mod_cast Nat.cast_nonneg n, EReal.coe_ne_top _⟩

end Cert.Spec

end
-- ==== Proof.Val.RowsQf.lean ====
module

public import proofs.«01_k».proof.Proof.Val.Basic

/-! A row of the question features. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

/-- The question features: a layer of the normalised question, and the type row. -/
theorem qf_row (q : Vec Ideal S512x128 .f32) (g b : Vec Ideal S1x128 .f32) (W : Vec Ideal S128x128 .f32) (c t : Vec Ideal S1x128 .f32) (r : Fin 512) (j : Fin 128) :
    qfOut (F := Ideal) q g b W c t (ix2 r j) = layer w128 (r2 q r) (r2 g 0) (r2 b 0) (r2 W) (r2 c 0) j + r2 t 0 j := by
  unfold qfOut k0_pay1 k0_pay2
  dsimp only
  pointwise
  rw [named_root]
  rfl

end Cert.KernelIdeal.Val

end
-- ==== Proof.Val.RowsFwd.lean ====
module

public import proofs.«01_k».proof.Proof.Val.Basic

/-! A row of what the edge call computes for a block: the gathered rows, the two layers, and the sums over the graphs. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable (w1 w2 : BitVec 32) (eb ord mask : Vec Ideal S1x1x2000 .i32) (s : Fin 512) (gid : Fin 2000 → Fin 512)

/-- A row of the gathered table is the table's row at the edge's graph. -/
theorem gath_row (hf : Fits w1 w2 s gid) (heb : ∀ i, eb (ix3 0 0 i) = BitVec.ofNat 32 (gid i).val) (tab : Vec Ideal S640x128 .f32) (i : Fin 2000) (j : Fin 128) :
    fwdGath (F := Ideal) w1 w2 eb tab (ix2 i j) = tab (ix2 ⟨(gid i).val, by have := (gid i).isLt; omega⟩ j) := by
  obtain ⟨rfl, hf⟩ := hf
  have hg := (gid i).isLt
  have hs := s.isLt
  unfold fwdGath
  split
  · next h =>
    have hb := hf h.2 i
    unfold k1_pay13
    try dsimp only
    unfold k1_pay12
    try dsimp only
    pointwise
    have key := pick (fun x : Fin 128 => (FloatOps.sitofp (F := Ideal) .f32 (BitVec.setWidth 32 (IntOp.cmpi .eq (eb (ix3 0 0 i)) (IntOp.addi (BitVec.ofNat 32 x.val) (lane (BitVec.ofNat 32 s.val))))) : EReal))
      (fun x => VecWindow.window tab (k1_off2 (BitVec.ofNat 32 s.val)) S128x128.size (h.1.1 h.2) (ix2 x j)) ⟨(gid i).val - s.val / 8 * 8, by omega⟩ (fun x => by
        have hx := x.isLt
        rw [hot, heb, lane_word, lane_add _ _ hx (by omega), if_congr (word_inj (by omega) (by omega)) rfl rfl]
        refine if_congr ?_ rfl rfl
        rw [Fin.ext_iff]; dsimp only; omega)
    refine key.trans ?_
    rw [window_row tab _ _ (s.val / 8 * 8) (offs s).1.1 (offs s).1.2 _ _ (by first | omega | (dsimp only; omega))]
    congr 2
    exact Fin.ext (by first | omega | (dsimp only; omega))
  · next h =>
    unfold k1_pay14
    try dsimp only
    unfold k1_pay12
    try dsimp only
    pointwise
    have key := pick (fun x : Fin 512 => (FloatOps.sitofp (F := Ideal) .f32 (BitVec.setWidth 32 (IntOp.cmpi .eq (eb (ix3 0 0 i)) (BitVec.ofNat 32 x.val))) : EReal))
      (fun x => VecWindow.window tab ![0, 0] S512x128.size inb_S640x128_S512x128_0_0 (ix2 x j)) (gid i) (fun x => by
        have hx := x.isLt
        rw [hot, heb, if_congr (word_inj (by omega) (by omega)) rfl rfl]
        refine if_congr ?_ rfl rfl
        rw [Fin.ext_iff]; exact eq_comm)
    refine key.trans ?_
    rw [window_row tab ![0, 0] _ 0 rfl rfl _ _ (by omega)]
    congr 2
    exact Fin.ext (by first | omega | (dsimp only; omega))

/-- The row of the order table an edge's order word picks, all the words being clipped to lie from -1 to 14. -/
def orderRow (o : BitVec 32) : BitVec 32 := IntOp.addi (IntOp.minsi 14#32 (IntOp.maxsi 4294967295#32 o)) 1#32

/-- The layers of a row, before the last bias. -/
theorem pre_row (et : Vec Ideal S2000x128 .f32) (gt : FVec Ideal S2000x128 .f32) (emb : Vec Ideal S16x128 .f32)
    (g1 b1 : Vec Ideal S1x128 .f32) (W1 : Vec Ideal S128x128 .f32) (c1 g2 b2 : Vec Ideal S1x128 .f32) (W2 : Vec Ideal S128x128 .f32) (c2 : Vec Ideal S1x128 .f32)
    (o : Fin 16) (i : Fin 2000) (ho : orderRow (ord (ix3 0 0 i)) = BitVec.ofNat 32 o.val) (j : Fin 128) :
    k1_pay1 (F := Ideal) (k1_pay18 (k1_pay17 (k1_pay15 ord) k1_pay16 et emb gt g1 b1) W1 c1 g2 b2 W2) c2 (ix2 i j)
      = layer w128 (layer w128 (fun k => et (ix2 i k) + emb (ix2 o k) + gt (ix2 i k)) (r2 g1 0) (r2 b1 0) (r2 W1) (r2 c1 0)) (r2 g2 0) (r2 b2 0) (r2 W2) (r2 c2 0) j := by
  have h17 : ∀ k : Fin 128, k1_pay17 (F := Ideal) (k1_pay15 ord) k1_pay16 et emb gt g1 b1 (ix2 i k)
      = norm w128 (fun k => et (ix2 i k) + emb (ix2 o k) + gt (ix2 i k)) (r2 g1 0) (r2 b1 0) k := by
    intro k
    have key : ∀ k : Fin 128, (∑ x : Fin 16, (FloatOps.sitofp (F := Ideal) .f32 (BitVec.setWidth 32 (IntOp.cmpi .eq (orderRow (ord (ix3 0 0 i))) (BitVec.ofNat 32 x.val))) : EReal) * emb (ix2 x k)) = emb (ix2 o k) := fun k =>
      pick _ (fun x => emb (ix2 x k)) o (fun x => by
        have hx := x.isLt; have ho' := o.isLt
        rw [hot, ho, if_congr (word_inj (by omega) (by omega)) rfl rfl]
        refine if_congr ?_ rfl rfl
        rw [Fin.ext_iff]; exact eq_comm)
    unfold k1_pay17 k1_pay16 k1_pay15
    try dsimp only
    pointwise
    unfold orderRow at key
    simp only [key]
    rfl
  have h18 : ∀ k : Fin 128, k1_pay18 (F := Ideal) (k1_pay17 (k1_pay15 ord) k1_pay16 et emb gt g1 b1) W1 c1 g2 b2 W2 (ix2 i k)
      = ∑ x, norm w128 (layer w128 (fun k => et (ix2 i k) + emb (ix2 o k) + gt (ix2 i k)) (r2 g1 0) (r2 b1 0) (r2 W1) (r2 c1 0)) (r2 g2 0) (r2 b2 0) x * W2 (ix2 x k) := by
    intro k
    generalize k1_pay17 (F := Ideal) (k1_pay15 ord) k1_pay16 et emb gt g1 b1 = y at h17 ⊢
    unfold k1_pay18
    try dsimp only
    pointwise
    simp only [named_root, h17]
    rfl
  generalize k1_pay18 (F := Ideal) (k1_pay17 (k1_pay15 ord) k1_pay16 et emb gt g1 b1) W1 c1 g2 b2 W2 = y at h18 ⊢
  unfold k1_pay1
  try dsimp only
  pointwise
  simp only [named_root, h18]
  rfl

/-- A block's masked features summed over the edges of a graph, added to what was there. -/
theorem sum_row (hf : Fits w1 w2 s gid) (hc : k1_chk1 w1 w2) (heb : ∀ i, eb (ix3 0 0 i) = BitVec.ofNat 32 (gid i).val) (pre : FVec Ideal S2000x128 .f32) (c2 : Vec Ideal S1x128 .f32) (z : Vec Ideal S640x128 .f32)
    (r : Fin 512) (j : Fin 128) :
    fwdSum (F := Ideal) w1 w2 eb mask pre c2 z (ix2 ⟨r.val, by have := r.isLt; omega⟩ j)
      = z (ix2 ⟨r.val, by have := r.isLt; omega⟩ j)
        + ∑ i : Fin 2000, if gid i = r then k1_pay1 (F := Ideal) pre c2 (ix2 i j) * (FloatOps.sitofp (F := Ideal) .f32 (mask (ix3 0 0 i)) : EReal) else 0 := by
  obtain ⟨rfl, hf⟩ := hf
  have hr := r.isLt
  have hs := s.isLt
  unfold fwdSum
  split
  · next h =>
    have hb := hf h.2
    by_cases hin : s.val / 8 * 8 ≤ r.val ∧ r.val < s.val / 8 * 8 + 128
    · rw [put_row_in z _ _ (s.val / 8 * 8) (offs s).2.1.1 (offs s).2.1.2 _ _ hin.1 hin.2]
      unfold k1_pay7 k1_pay6 k1_pay12 k1_pay3 k1_pay2
      try dsimp only
      pointwise
      rw [window_row z _ _ (s.val / 8 * 8) (offs s).2.1.1 (offs s).2.1.2 _ _ (by first | omega | (dsimp only; omega))]
      refine congrArg₂ (· + ·) ?_ (Finset.sum_congr rfl fun i _ => ?_)
      · congr 2
        exact Fin.ext (by first | omega | (dsimp only; omega))
      · have hg := (gid i).isLt
        have := hb i
        rw [hot, heb, lane_word, lane_add _ _ (by omega) (by omega), if_congr (word_inj (by omega) (by omega)) rfl rfl]
        by_cases he : gid i = r
        · rw [if_pos he, if_pos (by rw [he]; omega), one_mul]
        · rw [if_neg he, if_neg (fun h' => he (Fin.ext (by omega))), zero_mul]
    · rw [put_row_out z _ _ (s.val / 8 * 8) (offs s).2.1.1 _ _ hin, Finset.sum_eq_zero, add_zero]
      intro i _
      rw [if_neg]
      intro he
      have := hb i
      rw [he] at this
      exact hin this
  · next h =>
    rw [put_row_in z ![0, 0] _ 0 rfl rfl _ _ (Nat.zero_le _) (by first | omega | (dsimp only; omega))]
    unfold k1_pay10 k1_pay9 k1_pay12 k1_pay3 k1_pay2
    try dsimp only
    pointwise
    rw [window_row z ![0, 0] _ 0 rfl rfl _ _ (by first | omega | (dsimp only; omega))]
    refine congrArg₂ (· + ·) ?_ (Finset.sum_congr rfl fun i _ => ?_)
    · congr 2
      exact Fin.ext (by first | omega | (dsimp only; omega))
    · have hg := (gid i).isLt
      rw [hot, heb, if_congr (word_inj (by omega) (by first | omega | (dsimp only; omega))) rfl rfl]
      by_cases he : gid i = r
      · rw [if_pos he, if_pos (by rw [he]), one_mul]
      · rw [if_neg he, if_neg (fun h' => he (Fin.ext h')), zero_mul]

/-- A block's mask summed over the edges of a graph, added to what was there. -/
theorem cnt_row (hf : Fits w1 w2 s gid) (hc : k1_chk1 w1 w2) (heb : ∀ i, eb (ix3 0 0 i) = BitVec.ofNat 32 (gid i).val) (z : Vec Ideal S640x1 .f32) (r : Fin 512) :
    fwdCnt (F := Ideal) w1 w2 eb mask z (ix2 ⟨r.val, by have := r.isLt; omega⟩ 0)
      = z (ix2 ⟨r.val, by have := r.isLt; omega⟩ 0) + ∑ i : Fin 2000, if gid i = r then (FloatOps.sitofp (F := Ideal) .f32 (mask (ix3 0 0 i)) : EReal) else 0 := by
  obtain ⟨rfl, hf⟩ := hf
  have hr := r.isLt
  have hs := s.isLt
  unfold fwdCnt
  split
  · next h =>
    have hb := hf h.2
    by_cases hin : s.val / 8 * 8 ≤ r.val ∧ r.val < s.val / 8 * 8 + 128
    · rw [put_row_in z _ _ (s.val / 8 * 8) (offs s).2.2.1.1 (offs s).2.2.1.2 _ _ hin.1 hin.2]
      unfold k1_pay8 k1_pay6 k1_pay12 k1_pay2
      try dsimp only
      pointwise
      rw [window_row z _ _ (s.val / 8 * 8) (offs s).2.2.1.1 (offs s).2.2.1.2 _ _ (by first | omega | (dsimp only; omega))]
      refine congrArg₂ (· + ·) ?_ (Finset.sum_congr rfl fun i _ => ?_)
      · congr 2
        exact Fin.ext (by first | omega | (dsimp only; omega))
      · have hg := (gid i).isLt
        have := hb i
        rw [hot, heb, lane_word, lane_add _ _ (by omega) (by omega), if_congr (word_inj (by omega) (by omega)) rfl rfl]
        by_cases he : gid i = r
        · rw [if_pos he, if_pos (by rw [he]; omega), one_mul]
        · rw [if_neg he, if_neg (fun h' => he (Fin.ext (by omega))), zero_mul]
    · rw [put_row_out z _ _ (s.val / 8 * 8) (offs s).2.2.1.1 _ _ hin, Finset.sum_eq_zero, add_zero]
      intro i _
      rw [if_neg]
      intro he
      have := hb i
      rw [he] at this
      exact hin this
  · next h =>
    rw [put_row_in z ![0, 0] _ 0 rfl rfl _ _ (Nat.zero_le _) (by first | omega | (dsimp only; omega))]
    unfold k1_pay11 k1_pay9 k1_pay12 k1_pay2
    try dsimp only
    pointwise
    rw [window_row z ![0, 0] _ 0 rfl rfl _ _ (by first | omega | (dsimp only; omega))]
    refine congrArg₂ (· + ·) ?_ (Finset.sum_congr rfl fun i _ => ?_)
    · congr 2
      exact Fin.ext (by first | omega | (dsimp only; omega))
    · have hg := (gid i).isLt
      rw [hot, heb, if_congr (word_inj (by omega) (by first | omega | (dsimp only; omega))) rfl rfl]
      by_cases he : gid i = r
      · rw [if_pos he, if_pos (by rw [he]), one_mul]
      · rw [if_neg he, if_neg (fun h' => he (Fin.ext h')), zero_mul]

end Cert.KernelIdeal.Val

end
-- ==== Proof.Val.Kern1.lean ====
module

public import proofs.«01_k».proof.Proof.Val.HostV
public import proofs.«01_k».proof.Proof.Val.Blocks
public import proofs.«01_k».proof.Proof.Val.Model
public import proofs.«01_k».proof.Proof.Val.RowsQf
public import proofs.«01_k».proof.Proof.Val.RowsFwd
public import Idealize.ShloMosaic.Lib.Pipeline.ValueKit.Acc

/-! What the question call and the edge call leave. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable (m : (ℓ : Loc nD τ sig) → Buf (Elt Ideal) ℓ) (c : Dev nD)

/-- What is asked of the edges: their graph numbers lie below 512 and never fall, and no order is above ten. -/
def Good : Prop := ∀ c : Dev nD, (∀ i : S320000.Idx, (m ((c : Thread nD τ).loc main_arg2) i : BitVec 32).toNat < 512)
  ∧ (∀ i j : Fin 320000, i ≤ j → ((m ((c : Thread nD τ).loc main_arg2) : Vec Ideal S320000 .i32) (ix1 i) : BitVec 32).toNat ≤ ((m ((c : Thread nD τ).loc main_arg2) : Vec Ideal S320000 .i32) (ix1 j) : BitVec 32).toNat)
  ∧ (∀ i : S320000.Idx, (m ((c : Thread nD τ).loc main_arg4) i : BitVec 32).toInt ≤ 10)

/-- The arguments, by rows. -/
def dat : Data := ofArrays (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
  (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
  (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
  (m ((c : Thread nD τ).loc main_arg29)) (m ((c : Thread nD τ).loc main_arg30)) (m ((c : Thread nD τ).loc main_arg31)) (m ((c : Thread nD τ).loc main_arg32))

/-- A layer of equal rows through equal weights. -/
theorem layer_congr {n k : ℕ} {w : EReal} {x x' g g' b b' : Fin n → EReal} {W W' : Fin n → Fin k → EReal} {d d' : Fin k → EReal} (hx : x = x') (hg : g = g') (hb : b = b') (hW : W = W') (hd : d = d') (j : Fin k) :
    layer w x g b W d j = layer w x' g' b' W' d' j := by subst hx; subst hg; subst hb; subst hW; subst hd; rfl

/-- The question features. -/
theorem v8_row (g : Fin 512) (k : Fin 128) : (U2 m c main_v8 : Vec Ideal S512x128 .f32) (ix2 g k) = (dat m c).qf g k + (dat m c).ty k := by
  rw [U2_main_v8]
  refine (Pipeline.Dat.arrAt_emb_eq_after_last (dat0 (asContents (U1 m)) c) 6 (⟨0, by decide⟩ : Fin cfg0.N) (by decide +kernel) (ix2 g k)).trans ?_
  rw [after0_6]
  refine (qf_row _ _ _ _ _ _ g k).trans (congrArg₂ (· + ·) (layer_congr ?_ ?_ ?_ ?_ ?_ k) ?_)
  · funext i; exact (congrFun (blk0_w0 (asContents (U1 m)) c _) (ix2 g i)).trans (congrFun (U1_old m c main_arg1 (by decide)) (ix2 g i))
  · funext i; exact (congrFun (blk0_w1 (asContents (U1 m)) c _) (ix2 0 i)).trans (U1_v2 m c i)
  · funext i; exact (congrFun (blk0_w2 (asContents (U1 m)) c _) (ix2 0 i)).trans (U1_v3 m c i)
  · funext i k; exact (congrFun (blk0_w3 (asContents (U1 m)) c _) (ix2 i k)).trans (congrFun (U1_old m c main_arg11 (by decide)) (ix2 i k))
  · funext i; exact (congrFun (blk0_w4 (asContents (U1 m)) c _) (ix2 0 i)).trans (U1_v4 m c i)
  · exact (congrFun (blk0_w5 (asContents (U1 m)) c _) (ix2 0 k)).trans (U1_v7 m c k)

/-- Edge `i` of block `t`. -/
def edgeOf (t : Fin 160) (i : Fin 2000) : Fin 320000 := ⟨t.val * 2000 + i.val, by have := t.isLt; have := i.isLt; omega⟩

variable {m} (hm : Good m)
include hm

theorem gid_word (e : Fin 320000) : ((m ((c : Thread nD τ).loc main_arg2) : Vec Ideal S320000 .i32) (ix1 e) : BitVec 32) = BitVec.ofNat 32 ((dat m c).gid e).val := by
  show _ = BitVec.ofNat 32 (((m ((c : Thread nD τ).loc main_arg2) : Vec Ideal S320000 .i32) (ix1 e) : BitVec 32).toNat % 512)
  rw [Nat.mod_eq_of_lt ((hm c).1 (ix1 e))]
  simp
theorem gid_mono (e e' : Fin 320000) (h : e ≤ e') : ((dat m c).gid e).val ≤ ((dat m c).gid e').val := by
  show ((m ((c : Thread nD τ).loc main_arg2) : Vec Ideal S320000 .i32) (ix1 e) : BitVec 32).toNat % 512 ≤ ((m ((c : Thread nD τ).loc main_arg2) : Vec Ideal S320000 .i32) (ix1 e') : BitVec 32).toNat % 512
  rw [Nat.mod_eq_of_lt ((hm c).1 (ix1 e)), Nat.mod_eq_of_lt ((hm c).1 (ix1 e'))]
  exact (hm c).2.1 e e' h

/-- A block's graph numbers fit in its window when the window is used. -/
theorem fits (t : Fin 160) : Fits ((U3 m c main_v11 : Vec Ideal S160 .i32) (ix1 t)) ((U3 m c main_v12 : Vec Ideal S160 .i32) (ix1 t)) ((dat m c).gid (edgeOf t 0)) (fun i => (dat m c).gid (edgeOf t i)) := by
  have h1 := (U3_v11 m c t (edgeOf t 0) (by simp [edgeOf])).trans (gid_word c hm _)
  have h2 := (U3_v12 m c t (edgeOf t ⟨1999, by norm_num⟩) (by simp [edgeOf])).trans (gid_word c hm _)
  refine ⟨h1, fun hn i => ?_⟩
  rw [h1, h2] at hn
  have a := gid_mono c hm (edgeOf t 0) (edgeOf t i) (by show t.val * 2000 + 0 ≤ t.val * 2000 + i.val; omega)
  have b := gid_mono c hm (edgeOf t i) (edgeOf t ⟨1999, by norm_num⟩) (by have := i.isLt; show t.val * 2000 + i.val ≤ t.val * 2000 + 1999; omega)
  have d := narrow_le _ _ hn (a.trans b)
  dsimp only
  omega

/-- A block's words, from the row of words. -/
theorem word_at (x : Vec Ideal S160 .i32) (n : Fin 160) : wordAt x n = x (ix1 n) := congrArg x (funext fun a => by match a with | ⟨0, _⟩ => rfl)

end Cert.KernelIdeal.Val

end
-- ==== Proof.Val.Kern2.lean ====
module

public import proofs.«01_k».proof.Proof.Val.Kern1

/-! What the edge call leaves: the edges after their layers, and the sums over the graphs. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

theorem slt_iff (x y : BitVec 32) : (x.slt y = true) ↔ x.toInt < y.toInt := by rw [BitVec.slt, decide_eq_true_eq]

/-- The clipped order word, and its range. -/
theorem clip_cases (o : BitVec 32) (h : o.toInt ≤ 10) : (o.toInt < -1 ∧ orderRow o = 0#32 ∧ ordWord o = 0#32) ∨ (-1 ≤ o.toInt ∧ orderRow o = o + 1#32 ∧ ordWord o = o + 1#32) := by
  have e1 : (4294967295#32 : BitVec 32).toInt = -1 := by decide
  have e10 : (10#32 : BitVec 32).toInt = 10 := by decide
  have e14 : (14#32 : BitVec 32).toInt = 14 := by decide
  by_cases h1 : o.toInt < -1
  · refine Or.inl ⟨h1, ?_⟩
    have : IntOp.maxsi 4294967295#32 o = 4294967295#32 := if_pos ((slt_iff _ _).2 (by omega))
    rw [orderRow, ordWord, this]
    decide
  · refine Or.inr ⟨by omega, ?_⟩
    have hm : IntOp.maxsi 4294967295#32 o = o := by
      unfold IntOp.maxsi
      rw [if_neg]
      rw [slt_iff]; omega
    rw [orderRow, ordWord, hm]
    constructor
    · rw [show IntOp.minsi 14#32 o = o from if_neg (by rw [slt_iff]; omega)]; rfl
    · rw [show IntOp.minsi 10#32 o = o from if_neg (by rw [slt_iff]; omega)]; rfl
theorem ordWord_lt (o : BitVec 32) (h : o.toInt ≤ 10) : (ordWord o).toNat < 12 := by
  rcases clip_cases o h with ⟨_, _, e⟩ | ⟨h1, _, e⟩ <;> rw [e]
  · decide
  · have := BitVec.toInt_eq_toNat_cond o
    rw [BitVec.toNat_add]
    have e1 : (1#32 : BitVec 32).toNat = 1 := by decide
    rw [e1]
    split at this <;> omega
theorem orderRow_eq (o : BitVec 32) (h : o.toInt ≤ 10) : orderRow o = ordWord o := by
  rcases clip_cases o h with ⟨_, e, e'⟩ | ⟨_, e, e'⟩ <;> rw [e, e']

/-- A bit as a number. -/
theorem bit_num (b : BitVec 1) : (FloatOps.sitofp (F := Ideal) .f32 (BitVec.setWidth 32 b) : EReal) = if b = 1#1 then 1 else 0 := by
  show (((BitVec.setWidth 32 b).toInt : ℝ) : EReal) = _
  rcases (by revert b; decide : b = 0#1 ∨ b = 1#1) with rfl | rfl
  · rw [if_neg (by decide)]; norm_num
  · rw [if_pos rfl]; norm_num

variable {m : (ℓ : Loc nD τ sig) → Buf (Elt Ideal) ℓ} (c : Dev nD) (hm : Good m)
include hm

/-- The words of a block. -/
theorem eb_word (t : Fin 160) (i : Fin 2000) : (U3 m c main_v13 : Vec Ideal S160x1x2000 .i32) (ix3 t 0 i) = BitVec.ofNat 32 ((dat m c).gid (edgeOf t i)).val :=
  (U3_v13 m c t i (edgeOf t i) rfl).trans (gid_word c hm _)
theorem ord_word (t : Fin 160) (i : Fin 2000) : orderRow ((U3 m c main_v14 : Vec Ideal S160x1x2000 .i32) (ix3 t 0 i)) = BitVec.ofNat 32 ((dat m c).ord (edgeOf t i)).val := by
  rw [U3_v14 m c t i (edgeOf t i) rfl, orderRow_eq _ ((hm c).2.2 _)]
  show _ = BitVec.ofNat 32 ((ordWord ((m ((c : Thread nD τ).loc main_arg4) : Vec Ideal S320000 .i32) (ix1 (edgeOf t i)))).toNat % 12)
  rw [Nat.mod_eq_of_lt (ordWord_lt _ ((hm c).2.2 _))]
  simp
omit hm in
theorem mask_word (t : Fin 160) (i : Fin 2000) : (FloatOps.sitofp (F := Ideal) .f32 ((U3 m c main_v16 : Vec Ideal S160x1x2000 .i32) (ix3 t 0 i)) : EReal) = (dat m c).mask (edgeOf t i) := by
  rw [U3_v16 m c t i (edgeOf t i) rfl]
  exact bit_num _

/-- What the steering words of a grid point say of its block. -/
theorem fits1 (t : Fin cfg1.N) : Fits (wordAt (blk1 (asContents (U3 m)) c 0 t) (grid1.coords t 0)) (wordAt (blk1 (asContents (U3 m)) c 1 t) (grid1.coords t 0))
    ((dat m c).gid (edgeOf ⟨t.val, t.isLt⟩ 0)) (fun i => (dat m c).gid (edgeOf ⟨t.val, t.isLt⟩ i)) := by
  have e : (grid1.coords t 0 : Fin 160) = ⟨t.val, t.isLt⟩ := Fin.ext (coord1 t)
  rw [blk1_word0, blk1_word1, e]
  exact Eq.mpr (congrArg₂ (fun a b => Fits a b _ _) (word_at hm (U3 m c main_v11) ⟨t.val, t.isLt⟩) (word_at hm (U3 m c main_v12) ⟨t.val, t.isLt⟩)) (fits c hm ⟨t.val, t.isLt⟩)
theorem eb1 (t : Fin cfg1.N) (i : Fin 2000) : (blk1 (asContents (U3 m)) c 3 t : Vec Ideal S1x1x2000 .i32) (ix3 0 0 i) = BitVec.ofNat 32 ((dat m c).gid (edgeOf ⟨t.val, t.isLt⟩ i)).val :=
  (blk1_w3 (asContents (U3 m)) c t i).trans (eb_word c hm _ _)

/-- A row of a block of edges after both layers. -/
theorem x2_row (t : Fin cfg1.N) (i : Fin 2000) (j : Fin 128) :
    fwdX (F := Ideal) (preAt (asContents (U3 m)) c t) (blk1 (asContents (U3 m)) c 15 t) (ix2 i j) = (dat m c).x2 (edgeOf ⟨t.val, t.isLt⟩ i) j := by
  unfold fwdX preAt fwdPre
  have ho : ((dat m c).ord (edgeOf ⟨t.val, t.isLt⟩ i)).val < 16 := by have := ((dat m c).ord (edgeOf ⟨t.val, t.isLt⟩ i)).isLt; omega
  refine (pre_row _ _ _ _ _ _ _ _ _ _ _ _ ⟨((dat m c).ord (edgeOf ⟨t.val, t.isLt⟩ i)).val, ho⟩ i ?_ j).trans
    (layer_congr (funext fun j => layer_congr (funext fun k => congrArg₂ (fun a b : EReal => a + b) (congrArg₂ (fun a b : EReal => a + b) ?_ ?_) ?_) ?_ ?_ ?_ ?_ j) ?_ ?_ ?_ ?_ j)
  · exact (congrArg orderRow (blk1_w4 (asContents (U3 m)) c t i)).trans (ord_word c hm _ _)
  · exact (blk1_w2 (asContents (U3 m)) c t i k (edgeOf ⟨t.val, t.isLt⟩ i) rfl).trans (congrFun (U3_old m c main_arg0 (by decide)) (ix2 _ k))
  · exact (congrFun (blk1_w7 (asContents (U3 m)) c t) (ix2 _ k)).trans (U3_v1 m c ((dat m c).ord (edgeOf ⟨t.val, t.isLt⟩ i)) k)
  · exact (gath_row _ _ _ _ _ (fits1 c hm t) (eb1 c hm t) _ i k).trans ((congrFun (blk1_w6 (asContents (U3 m)) c t) (ix2 _ k)).trans ((U3_v10 m c ((dat m c).gid (edgeOf ⟨t.val, t.isLt⟩ i)) k).trans (v8_row m c _ k)))
  · funext k; exact (congrFun (blk1_w8 (asContents (U3 m)) c t) (ix2 0 k)).trans (U3_v17 m c k)
  · funext k; exact (congrFun (blk1_w9 (asContents (U3 m)) c t) (ix2 0 k)).trans (U3_v18 m c k)
  · funext k l; exact (congrFun (blk1_w10 (asContents (U3 m)) c t) (ix2 k l)).trans (congrFun (U3_old m c main_arg15 (by decide)) (ix2 k l))
  · funext k; exact (congrFun (blk1_w11 (asContents (U3 m)) c t) (ix2 0 k)).trans (U3_v19 m c k)
  · funext k; exact (congrFun (blk1_w12 (asContents (U3 m)) c t) (ix2 0 k)).trans (U3_v20 m c k)
  · funext k; exact (congrFun (blk1_w13 (asContents (U3 m)) c t) (ix2 0 k)).trans (U3_v21 m c k)
  · funext k l; exact (congrFun (blk1_w14 (asContents (U3 m)) c t) (ix2 k l)).trans (congrFun (U3_old m c main_arg19 (by decide)) (ix2 k l))
  · funext k; exact (congrFun (blk1_w15 (asContents (U3 m)) c t) (ix2 0 k)).trans (U3_v22 m c k)

/-- The check of a grid point's window. -/
theorem chk_at (t : Fin cfg1.N) : k1_chk1 (wordAt (blk1 (asContents (U3 m)) c 0 t) (grid1.coords t 0)) (wordAt (blk1 (asContents (U3 m)) c 1 t) (grid1.coords t 0)) := by
  obtain ⟨h, _⟩ := fits1 c hm t
  refine chk1_of _ _ ?_
  rw [h, BitVec.toNat_ofNat]
  have := ((dat m c).gid (edgeOf ⟨t.val, t.isLt⟩ 0)).isLt
  omega

/-- The sums after `n` blocks. -/
theorem ssum_at (r : Fin 512) (j : Fin 128) (n : ℕ) : n ≤ 160 → ssumAt (asContents (U3 m)) c n (ix2 ⟨r.val, by have := r.isLt; omega⟩ j)
    = ∑ t ∈ Finset.range n, if h : t < 160 then ∑ i : Fin 2000, (if (dat m c).gid (edgeOf ⟨t, h⟩ i) = r then (dat m c).x2 (edgeOf ⟨t, h⟩ i) j * (dat m c).mask (edgeOf ⟨t, h⟩ i) else 0) else 0 := by
  induction n with
  | zero =>
    intro _
    rw [Finset.sum_range_zero]
    show k1_pay4 (F := Ideal) _ = 0
    unfold k1_pay4
    exact Ideal.ofBits_zero_f32
  | succ n ih =>
    intro hn
    have h : n < 160 := by omega
    rw [Finset.sum_range_succ, ← ih (by omega), dif_pos h]
    refine (congrFun (dif_pos (show n < cfg1.N from h)) _).trans ?_
    refine (sum_row _ _ _ _ _ _ (fits1 c hm ⟨n, h⟩) (chk_at c hm ⟨n, h⟩) (eb1 c hm ⟨n, h⟩) _ _ _ r j).trans (congrArg₂ (· + ·) rfl (Finset.sum_congr rfl fun i _ => ?_))
    refine if_congr Iff.rfl (congrArg₂ (· * ·) (x2_row c hm ⟨n, h⟩ i j) ?_) rfl
    exact (congrArg (FloatOps.sitofp (F := Ideal) .f32) (blk1_w5 (asContents (U3 m)) c ⟨n, h⟩ i)).trans (mask_word c _ _)
theorem cnt_at (r : Fin 512) (n : ℕ) : n ≤ 160 → cntAt (asContents (U3 m)) c n (ix2 ⟨r.val, by have := r.isLt; omega⟩ 0)
    = ∑ t ∈ Finset.range n, if h : t < 160 then ∑ i : Fin 2000, (if (dat m c).gid (edgeOf ⟨t, h⟩ i) = r then (dat m c).mask (edgeOf ⟨t, h⟩ i) else 0) else 0 := by
  induction n with
  | zero =>
    intro _
    rw [Finset.sum_range_zero]
    show k1_pay5 (F := Ideal) _ = 0
    unfold k1_pay5
    exact Ideal.ofBits_zero_f32
  | succ n ih =>
    intro hn
    have h : n < 160 := by omega
    rw [Finset.sum_range_succ, ← ih (by omega), dif_pos h]
    refine (congrFun (dif_pos (show n < cfg1.N from h)) _).trans ?_
    refine (cnt_row _ _ _ _ _ _ (fits1 c hm ⟨n, h⟩) (chk_at c hm ⟨n, h⟩) (eb1 c hm ⟨n, h⟩) _ r).trans (congrArg₂ (· + ·) rfl (Finset.sum_congr rfl fun i _ => ?_))
    refine if_congr Iff.rfl ?_ rfl
    exact (congrArg (FloatOps.sitofp (F := Ideal) .f32) (blk1_w5 (asContents (U3 m)) c ⟨n, h⟩ i)).trans (mask_word c _ _)

omit hm in
/-- Sums over the blocks are sums over the edges. -/
theorem sum_edges (f : Fin 320000 → EReal) : (∑ t ∈ Finset.range 160, if h : t < 160 then ∑ i : Fin 2000, f (edgeOf ⟨t, h⟩ i) else 0) = ∑ e, f e := by
  rw [Finset.sum_range]
  refine (Finset.sum_congr rfl fun t _ => dif_pos t.isLt).trans ?_
  exact Fin.sum_mul_add_fin 160 2000 f

/-- The array of edges after their layers. -/
theorem v23_0_row (e : Fin 320000) (j : Fin 128) : (U4 m c main_v23_0 : Vec Ideal S320000x128 .f32) (ix2 e j) = (dat m c).x2 e j := by
  rw [U4_main_v23_0]
  have h : (dat1 (asContents (U3 m)) c).arrAt 16 cfg1.N = (fun y : S320000x128.Idx => (dat m c).x2 (y 0) (y 1) : Vec Ideal S320000x128 .f32) := by
    refine Pipeline.Dat.arrAt_eq_of_covers (dat1 (asContents (U3 m)) c) 16 _ (by decide +kernel) (fun t hf y => ?_)
    rw [after1_16]
    have hi : ∀ t : Fin cfg1.N, win1_16.index t 0 = t.val := by decide +kernel
    have e0 : ((((cfg1.win 16).blk t).view.emb y : S320000x128.Idx) 0) = edgeOf ⟨t.val, t.isLt⟩ (y 0) := Fin.ext (by
      refine (Pipeline.Window.rect_emb_val win1_16 t y 0).trans ?_
      show win1_16.index t 0 * 2000 + _ = t.val * 2000 + _
      rw [hi])
    have e1 : ((((cfg1.win 16).blk t).view.emb y : S320000x128.Idx) 1) = y 1 := Fin.ext (Pipeline.Window.rect_emb_val_of_index_zero win1_16 t 1 rfl y)
    show fwdX (F := Ideal) (preAt (asContents (U3 m)) c t) (blk1 (asContents (U3 m)) c 15 t) y = (dat m c).x2 ((((cfg1.win 16).blk t).view.emb y : S320000x128.Idx) 0) ((((cfg1.win 16).blk t).view.emb y : S320000x128.Idx) 1)
    rw [e0, e1, ← x2_row c hm t (y 0) (y 1)]
    exact congrArg _ (funext fun a => by match a with | ⟨0, _⟩ => rfl | ⟨1, _⟩ => rfl)
  exact congrFun h (ix2 e j)
omit hm in
set_option maxHeartbeats 8000000 in
/-- The sums are written back whole, once, at the last grid point. -/
theorem whole17 : (cfg1.win 17).WholeAt (⟨159, by decide⟩ : Fin cfg1.N) := by decide +kernel
omit hm in
set_option maxHeartbeats 8000000 in
/-- So are the counts. -/
theorem whole18 : (cfg1.win 18).WholeAt (⟨159, by decide⟩ : Fin cfg1.N) := by decide +kernel
set_option maxHeartbeats 8000000 in
/-- The sums over the graphs. -/
theorem v23_1_row (r : Fin 512) (j : Fin 128) : (U4 m c main_v23_1 : Vec Ideal S640x128 .f32) (ix2 ⟨r.val, by have := r.isLt; omega⟩ j) = (dat m c).ssum r j := by
  rw [U4_main_v23_1]
  have hr : r.val < 640 := by have := r.isLt; omega
  refine (Pipeline.Dat.arrAt_emb_eq_after_last (dat1 (asContents (U3 m)) c) 17 (⟨159, by decide⟩ : Fin cfg1.N) whole17 (ix2 (⟨r.val, hr⟩ : Fin 640) j)).trans ?_
  obtain ⟨S, hS⟩ : ∃ S : Vec Ideal S640x128 .f32, (dat1 (asContents (U3 m)) c).after 17 (⟨159, by decide⟩ : Fin cfg1.N) = S := ⟨_, rfl⟩
  have h1 : S = ssumAt (asContents (U3 m)) c 160 := hS.symm.trans (after1_17 (asContents (U3 m)) c ⟨159, by decide⟩)
  rw [hS]
  show S (ix2 ⟨r.val, hr⟩ j) = _
  rw [h1]
  exact (ssum_at c hm r j 160 le_rfl).trans (sum_edges fun e => if (dat m c).gid e = r then (dat m c).x2 e j * (dat m c).mask e else 0)
set_option maxHeartbeats 8000000 in
/-- The counts. -/
theorem v23_2_row (r : Fin 512) : (U4 m c main_v23_2 : Vec Ideal S640x1 .f32) (ix2 ⟨r.val, by have := r.isLt; omega⟩ 0) = (dat m c).cnt r := by
  rw [U4_main_v23_2]
  have hr : r.val < 640 := by have := r.isLt; omega
  refine (Pipeline.Dat.arrAt_emb_eq_after_last (dat1 (asContents (U3 m)) c) 18 (⟨159, by decide⟩ : Fin cfg1.N) whole18 (ix2 (⟨r.val, hr⟩ : Fin 640) 0)).trans ?_
  obtain ⟨S, hS⟩ : ∃ S : Vec Ideal S640x1 .f32, (dat1 (asContents (U3 m)) c).after 18 (⟨159, by decide⟩ : Fin cfg1.N) = S := ⟨_, rfl⟩
  have h1 : S = cntAt (asContents (U3 m)) c 160 := hS.symm.trans (after1_18 (asContents (U3 m)) c ⟨159, by decide⟩)
  rw [hS]
  show S (ix2 ⟨r.val, hr⟩ 0) = _
  rw [h1]
  exact (cnt_at c hm r 160 le_rfl).trans (sum_edges fun e => if (dat m c).gid e = r then (dat m c).mask e else 0)

end Cert.KernelIdeal.Val

end
-- ==== Proof.Val.RowsGraph.lean ====
module

public import proofs.«01_k».proof.Proof.Val.Basic

/-! A row of what the graph call and the head call compute. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

/-- The rows of two arrays laid side by side. -/
theorem cat512 (a b : FVec Ideal S512x128 .f32) (r : Fin 512) (i : Fin 256) :
    concatenate S512x256 1 [⟨S512x128, a⟩, ⟨S512x128, b⟩] concatenates_S512x128_S512x128_S512x256_d1 (ix2 r i) = glue (r2 a r) (r2 b r) i := by
  pointwise
  rfl
theorem cat2000 (a b : FVec Ideal S2000x128 .f32) (r : Fin 2000) (i : Fin 256) :
    concatenate S2000x256 1 [⟨S2000x128, a⟩, ⟨S2000x128, b⟩] concatenates_S2000x128_S2000x128_S2000x256_d1 (ix2 r i) = glue (r2 a r) (r2 b r) i := by
  pointwise
  rfl

theorem topRows_row (z : Vec Ideal S640x128 .f32) (r : Fin 512) (j : Fin 128) : topRows (F := Ideal) z (ix2 r j) = z (ix2 ⟨r.val, by have := r.isLt; omega⟩ j) := by
  refine (window_row z ![0, 0] _ 0 rfl rfl r j (by have := r.isLt; omega)).trans ?_
  congr 2
  exact Fin.ext (by first | omega | (dsimp only; omega))
theorem topCol_row (z : Vec Ideal S640x1 .f32) (r : Fin 512) (j : Fin 1) : topCol (F := Ideal) z (ix2 r j) = z (ix2 ⟨r.val, by have := r.isLt; omega⟩ j) := by
  refine (window_row z ![0, 0] _ 0 rfl rfl r j (by have := r.isLt; omega)).trans ?_
  congr 2
  exact Fin.ext (by first | omega | (dsimp only; omega))

section Graph
variable (ss : Vec Ideal S640x128 .f32) (cn : Vec Ideal S640x1 .f32) (q : Vec Ideal S512x128 .f32) (g b : Vec Ideal S1x128 .f32) (lg lb : Vec Ideal S1x256 .f32)
    (W1 : Vec Ideal S256x128 .f32) (b1 : Vec Ideal S1x128 .f32) (W2 : Vec Ideal S128x1 .f32) (b2 : Vec Ideal S1x1 .f32) (r : Fin 512)

/-- A graph's state. -/
theorem state_row (j : Fin 128) : graphState (F := Ideal) ss cn q g b (ix2 r j)
    = norm w128 (fun k => Ideal.div (r2 ss ⟨r.val, by have := r.isLt; omega⟩ k) (max (r2 cn ⟨r.val, by have := r.isLt; omega⟩ 0) 1) + r2 q r k) (r2 g 0) (r2 b 0) j := by
  unfold graphState
  rw [show (fun k => Ideal.div (r2 ss ⟨r.val, by have := r.isLt; omega⟩ k) (max (r2 cn ⟨r.val, by have := r.isLt; omega⟩ 0) 1) + r2 q r k)
    = fun k => Ideal.div (topRows (F := Ideal) ss (ix2 r k)) (max (topCol (F := Ideal) cn (ix2 r 0)) 1) + r2 q r k from funext fun k => by rw [topRows_row, topCol_row]]
  generalize topRows (F := Ideal) ss = ss'
  generalize topCol (F := Ideal) cn = cn'
  unfold k2_pay4 k2_pay2 k2_pay3
  try dsimp only
  pointwise
  rfl

/-- A graph's stop logit. -/
theorem stop_row : graphStop (F := Ideal) ss cn q g b lg lb W1 b1 W2 b2 (ix2 r 0)
    = head (r2 (graphState (F := Ideal) ss cn q g b) r) (r2 q r) (r2 lg 0) (r2 lb 0) (r2 W1) (r2 b1 0) (fun i => r2 W2 i 0) (r2 b2 0 0) := by
  unfold graphStop
  generalize graphState (F := Ideal) ss cn q g b = st
  have h9 : ∀ k : Fin 256, k2_pay9 (F := Ideal) q st lg lb (ix2 r k) = norm w256 (glue (r2 st r) (r2 q r)) (r2 lg 0) (r2 lb 0) k := by
    intro k
    unfold k2_pay9
    try dsimp only
    have hc := cat512 st q r
    generalize concatenate S512x256 1 [⟨S512x128, st⟩, ⟨S512x128, q⟩] concatenates_S512x128_S512x128_S512x256_d1 = y at hc ⊢
    pointwise
    simp only [hc]
    rfl
  generalize k2_pay9 (F := Ideal) q st lg lb = y at h9 ⊢
  unfold k2_pay1
  try dsimp only
  pointwise
  simp only [named_root, h9]
  rfl

/-- A graph's row of the table the head gathers from: the state, and the sum over the count one larger, plus the question. -/
theorem tab_row (i : Fin 256) : graphTab (F := Ideal) ss cn q g b (ix2 ⟨r.val, by have := r.isLt; omega⟩ i)
    = glue (r2 (graphState (F := Ideal) ss cn q g b) r)
        (fun k => r2 ss ⟨r.val, by have := r.isLt; omega⟩ k * Ideal.div 1 (r2 cn ⟨r.val, by have := r.isLt; omega⟩ 0 + 1) + r2 q r k) i := by
  have hr := r.isLt
  unfold graphTab
  rw [put_row_out _ ![512, 0] _ 512 rfl _ _ (by first | omega | (dsimp only; omega)), put_row_in _ ![0, 0] _ 0 rfl rfl _ _ (Nat.zero_le _) (by first | omega | (dsimp only; omega))]
  rw [show (⟨(⟨r.val, by omega⟩ : Fin 640).val - 0, by first | omega | (dsimp only; omega)⟩ : Fin 512) = r from Fin.ext (by first | omega | (dsimp only; omega))]
  unfold k2_pay7
  try dsimp only
  refine (cat512 _ _ r i).trans (congrFun (congrArg (glue _) (funext fun k => ?_)) i)
  show _ = ss (ix2 _ k) * Ideal.div 1 (cn (ix2 _ 0) + 1) + q (ix2 r k)
  rw [← topRows_row ss r k, ← topCol_row cn r 0]
  generalize topRows (F := Ideal) ss = ss'
  generalize topCol (F := Ideal) cn = cn'
  unfold k2_pay2 k2_pay5 k2_pay3
  try dsimp only
  pointwise
/-- A graph's reciprocal count. -/
theorem recip_row : graphRecip (F := Ideal) cn (ix2 ⟨r.val, by have := r.isLt; omega⟩ 0) = Ideal.div 1 (r2 cn ⟨r.val, by have := r.isLt; omega⟩ 0 + 1) := by
  have hr := r.isLt
  unfold graphRecip
  rw [put_row_out _ ![512, 0] _ 512 rfl _ _ (by first | omega | (dsimp only; omega)), put_row_in _ ![0, 0] _ 0 rfl rfl _ _ (Nat.zero_le _) (by first | omega | (dsimp only; omega))]
  rw [show (⟨(⟨r.val, by omega⟩ : Fin 640).val - 0, by first | omega | (dsimp only; omega)⟩ : Fin 512) = r from Fin.ext (by first | omega | (dsimp only; omega))]
  show _ = Ideal.div 1 (cn (ix2 _ 0) + 1)
  rw [← topCol_row cn r 0]
  generalize topCol (F := Ideal) cn = cn'
  unfold k2_pay5 k2_pay3
  try dsimp only
  pointwise
end Graph

end Cert.KernelIdeal.Val

end
-- ==== Proof.Val.RowsHead.lean ====
module

public import proofs.«01_k».proof.Proof.Val.RowsGraph

/-! A row of what the head call computes for a block. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable (w1 w2 : BitVec 32) (eb : Vec Ideal S1x1x2000 .i32) (s : Fin 512) (gid : Fin 2000 → Fin 512)

/-- A row of the gathered table is the table's row at the edge's graph. -/
theorem headGath_row (hf : Fits w1 w2 s gid) (heb : ∀ i, eb (ix3 0 0 i) = BitVec.ofNat 32 (gid i).val) (tab : Vec Ideal S640x256 .f32) (i : Fin 2000) (j : Fin 256) :
    headGath (F := Ideal) w1 w2 eb tab (ix2 i j) = tab (ix2 ⟨(gid i).val, by have := (gid i).isLt; omega⟩ j) := by
  obtain ⟨rfl, hf⟩ := hf
  have hg := (gid i).isLt
  have hs := s.isLt
  unfold headGath
  split
  · next h =>
    have hb := hf h.2 i
    unfold k3_pay4 k3_pay3 k3_pay2
    try dsimp only
    pointwise
    have key := pick (fun x : Fin 128 => (FloatOps.sitofp (F := Ideal) .f32 (BitVec.setWidth 32 (IntOp.cmpi .eq (eb (ix3 0 0 i)) (IntOp.addi (BitVec.ofNat 32 x.val) (lane (BitVec.ofNat 32 s.val))))) : EReal))
      (fun x => VecWindow.window tab (k3_off2 (BitVec.ofNat 32 s.val)) S128x256.size (h.1.1 h.2) (ix2 x j)) ⟨(gid i).val - s.val / 8 * 8, by omega⟩ (fun x => by
        have hx := x.isLt
        rw [hot, heb, lane_word, lane_add _ _ hx (by omega), if_congr (word_inj (by omega) (by omega)) rfl rfl]
        refine if_congr ?_ rfl rfl
        rw [Fin.ext_iff]; dsimp only; omega)
    refine key.trans ?_
    rw [window_row tab _ _ (s.val / 8 * 8) (offs s).2.2.2.1.1 (offs s).2.2.2.1.2 _ _ (by first | omega | (dsimp only; omega))]
    congr 2
    exact Fin.ext (by first | omega | (dsimp only; omega))
  · next h =>
    unfold k3_pay7 k3_pay6 k3_pay2
    try dsimp only
    pointwise
    have key := pick (fun x : Fin 512 => (FloatOps.sitofp (F := Ideal) .f32 (BitVec.setWidth 32 (IntOp.cmpi .eq (eb (ix3 0 0 i)) (BitVec.ofNat 32 x.val))) : EReal))
      (fun x => VecWindow.window tab ![0, 0] S512x256.size inb_S640x256_S512x256_0_0 (ix2 x j)) (gid i) (fun x => by
        have hx := x.isLt
        rw [hot, heb, if_congr (word_inj (by omega) (by omega)) rfl rfl]
        refine if_congr ?_ rfl rfl
        rw [Fin.ext_iff]; exact eq_comm)
    refine key.trans ?_
    rw [window_row tab ![0, 0] _ 0 rfl rfl _ _ (by omega)]
    congr 2
    exact Fin.ext (by first | omega | (dsimp only; omega))

/-- The reciprocal gathered for an edge is that of its graph. -/
theorem headRecip_row (hf : Fits w1 w2 s gid) (heb : ∀ i, eb (ix3 0 0 i) = BitVec.ofNat 32 (gid i).val) (tab : Vec Ideal S640x1 .f32) (i : Fin 2000) :
    headRecip (F := Ideal) w1 w2 eb tab (ix2 i 0) = tab (ix2 ⟨(gid i).val, by have := (gid i).isLt; omega⟩ 0) := by
  obtain ⟨rfl, hf⟩ := hf
  have hg := (gid i).isLt
  have hs := s.isLt
  unfold headRecip
  split
  · next h =>
    have hb := hf h.2 i
    unfold k3_pay5 k3_pay3 k3_pay2
    try dsimp only
    pointwise
    have key := pick (fun x : Fin 128 => (FloatOps.sitofp (F := Ideal) .f32 (BitVec.setWidth 32 (IntOp.cmpi .eq (eb (ix3 0 0 i)) (IntOp.addi (BitVec.ofNat 32 x.val) (lane (BitVec.ofNat 32 s.val))))) : EReal))
      (fun x => VecWindow.window tab (k3_off3 (BitVec.ofNat 32 s.val)) S128x1.size (h.1.2 h.2) (ix2 x 0)) ⟨(gid i).val - s.val / 8 * 8, by omega⟩ (fun x => by
        have hx := x.isLt
        rw [hot, heb, lane_word, lane_add _ _ hx (by omega), if_congr (word_inj (by omega) (by omega)) rfl rfl]
        refine if_congr ?_ rfl rfl
        rw [Fin.ext_iff]; dsimp only; omega)
    refine key.trans ?_
    rw [window_row tab _ _ (s.val / 8 * 8) (offs s).2.2.2.2.1 (offs s).2.2.2.2.2 _ _ (by first | omega | (dsimp only; omega))]
    congr 2
    exact Fin.ext (by first | omega | (dsimp only; omega))
  · next h =>
    unfold k3_pay8 k3_pay6 k3_pay2
    try dsimp only
    pointwise
    have key := pick (fun x : Fin 512 => (FloatOps.sitofp (F := Ideal) .f32 (BitVec.setWidth 32 (IntOp.cmpi .eq (eb (ix3 0 0 i)) (BitVec.ofNat 32 x.val))) : EReal))
      (fun x => VecWindow.window tab ![0, 0] S512x1.size inb_S640x1_S512x1_0_0 (ix2 x 0)) (gid i) (fun x => by
        have hx := x.isLt
        rw [hot, heb, if_congr (word_inj (by omega) (by omega)) rfl rfl]
        refine if_congr ?_ rfl rfl
        rw [Fin.ext_iff]; exact eq_comm)
    refine key.trans ?_
    rw [window_row tab ![0, 0] _ 0 rfl rfl _ _ (by omega)]
    congr 2
    exact Fin.ext (by first | omega | (dsimp only; omega))

/-- An edge's logit from the gathered row, split in two, and the gathered reciprocal. -/
theorem mid_row (ga : FVec Ideal S2000x256 .f32) (rec : FVec Ideal S2000x1 .f32) (x : Vec Ideal S2000x128 .f32) (g b : Vec Ideal S1x128 .f32)
    (lg lb : Vec Ideal S1x256 .f32) (W1 : Vec Ideal S256x128 .f32) (b1 : Vec Ideal S1x128 .f32) (W2 : Vec Ideal S128x1 .f32) (b2 : Vec Ideal S1x1 .f32) (i : Fin 2000)
    (st nx : Fin 128 → EReal) (hga : r2 ga i = glue st nx) :
    headMid (F := Ideal) ga rec x g b lg lb W1 b1 W2 b2 (ix2 i 0)
      = head st (norm w128 (fun k => r2 x i k * rec (ix2 i 0) + nx k) (r2 g 0) (r2 b 0)) (r2 lg 0) (r2 lb 0) (r2 W1) (r2 b1 0) (fun k => r2 W2 k 0) (r2 b2 0 0) := by
  unfold headMid
  have h9 : ∀ k, k3_pay9 (F := Ideal) ga (ix2 i k) = st k := by
    intro k
    have hk := k.isLt
    unfold k3_pay9
    try dsimp only
    pointwise
    refine (congrFun hga _).trans ?_
    rw [glue, dif_pos (by first | omega | (dsimp only; omega))]
  have h10 : ∀ k, k3_pay10 (F := Ideal) ga (ix2 i k) = nx k := by
    intro k
    have hk := k.isLt
    unfold k3_pay10
    try dsimp only
    pointwise
    refine (congrFun hga _).trans ?_
    rw [glue, dif_neg (by first | omega | (dsimp only; omega))]
    exact congrArg nx (Fin.ext (by first | omega | (dsimp only; omega)))
  generalize k3_pay9 (F := Ideal) ga = y9 at h9 ⊢
  generalize k3_pay10 (F := Ideal) ga = y10 at h10 ⊢
  have h14 : ∀ k, k3_pay14 (F := Ideal) y9 y10 (k3_pay11 x) rec g b (ix2 i k)
      = glue st (norm w128 (fun k => r2 x i k * rec (ix2 i 0) + nx k) (r2 g 0) (r2 b 0)) k
        - mean w256 (glue st (norm w128 (fun k => r2 x i k * rec (ix2 i 0) + nx k) (r2 g 0) (r2 b 0))) := by
    intro k
    unfold k3_pay14
    try dsimp only
    generalize hy : concatenate S2000x256 1 _ _ = y
    have hc : ∀ k, y (ix2 i k) = glue st (norm w128 (fun k => r2 x i k * rec (ix2 i 0) + nx k) (r2 g 0) (r2 b 0)) k := by
      intro k
      rw [← hy]
      refine (cat2000 _ _ i k).trans (congrFun (congrArg₂ glue (funext h9) (funext fun k => ?_)) k)
      unfold k3_pay11
      dsimp only
      pointwise
      simp only [h10]
      rfl
    pointwise
    simp only [hc]
    rfl
  have h15 : k3_pay15 (F := Ideal) y9 y10 (k3_pay11 x) rec g b (ix2 i 0) = ∑ k, k3_pay14 (F := Ideal) y9 y10 (k3_pay11 x) rec g b (ix2 i k) * k3_pay14 (F := Ideal) y9 y10 (k3_pay11 x) rec g b (ix2 i k) := by
    unfold k3_pay15
    try dsimp only
    generalize k3_pay14 (F := Ideal) y9 y10 (k3_pay11 x) rec g b = y
    pointwise
  simp only [h14] at h15
  generalize k3_pay14 (F := Ideal) y9 y10 (k3_pay11 x) rec g b = y14 at h14 ⊢
  generalize k3_pay15 (F := Ideal) y9 y10 (k3_pay11 x) rec g b = y15 at h15 ⊢
  unfold k3_pay1 k3_pay12 k3_pay13
  try dsimp only
  pointwise
  simp only [named_root, h14, h15]
  rfl

end Cert.KernelIdeal.Val

end
-- ==== Proof.Val.Kern3.lean ====
module

public import proofs.«01_k».proof.Proof.Val.Kern2
public import proofs.«01_k».proof.Proof.Val.RowsGraph
public import proofs.«01_k».proof.Proof.Val.RowsHead

/-! What the graph call leaves: states, stop logits, and the tables the head call reads. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

theorem norm_congr {n : ℕ} {w : EReal} {x x' g g' b b' : Fin n → EReal} (hx : x = x') (hg : g = g') (hb : b = b') (i : Fin n) : norm w x g b i = norm w x' g' b' i := by
  rw [hx, hg, hb]
theorem head_congr {a a' b b' : Fin 128 → EReal} {g g' d d' : Fin 256 → EReal} {W W' : Fin 256 → Fin 128 → EReal} {c c' V V' : Fin 128 → EReal} {e e' : EReal}
    (ha : a = a') (hb : b = b') (hg : g = g') (hd : d = d') (hW : W = W') (hc : c = c') (hV : V = V') (he : e = e') : head a b g d W c V e = head a' b' g' d' W' c' V' e' := by
  rw [ha, hb, hg, hd, hW, hc, hV, he]

variable {m : (ℓ : Loc nD τ sig) → Buf (Elt Ideal) ℓ} (c : Dev nD) (hm : Good m)
include hm

/-- What the graph call reads. -/
theorem ss2 (t : Fin cfg2.N) (r : Fin 512) : r2 (blk2 (asContents (U5 m)) c 0 t : Vec Ideal S640x128 .f32) ⟨r.val, by have := r.isLt; omega⟩ = (dat m c).ssum r := by
  funext j
  exact (congrFun (blk2_w0 (asContents (U5 m)) c t) (ix2 _ j)).trans ((congrFun (U5_keep m c main_v23_1 (by decide)) (ix2 _ j)).trans (v23_1_row c hm r j))
theorem cn2 (t : Fin cfg2.N) (r : Fin 512) : r2 (blk2 (asContents (U5 m)) c 1 t : Vec Ideal S640x1 .f32) ⟨r.val, by have := r.isLt; omega⟩ 0 = (dat m c).cnt r :=
  (congrFun (blk2_w1 (asContents (U5 m)) c t) (ix2 _ 0)).trans ((congrFun (U5_keep m c main_v23_2 (by decide)) (ix2 _ 0)).trans (v23_2_row c hm r))
omit hm in
theorem q2 (t : Fin cfg2.N) (r : Fin 512) : r2 (blk2 (asContents (U5 m)) c 2 t : Vec Ideal S512x128 .f32) r = (dat m c).q r := by
  funext j
  exact (congrFun (blk2_w2 (asContents (U5 m)) c t) (ix2 r j)).trans ((congrFun (U5_keep m c main_arg1 (by decide)) (ix2 r j)).trans (congrFun (U4_old m c main_arg1 (by decide)) (ix2 r j)))

/-- A state, as the graph call computes it. -/
theorem state2 (t : Fin cfg2.N) (r : Fin 512) : r2 (graphState (F := Ideal) (blk2 (asContents (U5 m)) c 0 t) (blk2 (asContents (U5 m)) c 1 t) (blk2 (asContents (U5 m)) c 2 t) (blk2 (asContents (U5 m)) c 3 t) (blk2 (asContents (U5 m)) c 4 t)) r = (dat m c).state r := by
  funext j
  refine (state_row _ _ _ _ _ r j).trans (norm_congr (funext fun k => ?_) ?_ ?_ j)
  · rw [ss2 c hm t r, cn2 c hm t r, q2 c t r]
  · funext k; exact (congrFun (blk2_w3 (asContents (U5 m)) c t) (ix2 0 k)).trans (U5_v24 m c k)
  · funext k; exact (congrFun (blk2_w4 (asContents (U5 m)) c t) (ix2 0 k)).trans (U5_v25 m c k)

/-- The states. -/
theorem v30_0_row (r : Fin 512) (j : Fin 128) : (U6 m c main_v30_0 : Vec Ideal S512x128 .f32) (ix2 r j) = (dat m c).state r j := by
  rw [U6_main_v30_0]
  refine (Pipeline.Dat.arrAt_emb_eq_after_last (dat2 (asContents (U5 m)) c) 11 (⟨0, by decide⟩ : Fin cfg2.N) (by decide +kernel) (ix2 r j)).trans ?_
  rw [after2_11]
  exact congrFun (state2 c hm _ r) j
/-- The stop logits. -/
theorem v30_1_row (r : Fin 512) : (U6 m c main_v30_1 : Vec Ideal S512x1 .f32) (ix2 r 0) = (dat m c).stop r := by
  rw [U6_main_v30_1]
  refine (Pipeline.Dat.arrAt_emb_eq_after_last (dat2 (asContents (U5 m)) c) 12 (⟨0, by decide⟩ : Fin cfg2.N) (by decide +kernel) (ix2 r 0)).trans ?_
  rw [after2_12]
  refine (stop_row _ _ _ _ _ _ _ _ _ _ _ r).trans (head_congr (state2 c hm _ r) (q2 c _ r) ?_ ?_ ?_ ?_ ?_ ?_)
  · funext k; exact (congrFun (blk2_w5 (asContents (U5 m)) c _) (ix2 0 k)).trans (U5_v26 m c k)
  · funext k; exact (congrFun (blk2_w6 (asContents (U5 m)) c _) (ix2 0 k)).trans (U5_v27 m c k)
  · funext k l; exact (congrFun (blk2_w7 (asContents (U5 m)) c _) (ix2 k l)).trans ((congrFun (U5_keep m c main_arg29 (by decide)) (ix2 k l)).trans (congrFun (U4_old m c main_arg29 (by decide)) (ix2 k l)))
  · funext k; exact (congrFun (blk2_w8 (asContents (U5 m)) c _) (ix2 0 k)).trans (U5_v28 m c k)
  · funext k; exact (congrFun (blk2_w9 (asContents (U5 m)) c _) (ix2 k 0)).trans ((congrFun (U5_keep m c main_arg31 (by decide)) (ix2 k 0)).trans (congrFun (U4_old m c main_arg31 (by decide)) (ix2 k 0)))
  · exact (congrFun (blk2_w10 (asContents (U5 m)) c _) (ix2 0 0)).trans (U5_v29 m c)
/-- The table of per-graph features. -/
theorem v30_2_row (r : Fin 512) (i : Fin 256) : (U6 m c main_v30_2 : Vec Ideal S640x256 .f32) (ix2 ⟨r.val, by have := r.isLt; omega⟩ i)
    = glue ((dat m c).state r) (fun k => (dat m c).ssum r k * Ideal.div 1 ((dat m c).cnt r + 1) + (dat m c).q r k) i := by
  rw [U6_main_v30_2]
  have hr : r.val < 640 := by have := r.isLt; omega
  refine (Pipeline.Dat.arrAt_emb_eq_after_last (dat2 (asContents (U5 m)) c) 13 (⟨0, by decide⟩ : Fin cfg2.N) (by decide +kernel) (ix2 (⟨r.val, hr⟩ : Fin 640) i)).trans ?_
  rw [after2_13]
  refine (tab_row _ _ _ _ _ r i).trans ?_
  rw [state2 c hm _ r, ss2 c hm _ r, cn2 c hm _ r, q2 c _ r]
/-- The reciprocals. -/
theorem v30_3_row (r : Fin 512) : (U6 m c main_v30_3 : Vec Ideal S640x1 .f32) (ix2 ⟨r.val, by have := r.isLt; omega⟩ 0) = Ideal.div 1 ((dat m c).cnt r + 1) := by
  rw [U6_main_v30_3]
  have hr : r.val < 640 := by have := r.isLt; omega
  refine (Pipeline.Dat.arrAt_emb_eq_after_last (dat2 (asContents (U5 m)) c) 14 (⟨0, by decide⟩ : Fin cfg2.N) (by decide +kernel) (ix2 (⟨r.val, hr⟩ : Fin 640) 0)).trans ?_
  rw [after2_14]
  refine (recip_row _ r).trans ?_
  rw [cn2 c hm _ r]

end Cert.KernelIdeal.Val

end
-- ==== Proof.Val.Kern4.lean ====
module

public import proofs.«01_k».proof.Proof.Val.Kern3

/-! What the head call leaves, and the three results. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Run Cert.Spec

variable {m : (ℓ : Loc nD τ sig) → Buf (Elt Ideal) ℓ} (c : Dev nD) (hm : Good m)
include hm

/-- The edge logits of a block. -/
theorem head_block (t : Fin cfg3.N) (i : Fin 2000) :
    headOut (F := Ideal) (wordAt (blk3 (asContents (U7 m)) c 0 t) (grid3.coords t 0)) (wordAt (blk3 (asContents (U7 m)) c 1 t) (grid3.coords t 0)) (blk3 (asContents (U7 m)) c 2 t) (blk3 (asContents (U7 m)) c 3 t) (blk3 (asContents (U7 m)) c 4 t) (blk3 (asContents (U7 m)) c 5 t) (blk3 (asContents (U7 m)) c 6 t) (blk3 (asContents (U7 m)) c 7 t) (blk3 (asContents (U7 m)) c 8 t) (blk3 (asContents (U7 m)) c 9 t) (blk3 (asContents (U7 m)) c 10 t) (blk3 (asContents (U7 m)) c 11 t) (blk3 (asContents (U7 m)) c 12 t) (blk3 (asContents (U7 m)) c 13 t) (ix2 i 0)
      = (dat m c).edge (edgeOf ⟨t.val, t.isLt⟩ i) := by
  have hf : Fits (wordAt (blk3 (asContents (U7 m)) c 0 t) (grid3.coords t 0)) (wordAt (blk3 (asContents (U7 m)) c 1 t) (grid3.coords t 0))
      ((dat m c).gid (edgeOf ⟨t.val, t.isLt⟩ 0)) (fun i => (dat m c).gid (edgeOf ⟨t.val, t.isLt⟩ i)) := by
    have e : (grid3.coords t 0 : Fin 160) = ⟨t.val, t.isLt⟩ := Fin.ext ((show (grid3.coords t 0).val = t.val from coord1 t))
    rw [blk3_word0, blk3_word1, e]
    exact Eq.mpr (congrArg₂ (fun a b => Fits a b _ _) ((word_at hm (U7 m c main_v11) ⟨t.val, t.isLt⟩).trans (congrFun (U7_of_U3 m c main_v11 (by decide)) _))
      ((word_at hm (U7 m c main_v12) ⟨t.val, t.isLt⟩).trans (congrFun (U7_of_U3 m c main_v12 (by decide)) _))) (fits c hm ⟨t.val, t.isLt⟩)
  have heb : ∀ i : Fin 2000, (blk3 (asContents (U7 m)) c 3 t : Vec Ideal S1x1x2000 .i32) (ix3 0 0 i) = BitVec.ofNat 32 ((dat m c).gid (edgeOf ⟨t.val, t.isLt⟩ i)).val := fun i =>
    (blk3_w3 (asContents (U7 m)) c t i).trans ((congrFun (U7_of_U3 m c main_v13 (by decide)) _).trans (eb_word c hm _ _))
  unfold headOut
  refine (mid_row _ _ _ _ _ _ _ _ _ _ _ i ((dat m c).state ((dat m c).gid (edgeOf ⟨t.val, t.isLt⟩ i)))
    (fun k => (dat m c).ssum ((dat m c).gid (edgeOf ⟨t.val, t.isLt⟩ i)) k * Ideal.div 1 ((dat m c).cnt ((dat m c).gid (edgeOf ⟨t.val, t.isLt⟩ i)) + 1) + (dat m c).q ((dat m c).gid (edgeOf ⟨t.val, t.isLt⟩ i)) k) ?_).trans
    (head_congr rfl (funext fun k => norm_congr (funext fun k => congrArg₂ (fun a b : EReal => a + b) (congrArg₂ (fun a b : EReal => a * b) ?_ ?_) rfl) ?_ ?_ k) ?_ ?_ ?_ ?_ ?_ ?_)
  · funext j
    exact (headGath_row _ _ _ _ _ hf heb _ i j).trans ((congrFun (blk3_w4 (asContents (U7 m)) c t) (ix2 _ j)).trans ((congrFun (U7_keep m c main_v30_2 (by decide)) (ix2 _ j)).trans (v30_2_row c hm _ j)))
  · exact (blk3_w2 (asContents (U7 m)) c t i k (edgeOf ⟨t.val, t.isLt⟩ i) rfl).trans ((congrFun ((U7_keep m c main_v23_0 (by decide)).trans ((U6_ne m c main_v23_0 (by decide)).trans (U5_keep m c main_v23_0 (by decide)))) (ix2 _ k)).trans (v23_0_row c hm _ k))
  · exact (headRecip_row _ _ _ _ _ hf heb _ i).trans ((congrFun (blk3_w5 (asContents (U7 m)) c t) (ix2 _ 0)).trans ((congrFun (U7_keep m c main_v30_3 (by decide)) (ix2 _ 0)).trans (v30_3_row c hm _)))
  · funext k; exact (congrFun (blk3_w6 (asContents (U7 m)) c t) (ix2 0 k)).trans (U7_v31 m c k)
  · funext k; exact (congrFun (blk3_w7 (asContents (U7 m)) c t) (ix2 0 k)).trans (U7_v32 m c k)
  · funext k; exact (congrFun (blk3_w8 (asContents (U7 m)) c t) (ix2 0 k)).trans (U7_v33 m c k)
  · funext k; exact (congrFun (blk3_w9 (asContents (U7 m)) c t) (ix2 0 k)).trans (U7_v34 m c k)
  · funext k l; exact (congrFun (blk3_w10 (asContents (U7 m)) c t) (ix2 k l)).trans ((congrFun (U7_keep m c main_arg23 (by decide)) (ix2 k l)).trans (congrFun (U6_old m c main_arg23 (by decide)) (ix2 k l)))
  · funext k; exact (congrFun (blk3_w11 (asContents (U7 m)) c t) (ix2 0 k)).trans (U7_v35 m c k)
  · funext k; exact (congrFun (blk3_w12 (asContents (U7 m)) c t) (ix2 k 0)).trans ((congrFun (U7_keep m c main_arg25 (by decide)) (ix2 k 0)).trans (congrFun (U6_old m c main_arg25 (by decide)) (ix2 k 0)))
  · exact (congrFun (blk3_w13 (asContents (U7 m)) c t) (ix2 0 0)).trans (U7_v36 m c)

/-- The edge logits. -/
theorem v37_row (e : Fin 320000) : (U8 m c main_v37 : Vec Ideal S320000x1 .f32) (ix2 e 0) = (dat m c).edge e := by
  rw [U8_main_v37]
  have h : (dat3 (asContents (U7 m)) c).arrAt 14 cfg3.N = (fun y : S320000x1.Idx => (dat m c).edge (y 0) : Vec Ideal S320000x1 .f32) := by
    refine Pipeline.Dat.arrAt_eq_of_covers (dat3 (asContents (U7 m)) c) 14 _ (by decide +kernel) (fun t hf y => ?_)
    rw [after3_14]
    have hi : ∀ t : Fin cfg3.N, win3_14.index t 0 = t.val := by decide +kernel
    have e0 : ((((cfg3.win 14).blk t).view.emb y : S320000x1.Idx) 0) = edgeOf ⟨t.val, t.isLt⟩ (y 0) := Fin.ext (by
      refine (Pipeline.Window.rect_emb_val win3_14 t y 0).trans ?_
      show win3_14.index t 0 * 2000 + _ = t.val * 2000 + _
      rw [hi])
    show headOut (F := Ideal) _ _ _ _ _ _ _ _ _ _ _ _ _ _ y = (dat m c).edge ((((cfg3.win 14).blk t).view.emb y : S320000x1.Idx) 0)
    rw [e0, ← head_block c hm t (y 0)]
    exact congrArg _ (funext fun a => by match a with | ⟨0, _⟩ => rfl | ⟨1, _⟩ => exact Subsingleton.elim (α := Fin 1) _ _)
  exact congrFun h (ix2 e 0)

/-- The three results. -/
theorem edge_result : (U9 m c main_v38 : Vec Ideal S320000 .f32) = fun i => (dat m c).edge (i 0) := by
  funext i
  obtain ⟨e, rfl⟩ : ∃ e : Fin 320000, i = ix1 e := ⟨i 0, funext fun a => by match a with | ⟨0, _⟩ => rfl⟩
  exact (U9_v38 m c e).trans (v37_row c hm e)
theorem stop_result : (U9 m c main_v39 : Vec Ideal S512 .f32) = fun i => (dat m c).stop (i 0) := by
  funext i
  obtain ⟨e, rfl⟩ : ∃ e : Fin 512, i = ix1 e := ⟨i 0, funext fun a => by match a with | ⟨0, _⟩ => rfl⟩
  exact (U9_v39 m c e).trans (v30_1_row c hm e)
theorem state_result : (U9 m c main_v30_0 : Vec Ideal S512x128 .f32) = fun i => (dat m c).state (i 0) (i 1) := by
  funext i
  obtain ⟨r, j, rfl⟩ : ∃ (r : Fin 512) (j : Fin 128), i = ix2 r j := ⟨i 0, i 1, funext fun a => by match a with | ⟨0, _⟩ => rfl | ⟨1, _⟩ => rfl⟩
  exact (congrFun (U9_v30 m c) _).trans (v30_0_row c hm r j)

end Cert.KernelIdeal.Val

end
-- ==== Proof.Val.RefNorm.lean ====
module

public import proofs.«01_k».proof.Proof.Val.Spec
public import proofs.«01_k».proof.Proof.Gen.ReferenceIdeal.Run
public import Idealize.ShloMosaic.Lib.Pointwise
public import Idealize.ShloMosaic.Lib.Pipeline.Value
public import Idealize.ShloMosaic.PureOps.Ideal.Laws

/-! The reference, one layer of operations at a time, read row by row: normalising. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-- A number less zero. -/
theorem less_zero (w : EReal) : w - (((0#32 : BitVec 32).toInt : ℝ) : EReal) = w := by norm_num
theorem guard {w : EReal} (h : 0 < w) : Ideal.cmp .ogt (w - (((0#32 : BitVec 32).toInt : ℝ) : EReal)) (Ideal.ofBits .f32 0x00000000#32) = 1#1 := by
  rw [less_zero, Ideal.ofBits_zero_f32]
  simp [Ideal.cmp, h]

/-- A vector as a column. -/
theorem col_512 (v : FVec Ideal S512 .f32) (r : Fin 512) : broadcastInDim S512x1 ![0] bcast_S512_S512x1_0 v (ix2 r 0) = v (ix1 r) :=
  congrArg v (funext fun a => Fin.ext (by match a with | ⟨0, _⟩ => rfl))

/-- A vector as a column. -/
theorem col_320000 (v : FVec Ideal S320000 .f32) (r : Fin 320000) : broadcastInDim S320000x1 ![0] bcast_S320000_S320000x1_0 v (ix2 r 0) = v (ix1 r) :=
  congrArg v (funext fun a => Fin.ext (by match a with | ⟨0, _⟩ => rfl))

/-- The sum of a row. -/
theorem sum_512_128 (x : FVec Ideal S512x128 .f32) (r : Fin 512) : Host.reduceAdd x (constant (F := Ideal) S_ .f32 0x00000000#32) reducesTo_S512x128_S512_d1 h_S_ (ix1 r) = ∑ k : Fin 128, x (ix2 r k) := by
  simp only [Host.reduceAdd, Ideal.hostReduceAdd_def]
  rw [Ideal.hostReduceAdd_single reducesTo_S512x128_S512_d1 (by decide)]
  refine (congrArg₂ (fun a b : EReal => a + b) (Ideal.ofBits_zero_f32 : (constant (F := Ideal) S_ .f32 0x00000000#32) (Shape.Idx.first h_S_) = 0) (Finset.sum_congr rfl fun k _ => ?_)).trans (zero_add _)
  exact congrArg x (funext fun a => Fin.ext (by match a with | ⟨0, _⟩ => rfl | ⟨1, _⟩ => rfl))
/-- The variance of the 512 rows of an array. -/
def var_512_128 (x : FVec Ideal S512x128 .f32) : FVec Ideal S512x1 .f32 :=
  select (broadcastInDim S512x1 ![] bcast_S_S512x1 (cmpf .ogt (subf (constant (F := Ideal) S_ .f32 0x43000000#32) (sitofp .f32 (constantI S_ 32 0#32))) (constant (F := Ideal) S_ .f32 0x00000000#32)))
    (Host.divf (broadcastInDim S512x1 ![0] bcast_S512_S512x1_0 (Host.reduceAdd
      (mulf (subf x (broadcastInDim S512x128 ![0, 1] bcast_S512x1_S512x128_0_1 (Host.divf (broadcastInDim S512x1 ![0] bcast_S512_S512x1_0 (Host.reduceAdd x (constant (F := Ideal) S_ .f32 0x00000000#32) reducesTo_S512x128_S512_d1 h_S_)) (broadcastInDim S512x1 ![] bcast_S_S512x1 (constant (F := Ideal) S_ .f32 0x43000000#32)))))
        (subf x (broadcastInDim S512x128 ![0, 1] bcast_S512x1_S512x128_0_1 (Host.divf (broadcastInDim S512x1 ![0] bcast_S512_S512x1_0 (Host.reduceAdd x (constant (F := Ideal) S_ .f32 0x00000000#32) reducesTo_S512x128_S512_d1 h_S_)) (broadcastInDim S512x1 ![] bcast_S_S512x1 (constant (F := Ideal) S_ .f32 0x43000000#32))))))
      (constant (F := Ideal) S_ .f32 0x00000000#32) reducesTo_S512x128_S512_d1 h_S_)) (broadcastInDim S512x1 ![] bcast_S_S512x1 (subf (constant (F := Ideal) S_ .f32 0x43000000#32) (sitofp .f32 (constantI S_ 32 0#32)))))
    (broadcastInDim S512x1 ![] bcast_S_S512x1 (id (constant (F := Ideal) S_ .f32 0x7FC00000#32)))

/-- Normalising the 512 rows of an array. -/
def ln_512_128 (x : FVec Ideal S512x128 .f32) (g b : FVec Ideal S128 .f32) : FVec Ideal S512x128 .f32 :=
  addf (mulf (Host.divf (subf x (broadcastInDim S512x128 ![0, 1] bcast_S512x1_S512x128_0_1 (Host.divf (broadcastInDim S512x1 ![0] bcast_S512_S512x1_0 (Host.reduceAdd x (constant (F := Ideal) S_ .f32 0x00000000#32) reducesTo_S512x128_S512_d1 h_S_)) (broadcastInDim S512x1 ![] bcast_S_S512x1 (constant (F := Ideal) S_ .f32 0x43000000#32)))))
    (broadcastInDim S512x128 ![0, 1] bcast_S512x1_S512x128_0_1 (Host.sqrt (addf (var_512_128 x) (broadcastInDim S512x1 ![] bcast_S_S512x1 (constant (F := Ideal) S_ .f32 0x3727C5AC#32))))))
    (broadcastInDim S512x128 ![0, 1] bcast_S1x128_S512x128_0_1 (broadcastInDim S1x128 ![1] bcast_S128_S1x128_1 g))) (broadcastInDim S512x128 ![0, 1] bcast_S1x128_S512x128_0_1 (broadcastInDim S1x128 ![1] bcast_S128_S1x128_1 b))

theorem var_512_128_row (x : FVec Ideal S512x128 .f32) (r : Fin 512) : var_512_128 x (ix2 r 0) = var w128 (fun k => x (ix2 r k)) := by
  unfold var_512_128
  refine (if_pos (guard w128_pos) : (if _ = 1#1 then _ else _) = _).trans ?_
  refine congrArg₂ Ideal.div ((col_512 _ r).trans ((sum_512_128 _ r).trans (Finset.sum_congr rfl fun k _ => ?_))) (less_zero _)
  have h : ∀ k, (subf x (broadcastInDim S512x128 ![0, 1] bcast_S512x1_S512x128_0_1 (Host.divf (broadcastInDim S512x1 ![0] bcast_S512_S512x1_0 (Host.reduceAdd x (constant (F := Ideal) S_ .f32 0x00000000#32) reducesTo_S512x128_S512_d1 h_S_)) (broadcastInDim S512x1 ![] bcast_S_S512x1 (constant (F := Ideal) S_ .f32 0x43000000#32)))) : FVec Ideal S512x128 .f32) (ix2 r k)
      = x (ix2 r k) - mean w128 (fun k => x (ix2 r k)) := fun k => by
    refine congrArg (fun a : EReal => x (ix2 r k) - a) ?_
    refine Eq.trans ?_ (congrArg (fun a => Ideal.div a w128) (sum_512_128 x r))
    pointwise
  exact congrArg₂ (fun a b : EReal => a * b) (h k) (h k)
theorem ln_512_128_row (x : FVec Ideal S512x128 .f32) (g b : FVec Ideal S128 .f32) (r : Fin 512) (j : Fin 128) : ln_512_128 x g b (ix2 r j) = norm w128 (fun k => x (ix2 r k)) (fun k => g (ix1 k)) (fun k => b (ix1 k)) j := by
  rw [← norm_eq w128_pos, ← var_512_128_row x r, mean, ← sum_512_128 x r]
  unfold ln_512_128
  pointwise

/-- The sum of a row. -/
theorem sum_320000_128 (x : FVec Ideal S320000x128 .f32) (r : Fin 320000) : Host.reduceAdd x (constant (F := Ideal) S_ .f32 0x00000000#32) reducesTo_S320000x128_S320000_d1 h_S_ (ix1 r) = ∑ k : Fin 128, x (ix2 r k) := by
  simp only [Host.reduceAdd, Ideal.hostReduceAdd_def]
  rw [Ideal.hostReduceAdd_single reducesTo_S320000x128_S320000_d1 (by decide)]
  refine (congrArg₂ (fun a b : EReal => a + b) (Ideal.ofBits_zero_f32 : (constant (F := Ideal) S_ .f32 0x00000000#32) (Shape.Idx.first h_S_) = 0) (Finset.sum_congr rfl fun k _ => ?_)).trans (zero_add _)
  exact congrArg x (funext fun a => Fin.ext (by match a with | ⟨0, _⟩ => rfl | ⟨1, _⟩ => rfl))
/-- The variance of the 320000 rows of an array. -/
def var_320000_128 (x : FVec Ideal S320000x128 .f32) : FVec Ideal S320000x1 .f32 :=
  select (broadcastInDim S320000x1 ![] bcast_S_S320000x1 (cmpf .ogt (subf (constant (F := Ideal) S_ .f32 0x43000000#32) (sitofp .f32 (constantI S_ 32 0#32))) (constant (F := Ideal) S_ .f32 0x00000000#32)))
    (Host.divf (broadcastInDim S320000x1 ![0] bcast_S320000_S320000x1_0 (Host.reduceAdd
      (mulf (subf x (broadcastInDim S320000x128 ![0, 1] bcast_S320000x1_S320000x128_0_1 (Host.divf (broadcastInDim S320000x1 ![0] bcast_S320000_S320000x1_0 (Host.reduceAdd x (constant (F := Ideal) S_ .f32 0x00000000#32) reducesTo_S320000x128_S320000_d1 h_S_)) (broadcastInDim S320000x1 ![] bcast_S_S320000x1 (constant (F := Ideal) S_ .f32 0x43000000#32)))))
        (subf x (broadcastInDim S320000x128 ![0, 1] bcast_S320000x1_S320000x128_0_1 (Host.divf (broadcastInDim S320000x1 ![0] bcast_S320000_S320000x1_0 (Host.reduceAdd x (constant (F := Ideal) S_ .f32 0x00000000#32) reducesTo_S320000x128_S320000_d1 h_S_)) (broadcastInDim S320000x1 ![] bcast_S_S320000x1 (constant (F := Ideal) S_ .f32 0x43000000#32))))))
      (constant (F := Ideal) S_ .f32 0x00000000#32) reducesTo_S320000x128_S320000_d1 h_S_)) (broadcastInDim S320000x1 ![] bcast_S_S320000x1 (subf (constant (F := Ideal) S_ .f32 0x43000000#32) (sitofp .f32 (constantI S_ 32 0#32)))))
    (broadcastInDim S320000x1 ![] bcast_S_S320000x1 (id (constant (F := Ideal) S_ .f32 0x7FC00000#32)))

/-- Normalising the 320000 rows of an array. -/
def ln_320000_128 (x : FVec Ideal S320000x128 .f32) (g b : FVec Ideal S128 .f32) : FVec Ideal S320000x128 .f32 :=
  addf (mulf (Host.divf (subf x (broadcastInDim S320000x128 ![0, 1] bcast_S320000x1_S320000x128_0_1 (Host.divf (broadcastInDim S320000x1 ![0] bcast_S320000_S320000x1_0 (Host.reduceAdd x (constant (F := Ideal) S_ .f32 0x00000000#32) reducesTo_S320000x128_S320000_d1 h_S_)) (broadcastInDim S320000x1 ![] bcast_S_S320000x1 (constant (F := Ideal) S_ .f32 0x43000000#32)))))
    (broadcastInDim S320000x128 ![0, 1] bcast_S320000x1_S320000x128_0_1 (Host.sqrt (addf (var_320000_128 x) (broadcastInDim S320000x1 ![] bcast_S_S320000x1 (constant (F := Ideal) S_ .f32 0x3727C5AC#32))))))
    (broadcastInDim S320000x128 ![0, 1] bcast_S1x128_S320000x128_0_1 (broadcastInDim S1x128 ![1] bcast_S128_S1x128_1 g))) (broadcastInDim S320000x128 ![0, 1] bcast_S1x128_S320000x128_0_1 (broadcastInDim S1x128 ![1] bcast_S128_S1x128_1 b))

theorem var_320000_128_row (x : FVec Ideal S320000x128 .f32) (r : Fin 320000) : var_320000_128 x (ix2 r 0) = var w128 (fun k => x (ix2 r k)) := by
  unfold var_320000_128
  refine (if_pos (guard w128_pos) : (if _ = 1#1 then _ else _) = _).trans ?_
  refine congrArg₂ Ideal.div ((col_320000 _ r).trans ((sum_320000_128 _ r).trans (Finset.sum_congr rfl fun k _ => ?_))) (less_zero _)
  have h : ∀ k, (subf x (broadcastInDim S320000x128 ![0, 1] bcast_S320000x1_S320000x128_0_1 (Host.divf (broadcastInDim S320000x1 ![0] bcast_S320000_S320000x1_0 (Host.reduceAdd x (constant (F := Ideal) S_ .f32 0x00000000#32) reducesTo_S320000x128_S320000_d1 h_S_)) (broadcastInDim S320000x1 ![] bcast_S_S320000x1 (constant (F := Ideal) S_ .f32 0x43000000#32)))) : FVec Ideal S320000x128 .f32) (ix2 r k)
      = x (ix2 r k) - mean w128 (fun k => x (ix2 r k)) := fun k => by
    refine congrArg (fun a : EReal => x (ix2 r k) - a) ?_
    refine Eq.trans ?_ (congrArg (fun a => Ideal.div a w128) (sum_320000_128 x r))
    pointwise
  exact congrArg₂ (fun a b : EReal => a * b) (h k) (h k)
theorem ln_320000_128_row (x : FVec Ideal S320000x128 .f32) (g b : FVec Ideal S128 .f32) (r : Fin 320000) (j : Fin 128) : ln_320000_128 x g b (ix2 r j) = norm w128 (fun k => x (ix2 r k)) (fun k => g (ix1 k)) (fun k => b (ix1 k)) j := by
  rw [← norm_eq w128_pos, ← var_320000_128_row x r, mean, ← sum_320000_128 x r]
  unfold ln_320000_128
  pointwise

/-- The sum of a row. -/
theorem sum_320000_256 (x : FVec Ideal S320000x256 .f32) (r : Fin 320000) : Host.reduceAdd x (constant (F := Ideal) S_ .f32 0x00000000#32) reducesTo_S320000x256_S320000_d1 h_S_ (ix1 r) = ∑ k : Fin 256, x (ix2 r k) := by
  simp only [Host.reduceAdd, Ideal.hostReduceAdd_def]
  rw [Ideal.hostReduceAdd_single reducesTo_S320000x256_S320000_d1 (by decide)]
  refine (congrArg₂ (fun a b : EReal => a + b) (Ideal.ofBits_zero_f32 : (constant (F := Ideal) S_ .f32 0x00000000#32) (Shape.Idx.first h_S_) = 0) (Finset.sum_congr rfl fun k _ => ?_)).trans (zero_add _)
  exact congrArg x (funext fun a => Fin.ext (by match a with | ⟨0, _⟩ => rfl | ⟨1, _⟩ => rfl))
/-- The variance of the 320000 rows of an array. -/
def var_320000_256 (x : FVec Ideal S320000x256 .f32) : FVec Ideal S320000x1 .f32 :=
  select (broadcastInDim S320000x1 ![] bcast_S_S320000x1 (cmpf .ogt (subf (constant (F := Ideal) S_ .f32 0x43800000#32) (sitofp .f32 (constantI S_ 32 0#32))) (constant (F := Ideal) S_ .f32 0x00000000#32)))
    (Host.divf (broadcastInDim S320000x1 ![0] bcast_S320000_S320000x1_0 (Host.reduceAdd
      (mulf (subf x (broadcastInDim S320000x256 ![0, 1] bcast_S320000x1_S320000x256_0_1 (Host.divf (broadcastInDim S320000x1 ![0] bcast_S320000_S320000x1_0 (Host.reduceAdd x (constant (F := Ideal) S_ .f32 0x00000000#32) reducesTo_S320000x256_S320000_d1 h_S_)) (broadcastInDim S320000x1 ![] bcast_S_S320000x1 (constant (F := Ideal) S_ .f32 0x43800000#32)))))
        (subf x (broadcastInDim S320000x256 ![0, 1] bcast_S320000x1_S320000x256_0_1 (Host.divf (broadcastInDim S320000x1 ![0] bcast_S320000_S320000x1_0 (Host.reduceAdd x (constant (F := Ideal) S_ .f32 0x00000000#32) reducesTo_S320000x256_S320000_d1 h_S_)) (broadcastInDim S320000x1 ![] bcast_S_S320000x1 (constant (F := Ideal) S_ .f32 0x43800000#32))))))
      (constant (F := Ideal) S_ .f32 0x00000000#32) reducesTo_S320000x256_S320000_d1 h_S_)) (broadcastInDim S320000x1 ![] bcast_S_S320000x1 (subf (constant (F := Ideal) S_ .f32 0x43800000#32) (sitofp .f32 (constantI S_ 32 0#32)))))
    (broadcastInDim S320000x1 ![] bcast_S_S320000x1 (id (constant (F := Ideal) S_ .f32 0x7FC00000#32)))

/-- Normalising the 320000 rows of an array. -/
def ln_320000_256 (x : FVec Ideal S320000x256 .f32) (g b : FVec Ideal S256 .f32) : FVec Ideal S320000x256 .f32 :=
  addf (mulf (Host.divf (subf x (broadcastInDim S320000x256 ![0, 1] bcast_S320000x1_S320000x256_0_1 (Host.divf (broadcastInDim S320000x1 ![0] bcast_S320000_S320000x1_0 (Host.reduceAdd x (constant (F := Ideal) S_ .f32 0x00000000#32) reducesTo_S320000x256_S320000_d1 h_S_)) (broadcastInDim S320000x1 ![] bcast_S_S320000x1 (constant (F := Ideal) S_ .f32 0x43800000#32)))))
    (broadcastInDim S320000x256 ![0, 1] bcast_S320000x1_S320000x256_0_1 (Host.sqrt (addf (var_320000_256 x) (broadcastInDim S320000x1 ![] bcast_S_S320000x1 (constant (F := Ideal) S_ .f32 0x3727C5AC#32))))))
    (broadcastInDim S320000x256 ![0, 1] bcast_S1x256_S320000x256_0_1 (broadcastInDim S1x256 ![1] bcast_S256_S1x256_1 g))) (broadcastInDim S320000x256 ![0, 1] bcast_S1x256_S320000x256_0_1 (broadcastInDim S1x256 ![1] bcast_S256_S1x256_1 b))

theorem var_320000_256_row (x : FVec Ideal S320000x256 .f32) (r : Fin 320000) : var_320000_256 x (ix2 r 0) = var w256 (fun k => x (ix2 r k)) := by
  unfold var_320000_256
  refine (if_pos (guard w256_pos) : (if _ = 1#1 then _ else _) = _).trans ?_
  refine congrArg₂ Ideal.div ((col_320000 _ r).trans ((sum_320000_256 _ r).trans (Finset.sum_congr rfl fun k _ => ?_))) (less_zero _)
  have h : ∀ k, (subf x (broadcastInDim S320000x256 ![0, 1] bcast_S320000x1_S320000x256_0_1 (Host.divf (broadcastInDim S320000x1 ![0] bcast_S320000_S320000x1_0 (Host.reduceAdd x (constant (F := Ideal) S_ .f32 0x00000000#32) reducesTo_S320000x256_S320000_d1 h_S_)) (broadcastInDim S320000x1 ![] bcast_S_S320000x1 (constant (F := Ideal) S_ .f32 0x43800000#32)))) : FVec Ideal S320000x256 .f32) (ix2 r k)
      = x (ix2 r k) - mean w256 (fun k => x (ix2 r k)) := fun k => by
    refine congrArg (fun a : EReal => x (ix2 r k) - a) ?_
    refine Eq.trans ?_ (congrArg (fun a => Ideal.div a w256) (sum_320000_256 x r))
    pointwise
  exact congrArg₂ (fun a b : EReal => a * b) (h k) (h k)
theorem ln_320000_256_row (x : FVec Ideal S320000x256 .f32) (g b : FVec Ideal S256 .f32) (r : Fin 320000) (j : Fin 256) : ln_320000_256 x g b (ix2 r j) = norm w256 (fun k => x (ix2 r k)) (fun k => g (ix1 k)) (fun k => b (ix1 k)) j := by
  rw [← norm_eq w256_pos, ← var_320000_256_row x r, mean, ← sum_320000_256 x r]
  unfold ln_320000_256
  pointwise

/-- The sum of a row. -/
theorem sum_512_256 (x : FVec Ideal S512x256 .f32) (r : Fin 512) : Host.reduceAdd x (constant (F := Ideal) S_ .f32 0x00000000#32) reducesTo_S512x256_S512_d1 h_S_ (ix1 r) = ∑ k : Fin 256, x (ix2 r k) := by
  simp only [Host.reduceAdd, Ideal.hostReduceAdd_def]
  rw [Ideal.hostReduceAdd_single reducesTo_S512x256_S512_d1 (by decide)]
  refine (congrArg₂ (fun a b : EReal => a + b) (Ideal.ofBits_zero_f32 : (constant (F := Ideal) S_ .f32 0x00000000#32) (Shape.Idx.first h_S_) = 0) (Finset.sum_congr rfl fun k _ => ?_)).trans (zero_add _)
  exact congrArg x (funext fun a => Fin.ext (by match a with | ⟨0, _⟩ => rfl | ⟨1, _⟩ => rfl))
/-- The variance of the 512 rows of an array. -/
def var_512_256 (x : FVec Ideal S512x256 .f32) : FVec Ideal S512x1 .f32 :=
  select (broadcastInDim S512x1 ![] bcast_S_S512x1 (cmpf .ogt (subf (constant (F := Ideal) S_ .f32 0x43800000#32) (sitofp .f32 (constantI S_ 32 0#32))) (constant (F := Ideal) S_ .f32 0x00000000#32)))
    (Host.divf (broadcastInDim S512x1 ![0] bcast_S512_S512x1_0 (Host.reduceAdd
      (mulf (subf x (broadcastInDim S512x256 ![0, 1] bcast_S512x1_S512x256_0_1 (Host.divf (broadcastInDim S512x1 ![0] bcast_S512_S512x1_0 (Host.reduceAdd x (constant (F := Ideal) S_ .f32 0x00000000#32) reducesTo_S512x256_S512_d1 h_S_)) (broadcastInDim S512x1 ![] bcast_S_S512x1 (constant (F := Ideal) S_ .f32 0x43800000#32)))))
        (subf x (broadcastInDim S512x256 ![0, 1] bcast_S512x1_S512x256_0_1 (Host.divf (broadcastInDim S512x1 ![0] bcast_S512_S512x1_0 (Host.reduceAdd x (constant (F := Ideal) S_ .f32 0x00000000#32) reducesTo_S512x256_S512_d1 h_S_)) (broadcastInDim S512x1 ![] bcast_S_S512x1 (constant (F := Ideal) S_ .f32 0x43800000#32))))))
      (constant (F := Ideal) S_ .f32 0x00000000#32) reducesTo_S512x256_S512_d1 h_S_)) (broadcastInDim S512x1 ![] bcast_S_S512x1 (subf (constant (F := Ideal) S_ .f32 0x43800000#32) (sitofp .f32 (constantI S_ 32 0#32)))))
    (broadcastInDim S512x1 ![] bcast_S_S512x1 (id (constant (F := Ideal) S_ .f32 0x7FC00000#32)))

/-- Normalising the 512 rows of an array. -/
def ln_512_256 (x : FVec Ideal S512x256 .f32) (g b : FVec Ideal S256 .f32) : FVec Ideal S512x256 .f32 :=
  addf (mulf (Host.divf (subf x (broadcastInDim S512x256 ![0, 1] bcast_S512x1_S512x256_0_1 (Host.divf (broadcastInDim S512x1 ![0] bcast_S512_S512x1_0 (Host.reduceAdd x (constant (F := Ideal) S_ .f32 0x00000000#32) reducesTo_S512x256_S512_d1 h_S_)) (broadcastInDim S512x1 ![] bcast_S_S512x1 (constant (F := Ideal) S_ .f32 0x43800000#32)))))
    (broadcastInDim S512x256 ![0, 1] bcast_S512x1_S512x256_0_1 (Host.sqrt (addf (var_512_256 x) (broadcastInDim S512x1 ![] bcast_S_S512x1 (constant (F := Ideal) S_ .f32 0x3727C5AC#32))))))
    (broadcastInDim S512x256 ![0, 1] bcast_S1x256_S512x256_0_1 (broadcastInDim S1x256 ![1] bcast_S256_S1x256_1 g))) (broadcastInDim S512x256 ![0, 1] bcast_S1x256_S512x256_0_1 (broadcastInDim S1x256 ![1] bcast_S256_S1x256_1 b))

theorem var_512_256_row (x : FVec Ideal S512x256 .f32) (r : Fin 512) : var_512_256 x (ix2 r 0) = var w256 (fun k => x (ix2 r k)) := by
  unfold var_512_256
  refine (if_pos (guard w256_pos) : (if _ = 1#1 then _ else _) = _).trans ?_
  refine congrArg₂ Ideal.div ((col_512 _ r).trans ((sum_512_256 _ r).trans (Finset.sum_congr rfl fun k _ => ?_))) (less_zero _)
  have h : ∀ k, (subf x (broadcastInDim S512x256 ![0, 1] bcast_S512x1_S512x256_0_1 (Host.divf (broadcastInDim S512x1 ![0] bcast_S512_S512x1_0 (Host.reduceAdd x (constant (F := Ideal) S_ .f32 0x00000000#32) reducesTo_S512x256_S512_d1 h_S_)) (broadcastInDim S512x1 ![] bcast_S_S512x1 (constant (F := Ideal) S_ .f32 0x43800000#32)))) : FVec Ideal S512x256 .f32) (ix2 r k)
      = x (ix2 r k) - mean w256 (fun k => x (ix2 r k)) := fun k => by
    refine congrArg (fun a : EReal => x (ix2 r k) - a) ?_
    refine Eq.trans ?_ (congrArg (fun a => Ideal.div a w256) (sum_512_256 x r))
    pointwise
  exact congrArg₂ (fun a b : EReal => a * b) (h k) (h k)
theorem ln_512_256_row (x : FVec Ideal S512x256 .f32) (g b : FVec Ideal S256 .f32) (r : Fin 512) (j : Fin 256) : ln_512_256 x g b (ix2 r j) = norm w256 (fun k => x (ix2 r k)) (fun k => g (ix1 k)) (fun k => b (ix1 k)) j := by
  rw [← norm_eq w256_pos, ← var_512_256_row x r, mean, ← sum_512_256 x r]
  unfold ln_512_256
  pointwise

end Cert.ReferenceIdeal.Val

end
-- ==== Proof.Val.RefDense.lean ====
module

public import proofs.«01_k».proof.Proof.Val.RefNorm
public import proofs.«01_k».proof.Proof.Gen.ReferenceIdeal.Read

/-! The reference, one layer of operations at a time, read row by row: the dense layers, the GELU and the heads. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read Cert.Spec

/-- The root of two, taken. -/
theorem root_two : Ideal.sqrt (Ideal.ofBits .f32 0x40000000#32) = rootTwo := by
  have h : Ideal.ofBits .f32 0x40000000#32 = ((2 : ℝ) : EReal) := by
    simp [Ideal.ofBits, Ideal.ieee, -EReal.coe_mul]
    norm_num
  rw [h, Ideal.sqrt_coe, if_neg (by norm_num)]
theorem gelu_form (z : EReal) : half * z * Ideal.erfc (Ideal.div (-z) (Ideal.sqrt (Ideal.ofBits .f32 0x40000000#32))) = gelu z := by
  rw [root_two, div_of_ne rootTwo_ne, gelu_eq]

/-- The GELU of every number of an array. -/
def gelu_512 (z : FVec Ideal S512x128 .f32) : FVec Ideal S512x128 .f32 :=
  mulf (mulf (broadcastInDim S512x128 ![] bcast_S_S512x128 (constant (F := Ideal) S_ .f32 0x3F000000#32)) z) (Host.erfc (Host.divf (Host.negf z) (broadcastInDim S512x128 ![] bcast_S_S512x128 (Host.sqrt (constant (F := Ideal) S_ .f32 0x40000000#32)))))
theorem gelu_512_at (z : FVec Ideal S512x128 .f32) (i : S512x128.Idx) : gelu_512 z i = gelu (z i) := gelu_form (z i)

/-- The GELU of every number of an array. -/
def gelu_320000 (z : FVec Ideal S320000x128 .f32) : FVec Ideal S320000x128 .f32 :=
  mulf (mulf (broadcastInDim S320000x128 ![] bcast_S_S320000x128 (constant (F := Ideal) S_ .f32 0x3F000000#32)) z) (Host.erfc (Host.divf (Host.negf z) (broadcastInDim S320000x128 ![] bcast_S_S320000x128 (Host.sqrt (constant (F := Ideal) S_ .f32 0x40000000#32)))))
theorem gelu_320000_at (z : FVec Ideal S320000x128 .f32) (i : S320000x128.Idx) : gelu_320000 z i = gelu (z i) := gelu_form (z i)

/-- A row times a matrix. -/
theorem dot_512_128_128 (x : FVec Ideal S512x128 .f32) (A : FVec Ideal S128x128 .f32) (r : Fin 512) (j : Fin 128) :
    Host.dotGeneral dot_S512x128_S128x128_S512x128_1_0_0_1_n_n none x A (ix2 r j) = ∑ k : Fin 128, x (ix2 r k) * A (ix2 k j) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 r j) ((ValueIdx.contrEquiv1 dot_S512x128_S128x128_S512x128_1_0_0_1_n_n 128 rfl rfl).symm k) = ix2 r k := funext fun a => Fin.ext (by
    match a with
    | ⟨0, _⟩ => exact lhs_main_v23_0 _ _
    | ⟨1, _⟩ => exact (lhs_main_v23_1 _ _).trans hk)
  have er : dot_S512x128_S128x128_S512x128_1_0_0_1_n_n.rhsIdx (ix2 r j) ((ValueIdx.contrEquiv1 dot_S512x128_S128x128_S512x128_1_0_0_1_n_n 128 rfl rfl).symm k) = ix2 k j := funext fun a => Fin.ext (by
    match a with
    | ⟨0, _⟩ => exact (rhs_main_v23_0 _ _).trans hk
    | ⟨1, _⟩ => exact rhs_main_v23_1 _ _)
  rw [el, er]
/-- A dense layer. -/
def dense_512_128_128 (x : FVec Ideal S512x128 .f32) (A : FVec Ideal S128x128 .f32) (d : FVec Ideal S128 .f32) : FVec Ideal S512x128 .f32 :=
  addf (Host.dotGeneral dot_S512x128_S128x128_S512x128_1_0_0_1_n_n none x A) (broadcastInDim S512x128 ![0, 1] bcast_S1x128_S512x128_0_1 (broadcastInDim S1x128 ![1] bcast_S128_S1x128_1 d))
theorem dense_512_128_128_row (x : FVec Ideal S512x128 .f32) (A : FVec Ideal S128x128 .f32) (d : FVec Ideal S128 .f32) (r : Fin 512) (j : Fin 128) :
    dense_512_128_128 x A d (ix2 r j) = dense (fun k => x (ix2 r k)) (fun k l => A (ix2 k l)) (fun l => d (ix1 l)) j := by
  refine congrArg₂ (fun a b : EReal => a + b) (dot_512_128_128 x A r j) (congrArg d (funext fun a => Fin.ext ?_))
  match a with | ⟨0, _⟩ => rfl

/-- A row times a matrix. -/
theorem dot_320000_128_128 (x : FVec Ideal S320000x128 .f32) (A : FVec Ideal S128x128 .f32) (r : Fin 320000) (j : Fin 128) :
    Host.dotGeneral dot_S320000x128_S128x128_S320000x128_1_0_0_1_n_n none x A (ix2 r j) = ∑ k : Fin 128, x (ix2 r k) * A (ix2 k j) := by
  simp only [Host.dotGeneral]
  rw [Ideal.dotGeneral_apply, ← Equiv.sum_comp (ValueIdx.contrEquiv1 dot_S320000x128_S128x128_S320000x128_1_0_0_1_n_n 128 rfl rfl).symm]
  refine Finset.sum_congr rfl fun k _ => ?_
  have hk := ValueIdx.contrEquiv1_symm_val dot_S320000x128_S128x128_S320000x128_1_0_0_1_n_n 128 rfl rfl k
  have el : dot_S320000x128_S128x128_S320000x128_1_0_0_1_n_n.lhsIdx (ix2 r j) ((ValueIdx.contrEquiv1 dot_S320000x128_S128x128_S320000x128_1_0_0_1_n_n 128 rfl rfl).symm k) = ix2 r k := funext fun a => Fin.ext (by
    match a with
    | ⟨0, _⟩ => exact lhs_main_v60_0 _ _
    | ⟨1, _⟩ => exact (lhs_main_v60_1 _ _).trans hk)
  have er : dot_S320000x128_S128x128_S320000x128_1_0_0_1_n_n.rhsIdx (ix2 r j) ((ValueIdx.contrEquiv1 dot_S320000x128_S128x128_S320000x128_1_0_0_1_n_n 128 rfl rfl).symm k) = ix2 k j := funext fun a => Fin.ext (by
    match a with
    | ⟨0, _⟩ => exact (rhs_main_v60_0 _ _).trans hk
    | ⟨1, _⟩ => exact rhs_main_v60_1 _ _)
  rw [el, er]
/-- A dense layer. -/
def dense_320000_128_128 (x : FVec Ideal S320000x128 .f32) (A : FVec Ideal S128x128 .f32) (d : FVec Ideal S128 .f32) : FVec Ideal S320000x128 .f32 :=
  addf (Host.dotGeneral dot_S320000x128_S128x128_S320000x128_1_0_0_1_n_n none x A) (broadcastInDim S320000x128 ![0, 1] bcast_S1x128_S320000x128_0_1 (broadcastInDim S1x128 ![1] bcast_S128_S1x128_1 d))
theorem dense_320000_128_128_row (x : FVec Ideal S320000x128 .f32) (A : FVec Ideal S128x128 .f32) (d : FVec Ideal S128 .f32) (r : Fin 320000) (j : Fin 128) :
    dense_320000_128_128 x A d (ix2 r j) = dense (fun k => x (ix2 r k)) (fun k l => A (ix2 k l)) (fun l => d (ix1 l)) j := by
  refine congrArg₂ (fun a b : EReal => a + b) (dot_320000_128_128 x A r j) (congrArg d (funext fun a => Fin.ext ?_))
  match a with | ⟨0, _⟩ => rfl

/-- A row times a matrix. -/
theorem dot_320000_256_128 (x : FVec Ideal S320000x256 .f32) (A : FVec Ideal S256x128 .f32) (r : Fin 320000) (j : Fin 128) :
    Host.dotGeneral dot_S320000x256_S256x128_S320000x128_1_0_0_1_n_n none x A (ix2 r j) = ∑ k : Fin 256, x (ix2 r k) * A (ix2 k j) := by
  simp only [Host.dotGeneral]
  rw [Ideal.dotGeneral_apply, ← Equiv.sum_comp (ValueIdx.contrEquiv1 dot_S320000x256_S256x128_S320000x128_1_0_0_1_n_n 256 rfl rfl).symm]
  refine Finset.sum_congr rfl fun k _ => ?_
  have hk := ValueIdx.contrEquiv1_symm_val dot_S320000x256_S256x128_S320000x128_1_0_0_1_n_n 256 rfl rfl k
  have el : dot_S320000x256_S256x128_S320000x128_1_0_0_1_n_n.lhsIdx (ix2 r j) ((ValueIdx.contrEquiv1 dot_S320000x256_S256x128_S320000x128_1_0_0_1_n_n 256 rfl rfl).symm k) = ix2 r k := funext fun a => Fin.ext (by
    match a with
    | ⟨0, _⟩ => exact lhs_main_v184_0 _ _
    | ⟨1, _⟩ => exact (lhs_main_v184_1 _ _).trans hk)
  have er : dot_S320000x256_S256x128_S320000x128_1_0_0_1_n_n.rhsIdx (ix2 r j) ((ValueIdx.contrEquiv1 dot_S320000x256_S256x128_S320000x128_1_0_0_1_n_n 256 rfl rfl).symm k) = ix2 k j := funext fun a => Fin.ext (by
    match a with
    | ⟨0, _⟩ => exact (rhs_main_v184_0 _ _).trans hk
    | ⟨1, _⟩ => exact rhs_main_v184_1 _ _)
  rw [el, er]
/-- A dense layer. -/
def dense_320000_256_128 (x : FVec Ideal S320000x256 .f32) (A : FVec Ideal S256x128 .f32) (d : FVec Ideal S128 .f32) : FVec Ideal S320000x128 .f32 :=
  addf (Host.dotGeneral dot_S320000x256_S256x128_S320000x128_1_0_0_1_n_n none x A) (broadcastInDim S320000x128 ![0, 1] bcast_S1x128_S320000x128_0_1 (broadcastInDim S1x128 ![1] bcast_S128_S1x128_1 d))
theorem dense_320000_256_128_row (x : FVec Ideal S320000x256 .f32) (A : FVec Ideal S256x128 .f32) (d : FVec Ideal S128 .f32) (r : Fin 320000) (j : Fin 128) :
    dense_320000_256_128 x A d (ix2 r j) = dense (fun k => x (ix2 r k)) (fun k l => A (ix2 k l)) (fun l => d (ix1 l)) j := by
  refine congrArg₂ (fun a b : EReal => a + b) (dot_320000_256_128 x A r j) (congrArg d (funext fun a => Fin.ext ?_))
  match a with | ⟨0, _⟩ => rfl

/-- A row times a matrix. -/
theorem dot_512_256_128 (x : FVec Ideal S512x256 .f32) (A : FVec Ideal S256x128 .f32) (r : Fin 512) (j : Fin 128) :
    Host.dotGeneral dot_S512x256_S256x128_S512x128_1_0_0_1_n_n none x A (ix2 r j) = ∑ k : Fin 256, x (ix2 r k) * A (ix2 k j) := by
  simp only [Host.dotGeneral]
  rw [Ideal.dotGeneral_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 r j) ((ValueIdx.contrEquiv1 dot_S512x256_S256x128_S512x128_1_0_0_1_n_n 256 rfl rfl).symm k) = ix2 r k := funext fun a => Fin.ext (by
    match a with
    | ⟨0, _⟩ => exact lhs_main_v220_0 _ _
    | ⟨1, _⟩ => exact (lhs_main_v220_1 _ _).trans hk)
  have er : dot_S512x256_S256x128_S512x128_1_0_0_1_n_n.rhsIdx (ix2 r j) ((ValueIdx.contrEquiv1 dot_S512x256_S256x128_S512x128_1_0_0_1_n_n 256 rfl rfl).symm k) = ix2 k j := funext fun a => Fin.ext (by
    match a with
    | ⟨0, _⟩ => exact (rhs_main_v220_0 _ _).trans hk
    | ⟨1, _⟩ => exact rhs_main_v220_1 _ _)
  rw [el, er]
/-- A dense layer. -/
def dense_512_256_128 (x : FVec Ideal S512x256 .f32) (A : FVec Ideal S256x128 .f32) (d : FVec Ideal S128 .f32) : FVec Ideal S512x128 .f32 :=
  addf (Host.dotGeneral dot_S512x256_S256x128_S512x128_1_0_0_1_n_n none x A) (broadcastInDim S512x128 ![0, 1] bcast_S1x128_S512x128_0_1 (broadcastInDim S1x128 ![1] bcast_S128_S1x128_1 d))
theorem dense_512_256_128_row (x : FVec Ideal S512x256 .f32) (A : FVec Ideal S256x128 .f32) (d : FVec Ideal S128 .f32) (r : Fin 512) (j : Fin 128) :
    dense_512_256_128 x A d (ix2 r j) = dense (fun k => x (ix2 r k)) (fun k l => A (ix2 k l)) (fun l => d (ix1 l)) j := by
  refine congrArg₂ (fun a b : EReal => a + b) (dot_512_256_128 x A r j) (congrArg d (funext fun a => Fin.ext ?_))
  match a with | ⟨0, _⟩ => rfl

/-- A row times a matrix. -/
theorem dot_320000_128_1 (x : FVec Ideal S320000x128 .f32) (A : FVec Ideal S128x1 .f32) (r : Fin 320000) (j : Fin 1) :
    Host.dotGeneral dot_S320000x128_S128x1_S320000x1_1_0_0_1_n_n none x A (ix2 r j) = ∑ k : Fin 128, x (ix2 r k) * A (ix2 k j) := by
  simp only [Host.dotGeneral]
  rw [Ideal.dotGeneral_apply, ← Equiv.sum_comp (ValueIdx.contrEquiv1 dot_S320000x128_S128x1_S320000x1_1_0_0_1_n_n 128 rfl rfl).symm]
  refine Finset.sum_congr rfl fun k _ => ?_
  have hk := ValueIdx.contrEquiv1_symm_val dot_S320000x128_S128x1_S320000x1_1_0_0_1_n_n 128 rfl rfl k
  have el : dot_S320000x128_S128x1_S320000x1_1_0_0_1_n_n.lhsIdx (ix2 r j) ((ValueIdx.contrEquiv1 dot_S320000x128_S128x1_S320000x1_1_0_0_1_n_n 128 rfl rfl).symm k) = ix2 r k := funext fun a => Fin.ext (by
    match a with
    | ⟨0, _⟩ => exact lhs_main_v196_0 _ _
    | ⟨1, _⟩ => exact (lhs_main_v196_1 _ _).trans hk)
  have er : dot_S320000x128_S128x1_S320000x1_1_0_0_1_n_n.rhsIdx (ix2 r j) ((ValueIdx.contrEquiv1 dot_S320000x128_S128x1_S320000x1_1_0_0_1_n_n 128 rfl rfl).symm k) = ix2 k j := funext fun a => Fin.ext (by
    match a with
    | ⟨0, _⟩ => exact (rhs_main_v196_0 _ _).trans hk
    | ⟨1, _⟩ => exact rhs_main_v196_1 _ _)
  rw [el, er]
/-- A dense layer. -/
def dense_320000_128_1 (x : FVec Ideal S320000x128 .f32) (A : FVec Ideal S128x1 .f32) (d : FVec Ideal S1 .f32) : FVec Ideal S320000x1 .f32 :=
  addf (Host.dotGeneral dot_S320000x128_S128x1_S320000x1_1_0_0_1_n_n none x A) (broadcastInDim S320000x1 ![0, 1] bcast_S1x1_S320000x1_0_1 (broadcastInDim S1x1 ![1] bcast_S1_S1x1_1 d))
theorem dense_320000_128_1_row (x : FVec Ideal S320000x128 .f32) (A : FVec Ideal S128x1 .f32) (d : FVec Ideal S1 .f32) (r : Fin 320000) (j : Fin 1) :
    dense_320000_128_1 x A d (ix2 r j) = dense (fun k => x (ix2 r k)) (fun k l => A (ix2 k l)) (fun l => d (ix1 l)) j := by
  refine congrArg₂ (fun a b : EReal => a + b) (dot_320000_128_1 x A r j) (congrArg d (funext fun a => Fin.ext ?_))
  match a with | ⟨0, _⟩ => exact (Nat.lt_one_iff.1 j.isLt).symm

/-- A row times a matrix. -/
theorem dot_512_128_1 (x : FVec Ideal S512x128 .f32) (A : FVec Ideal S128x1 .f32) (r : Fin 512) (j : Fin 1) :
    Host.dotGeneral dot_S512x128_S128x1_S512x1_1_0_0_1_n_n none x A (ix2 r j) = ∑ k : Fin 128, x (ix2 r k) * A (ix2 k j) := by
  simp only [Host.dotGeneral]
  rw [Ideal.dotGeneral_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (ix2 r j) ((ValueIdx.contrEquiv1 dot_S512x128_S128x1_S512x1_1_0_0_1_n_n 128 rfl rfl).symm k) = ix2 r k := funext fun a => Fin.ext (by
    match a with
    | ⟨0, _⟩ => exact lhs_main_v232_0 _ _
    | ⟨1, _⟩ => exact (lhs_main_v232_1 _ _).trans hk)
  have er : dot_S512x128_S128x1_S512x1_1_0_0_1_n_n.rhsIdx (ix2 r j) ((ValueIdx.contrEquiv1 dot_S512x128_S128x1_S512x1_1_0_0_1_n_n 128 rfl rfl).symm k) = ix2 k j := funext fun a => Fin.ext (by
    match a with
    | ⟨0, _⟩ => exact (rhs_main_v232_0 _ _).trans hk
    | ⟨1, _⟩ => exact rhs_main_v232_1 _ _)
  rw [el, er]
/-- A dense layer. -/
def dense_512_128_1 (x : FVec Ideal S512x128 .f32) (A : FVec Ideal S128x1 .f32) (d : FVec Ideal S1 .f32) : FVec Ideal S512x1 .f32 :=
  addf (Host.dotGeneral dot_S512x128_S128x1_S512x1_1_0_0_1_n_n none x A) (broadcastInDim S512x1 ![0, 1] bcast_S1x1_S512x1_0_1 (broadcastInDim S1x1 ![1] bcast_S1_S1x1_1 d))
theorem dense_512_128_1_row (x : FVec Ideal S512x128 .f32) (A : FVec Ideal S128x1 .f32) (d : FVec Ideal S1 .f32) (r : Fin 512) (j : Fin 1) :
    dense_512_128_1 x A d (ix2 r j) = dense (fun k => x (ix2 r k)) (fun k l => A (ix2 k l)) (fun l => d (ix1 l)) j := by
  refine congrArg₂ (fun a b : EReal => a + b) (dot_512_128_1 x A r j) (congrArg d (funext fun a => Fin.ext ?_))
  match a with | ⟨0, _⟩ => exact (Nat.lt_one_iff.1 j.isLt).symm

/-- Normalise, dense layer, GELU. -/
theorem layer_512_128 (x : FVec Ideal S512x128 .f32) (g b : FVec Ideal S128 .f32) (A : FVec Ideal S128x128 .f32) (d : FVec Ideal S128 .f32) (r : Fin 512) (j : Fin 128) :
    gelu_512 (dense_512_128_128 (ln_512_128 x g b) A d) (ix2 r j) = layer w128 (fun k => x (ix2 r k)) (fun k => g (ix1 k)) (fun k => b (ix1 k)) (fun k l => A (ix2 k l)) (fun l => d (ix1 l)) j := by
  rw [gelu_512_at, dense_512_128_128_row, layer]
  exact congrArg (fun x => gelu (dense x _ _ j)) (funext fun k => ln_512_128_row x g b r k)

/-- Normalise, dense layer, GELU. -/
theorem layer_320000_128 (x : FVec Ideal S320000x128 .f32) (g b : FVec Ideal S128 .f32) (A : FVec Ideal S128x128 .f32) (d : FVec Ideal S128 .f32) (r : Fin 320000) (j : Fin 128) :
    gelu_320000 (dense_320000_128_128 (ln_320000_128 x g b) A d) (ix2 r j) = layer w128 (fun k => x (ix2 r k)) (fun k => g (ix1 k)) (fun k => b (ix1 k)) (fun k l => A (ix2 k l)) (fun l => d (ix1 l)) j := by
  rw [gelu_320000_at, dense_320000_128_128_row, layer]
  exact congrArg (fun x => gelu (dense x _ _ j)) (funext fun k => ln_320000_128_row x g b r k)

/-- Normalise, dense layer, GELU. -/
theorem layer_320000_256 (x : FVec Ideal S320000x256 .f32) (g b : FVec Ideal S256 .f32) (A : FVec Ideal S256x128 .f32) (d : FVec Ideal S128 .f32) (r : Fin 320000) (j : Fin 128) :
    gelu_320000 (dense_320000_256_128 (ln_320000_256 x g b) A d) (ix2 r j) = layer w256 (fun k => x (ix2 r k)) (fun k => g (ix1 k)) (fun k => b (ix1 k)) (fun k l => A (ix2 k l)) (fun l => d (ix1 l)) j := by
  rw [gelu_320000_at, dense_320000_256_128_row, layer]
  exact congrArg (fun x => gelu (dense x _ _ j)) (funext fun k => ln_320000_256_row x g b r k)

/-- Normalise, dense layer, GELU. -/
theorem layer_512_256 (x : FVec Ideal S512x256 .f32) (g b : FVec Ideal S256 .f32) (A : FVec Ideal S256x128 .f32) (d : FVec Ideal S128 .f32) (r : Fin 512) (j : Fin 128) :
    gelu_512 (dense_512_256_128 (ln_512_256 x g b) A d) (ix2 r j) = layer w256 (fun k => x (ix2 r k)) (fun k => g (ix1 k)) (fun k => b (ix1 k)) (fun k l => A (ix2 k l)) (fun l => d (ix1 l)) j := by
  rw [gelu_512_at, dense_512_256_128_row, layer]
  exact congrArg (fun x => gelu (dense x _ _ j)) (funext fun k => ln_512_256_row x g b r k)

theorem beside_320000 (a b : FVec Ideal S320000x128 .f32) (r : Fin 320000) (i : Fin 256) :
    concatenate S320000x256 1 [⟨S320000x128, a⟩, ⟨S320000x128, b⟩] concatenates_S320000x128_S320000x128_S320000x256_d1 (ix2 r i) = glue (fun k => a (ix2 r k)) (fun k => b (ix2 r k)) i := by
  pointwise
  rfl
/-- A head: its numbers, as a vector. -/
def head_320000 (a b : FVec Ideal S320000x128 .f32) (g c : FVec Ideal S256 .f32) (A : FVec Ideal S256x128 .f32) (d : FVec Ideal S128 .f32) (v : FVec Ideal S128x1 .f32) (e : FVec Ideal S1 .f32) : FVec Ideal S320000 .f32 :=
  shapeCast _ (dense_320000_128_1 (gelu_320000 (dense_320000_256_128 (ln_320000_256 (concatenate S320000x256 1 [⟨S320000x128, a⟩, ⟨S320000x128, b⟩] concatenates_S320000x128_S320000x128_S320000x256_d1) g c) A d)) v e) shapeCasts_S320000x1_S320000
theorem head_320000_at (a b : FVec Ideal S320000x128 .f32) (g c : FVec Ideal S256 .f32) (A : FVec Ideal S256x128 .f32) (d : FVec Ideal S128 .f32) (v : FVec Ideal S128x1 .f32) (e : FVec Ideal S1 .f32) (r : Fin 320000) :
    head_320000 a b g c A d v e (ix1 r) = head (fun k => a (ix2 r k)) (fun k => b (ix2 r k)) (fun k => g (ix1 k)) (fun k => c (ix1 k)) (fun k l => A (ix2 k l)) (fun l => d (ix1 l)) (fun k => v (ix2 k 0)) (e (ix1 0)) := by
  unfold head_320000
  generalize hz : dense_320000_128_1 _ v e = z
  have h := shapeCast_apply z shapeCasts_S320000x1_S320000 (ix1 r) (ix2 r 0) (by rewrite [Shape.rowMajor_val_two, Shape.rowMajor_val_one]; show r.val * 1 + 0 = r.val; omega)
  refine h.trans ?_
  rw [← hz, dense_320000_128_1_row, dense, head]
  refine congrArg (fun s : EReal => s + _) (Finset.sum_congr rfl fun k _ => congrArg (fun s : EReal => s * _) ?_)
  refine (layer_320000_256 _ g c A d r k).trans ?_
  exact congrArg (fun x => layer w256 x _ _ _ _ k) (funext fun i => beside_320000 a b r i)

theorem beside_512 (a b : FVec Ideal S512x128 .f32) (r : Fin 512) (i : Fin 256) :
    concatenate S512x256 1 [⟨S512x128, a⟩, ⟨S512x128, b⟩] concatenates_S512x128_S512x128_S512x256_d1 (ix2 r i) = glue (fun k => a (ix2 r k)) (fun k => b (ix2 r k)) i := by
  pointwise
  rfl
/-- A head: its numbers, as a vector. -/
def head_512 (a b : FVec Ideal S512x128 .f32) (g c : FVec Ideal S256 .f32) (A : FVec Ideal S256x128 .f32) (d : FVec Ideal S128 .f32) (v : FVec Ideal S128x1 .f32) (e : FVec Ideal S1 .f32) : FVec Ideal S512 .f32 :=
  shapeCast _ (dense_512_128_1 (gelu_512 (dense_512_256_128 (ln_512_256 (concatenate S512x256 1 [⟨S512x128, a⟩, ⟨S512x128, b⟩] concatenates_S512x128_S512x128_S512x256_d1) g c) A d)) v e) shapeCasts_S512x1_S512
theorem head_512_at (a b : FVec Ideal S512x128 .f32) (g c : FVec Ideal S256 .f32) (A : FVec Ideal S256x128 .f32) (d : FVec Ideal S128 .f32) (v : FVec Ideal S128x1 .f32) (e : FVec Ideal S1 .f32) (r : Fin 512) :
    head_512 a b g c A d v e (ix1 r) = head (fun k => a (ix2 r k)) (fun k => b (ix2 r k)) (fun k => g (ix1 k)) (fun k => c (ix1 k)) (fun k l => A (ix2 k l)) (fun l => d (ix1 l)) (fun k => v (ix2 k 0)) (e (ix1 0)) := by
  unfold head_512
  generalize hz : dense_512_128_1 _ v e = z
  have h := shapeCast_apply z shapeCasts_S512x1_S512 (ix1 r) (ix2 r 0) (by rewrite [Shape.rowMajor_val_two, Shape.rowMajor_val_one]; show r.val * 1 + 0 = r.val; omega)
  refine h.trans ?_
  rw [← hz, dense_512_128_1_row, dense, head]
  refine congrArg (fun s : EReal => s + _) (Finset.sum_congr rfl fun k _ => congrArg (fun s : EReal => s * _) ?_)
  refine (layer_512_256 _ g c A d r k).trans ?_
  exact congrArg (fun x => layer w256 x _ _ _ _ k) (funext fun i => beside_512 a b r i)

end Cert.ReferenceIdeal.Val

end
-- ==== Proof.Val.RefScatter.lean ====
module

public import proofs.«01_k».proof.Proof.Val.Spec
public import proofs.«01_k».proof.Proof.Gen.ReferenceIdeal.Run
public import Idealize.ShloMosaic.Lib.Pointwise
public import Idealize.ShloMosaic.PureOps.Ideal.Laws

/-! Adding the rows of the edges to the rows of their graphs: each graph receives the sum over its own edges. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-- An index of two axes by its coordinates, and of one. -/
theorem eq_ix2 {a b : ℕ} (i : (⟨2, ![a, b]⟩ : Shape).Idx) : i = ix2 (i 0) (i 1) := funext fun x => Fin.ext (by match x with | ⟨0, _⟩ => rfl | ⟨1, _⟩ => rfl)
theorem eq_ix1 {a : ℕ} (i : (⟨1, ![a]⟩ : Shape).Idx) : i = ix1 (i 0) := funext fun x => Fin.ext (by match x with | ⟨0, _⟩ => rfl)
/-- A small number's word, read signed. -/
theorem toInt_small {a : ℕ} (h : a < 2 ^ 31) : (BitVec.ofNat 32 a).toInt = (a : Int) := by
  have e : (BitVec.ofNat 32 a).toNat = a := by rw [BitVec.toNat_ofNat]; omega
  rw [BitVec.toInt_eq_toNat_of_lt (by rw [e]; omega), e]

section Scatter
variable {N B n : ℕ}

/-- Where an update row lands: at the row its index word names. -/
theorem lands_row (d : ScatterDims (⟨2, ![N, B]⟩ : Shape) (⟨2, ![n, 1]⟩ : Shape) (⟨2, ![n, B]⟩ : Shape)) (huw : d.updateWindowDims = [1]) (hiw : d.insertedWindowDims = [0])
    (hsd : d.scatterDimsToOperandDims = [0]) (hiv : d.indexVectorDim = 1) (idx : IVec (⟨2, ![n, 1]⟩ : Shape) 32) (i : Fin n) (k : Fin B) (g : Fin N) (j : Fin B) :
    d.resultIdx? (ix2 i k) idx = some (ix2 g j) ↔ (idx (ix2 i 0)).toInt = (g.val : Int) ∧ k = j := by
  have m0 : (0 : Fin 2) ∈ d.scatterDimsToOperandDims := by rw [hsd]; exact List.mem_singleton.2 rfl
  have m1 : (1 : Fin 2) ∉ d.scatterDimsToOperandDims := by rw [hsd]; simp
  have w0 : d.window (ix2 i k) 0 = 0 := by
    unfold ScatterDims.window
    rw [dif_neg fun h => (of_decide_eq_true (List.mem_filter.1 h).2) (by rw [hiw]; exact List.mem_singleton.2 rfl)]
  have w1 : d.window (ix2 i k) 1 = k.val := by
    unfold ScatterDims.window
    have hk : (1 : Fin 2) ∈ d.sKept := List.mem_filter.2 ⟨List.mem_finRange _, decide_eq_true (by rw [hiw]; simp)⟩
    rw [dif_pos hk]
    have e : ∀ X : Fin 2, X ∈ d.updateWindowDims → (ix2 i k X).val = k.val := fun X hX => by
      rw [huw] at hX
      obtain rfl := List.mem_singleton.1 hX
      rfl
    exact e _ (List.getElem_mem _)
  have s1 : d.start (ix2 i k) idx 1 = 0 := by
    unfold ScatterDims.start
    rw [dif_neg m1]
  have s0 : d.start (ix2 i k) idx 0 = (idx (ix2 i 0)).toInt := by
    unfold ScatterDims.start
    rw [dif_pos m0]
    refine congrArg (fun v => (idx v).toInt) (funext fun b => Fin.ext ?_)
    match b with
    | ⟨0, _⟩ =>
      unfold ScatterDims.siIdx
      rw [dif_neg (by rw [hiv]; exact Nat.zero_ne_one)]
      unfold ScatterDims.siCoord
      simp only [Fin.val_cast]
      have e : ∀ X : Fin 2, X ∈ d.uScatter → (ix2 i k X).val = i.val := fun X hX => by
        have h : X ∉ d.updateWindowDims := of_decide_eq_true (List.mem_filter.1 hX).2
        rw [huw] at h
        match X, h with
        | ⟨0, _⟩, _ => rfl
        | ⟨1, _⟩, h => exact absurd (List.mem_singleton.2 rfl) h
      exact e _ (List.getElem_mem _)
    | ⟨1, _⟩ =>
      unfold ScatterDims.siIdx
      rw [dif_pos (by rw [hiv])]
      show List.idxOf (0 : Fin 2) d.scatterDimsToOperandDims = 0
      rw [hsd]; simp
  have hg := g.isLt
  have hj := j.isLt
  have hkk := k.isLt
  unfold ScatterDims.resultIdx?
  split
  · next h =>
    have h0 := h 0
    change 0 ≤ d.start (ix2 i k) idx 0 + (d.window (ix2 i k) 0 : Int) ∧ d.start (ix2 i k) idx 0 + (d.window (ix2 i k) 0 : Int) < (N : Int) at h0
    rw [s0, w0] at h0
    constructor
    · intro e
      have e0 := congrArg Fin.val (congrFun (Option.some.inj e) 0)
      have e1 := congrArg Fin.val (congrFun (Option.some.inj e) 1)
      change (d.start (ix2 i k) idx 0 + (d.window (ix2 i k) 0 : Int)).toNat = g.val at e0
      change (d.start (ix2 i k) idx 1 + (d.window (ix2 i k) 1 : Int)).toNat = j.val at e1
      rw [s0, w0] at e0
      rw [s1, w1] at e1
      exact ⟨by omega, Fin.ext (by omega)⟩
    · rintro ⟨e, rfl⟩
      refine congrArg some (funext fun a => Fin.ext ?_)
      match a with
      | ⟨0, _⟩ =>
        show (d.start (ix2 i k) idx 0 + (d.window (ix2 i k) 0 : Int)).toNat = g.val
        rw [s0, w0]; omega
      | ⟨1, _⟩ =>
        show (d.start (ix2 i k) idx 1 + (d.window (ix2 i k) 1 : Int)).toNat = k.val
        rw [s1, w1]; omega
  · next h =>
    constructor
    · intro e; cases e
    · rintro ⟨e, rfl⟩
      refine (h fun a => ?_).elim
      match a with
      | ⟨0, _⟩ =>
        show 0 ≤ d.start (ix2 i k) idx 0 + (d.window (ix2 i k) 0 : Int) ∧ d.start (ix2 i k) idx 0 + (d.window (ix2 i k) 0 : Int) < (N : Int)
        rw [s0, w0]; omega
      | ⟨1, _⟩ =>
        show 0 ≤ d.start (ix2 i k) idx 1 + (d.window (ix2 i k) 1 : Int) ∧ d.start (ix2 i k) idx 1 + (d.window (ix2 i k) 1 : Int) < (B : Int)
        rw [s1, w1]; omega

/-- Where an update of one number lands. -/
theorem lands_one (d : ScatterDims (⟨1, ![N]⟩ : Shape) (⟨2, ![n, 1]⟩ : Shape) (⟨1, ![n]⟩ : Shape)) (hiw : d.insertedWindowDims = [0])
    (hsd : d.scatterDimsToOperandDims = [0]) (hiv : d.indexVectorDim = 1) (idx : IVec (⟨2, ![n, 1]⟩ : Shape) 32) (i : Fin n) (g : Fin N) :
    d.resultIdx? (ix1 i) idx = some (ix1 g) ↔ (idx (ix2 i 0)).toInt = (g.val : Int) := by
  have m0 : (0 : Fin 1) ∈ d.scatterDimsToOperandDims := by rw [hsd]; exact List.mem_singleton.2 rfl
  have w0 : d.window (ix1 i) 0 = 0 := by
    unfold ScatterDims.window
    rw [dif_neg fun h => (of_decide_eq_true (List.mem_filter.1 h).2) (by rw [hiw]; exact List.mem_singleton.2 rfl)]
  have s0 : d.start (ix1 i) idx 0 = (idx (ix2 i 0)).toInt := by
    unfold ScatterDims.start
    rw [dif_pos m0]
    refine congrArg (fun v => (idx v).toInt) (funext fun b => Fin.ext ?_)
    match b with
    | ⟨0, _⟩ =>
      unfold ScatterDims.siIdx
      rw [dif_neg (by rw [hiv]; exact Nat.zero_ne_one)]
      unfold ScatterDims.siCoord
      simp only [Fin.val_cast]
      have e : ∀ X : Fin 1, (ix1 i X).val = i.val := fun X => by
        obtain rfl : X = 0 := Subsingleton.elim _ _
        rfl
      exact e _
    | ⟨1, _⟩ =>
      unfold ScatterDims.siIdx
      rw [dif_pos (by rw [hiv])]
      show List.idxOf (0 : Fin 1) d.scatterDimsToOperandDims = 0
      rw [hsd]; simp
  have hg := g.isLt
  unfold ScatterDims.resultIdx?
  split
  · next h =>
    have h0 := h 0
    change 0 ≤ d.start (ix1 i) idx 0 + (d.window (ix1 i) 0 : Int) ∧ d.start (ix1 i) idx 0 + (d.window (ix1 i) 0 : Int) < (N : Int) at h0
    rw [s0, w0] at h0
    constructor
    · intro e
      have e0 := congrArg Fin.val (congrFun (Option.some.inj e) 0)
      change (d.start (ix1 i) idx 0 + (d.window (ix1 i) 0 : Int)).toNat = g.val at e0
      rw [s0, w0] at e0
      omega
    · intro e
      refine congrArg some (funext fun a => Fin.ext ?_)
      match a with
      | ⟨0, _⟩ =>
        show (d.start (ix1 i) idx 0 + (d.window (ix1 i) 0 : Int)).toNat = g.val
        rw [s0, w0]; omega
  · next h =>
    constructor
    · intro e; cases e
    · intro e
      refine (h fun a => ?_).elim
      match a with
      | ⟨0, _⟩ =>
        show 0 ≤ d.start (ix1 i) idx 0 + (d.window (ix1 i) 0 : Int) ∧ d.start (ix1 i) idx 0 + (d.window (ix1 i) 0 : Int) < (N : Int)
        rw [s0, w0]; omega
end Scatter

/-- The rows of an array summed over the edges of each graph. -/
theorem scatter_rows (z : FVec Ideal S512x128 .f32) (hz : ∀ i, z i = 0) (w : IVec S320000x1 32) (u : FVec Ideal S320000x128 .f32) (gid : Fin 320000 → Fin 512)
    (hw : ∀ e, w (ix2 e 0) = BitVec.ofNat 32 (gid e).val) (g : Fin 512) (j : Fin 128) :
    Host.scatterAdd scatter_S512x128_S320000x1_S320000x128_1_0_0_1 z w u (ix2 g j) = ∑ e, if gid e = g then u (ix2 e j) else 0 := by
  show z (ix2 g j) + ∑ i ∈ Finset.univ.filter (fun i => scatter_S512x128_S320000x1_S320000x128_1_0_0_1.resultIdx? i w = some (ix2 g j)), u i = _
  rw [hz, zero_add, ← Finset.sum_filter]
  have key : ∀ e k, scatter_S512x128_S320000x1_S320000x128_1_0_0_1.resultIdx? (ix2 e k) w = some (ix2 g j) ↔ gid e = g ∧ k = j := fun e k => by
    refine (lands_row _ rfl rfl rfl rfl w e k g j).trans (and_congr_left fun _ => ?_)
    rw [hw e, toInt_small ((gid e).isLt.trans (by norm_num)), Fin.ext_iff]
    omega
  refine Finset.sum_bij' (fun i _ => i 0) (fun e _ => ix2 e j) ?_ ?_ ?_ ?_ ?_
  · intro i hi
    rw [Finset.mem_filter, eq_ix2 i] at hi
    exact Finset.mem_filter.2 ⟨Finset.mem_univ _, ((key _ _).1 hi.2).1⟩
  · intro e he
    rw [Finset.mem_filter] at he ⊢
    exact ⟨Finset.mem_univ _, (key _ _).2 ⟨he.2, rfl⟩⟩
  · intro i hi
    rw [Finset.mem_filter, eq_ix2 i] at hi
    rw [← ((key _ _).1 hi.2).2]
    exact (eq_ix2 i).symm
  · intro e he; rfl
  · intro i hi
    rw [Finset.mem_filter, eq_ix2 i] at hi
    rw [← ((key _ _).1 hi.2).2]
    exact congrArg u (eq_ix2 i)
/-- Numbers summed over the edges of each graph. -/
theorem scatter_ones (z : FVec Ideal S512 .f32) (hz : ∀ i, z i = 0) (w : IVec S320000x1 32) (u : FVec Ideal S320000 .f32) (gid : Fin 320000 → Fin 512)
    (hw : ∀ e, w (ix2 e 0) = BitVec.ofNat 32 (gid e).val) (g : Fin 512) :
    Host.scatterAdd scatter_S512_S320000x1_S320000_n_0_0_1 z w u (ix1 g) = ∑ e, if gid e = g then u (ix1 e) else 0 := by
  show z (ix1 g) + ∑ i ∈ Finset.univ.filter (fun i => scatter_S512_S320000x1_S320000_n_0_0_1.resultIdx? i w = some (ix1 g)), u i = _
  rw [hz, zero_add, ← Finset.sum_filter]
  have key : ∀ e, scatter_S512_S320000x1_S320000_n_0_0_1.resultIdx? (ix1 e) w = some (ix1 g) ↔ gid e = g := fun e => by
    refine (lands_one _ rfl rfl rfl w e g).trans ?_
    rw [hw e, toInt_small ((gid e).isLt.trans (by norm_num)), Fin.ext_iff]
    omega
  refine Finset.sum_bij' (fun i _ => i 0) (fun e _ => ix1 e) ?_ ?_ ?_ ?_ ?_
  · intro i hi
    rw [Finset.mem_filter, eq_ix1 i] at hi
    exact Finset.mem_filter.2 ⟨Finset.mem_univ _, (key _).1 hi.2⟩
  · intro e he
    rw [Finset.mem_filter] at he ⊢
    exact ⟨Finset.mem_univ _, (key _).2 he.2⟩
  · intro i hi
    exact (eq_ix1 i).symm
  · intro e he; rfl
  · intro i hi
    exact congrArg u (eq_ix1 i)

end Cert.ReferenceIdeal.Val

end
-- ==== Proof.Val.RefTake.lean ====
module

public import proofs.«01_k».proof.Proof.Val.RefScatter
public import Idealize.ShloMosaic.Lib.ReduceAll
public import Idealize.ShloMosaic.Lib.Routing.Ops
public import Idealize.ShloMosaic.Lib.Routing.OpsSet

/-! Rows chosen by index words: when every word is in range the choice is the row the word names. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-- The index words of a choice of rows: a negative word would count from the end. -/
def takeIdx (N : BitVec 32) (x : IVec S320000 32) : IVec S320000x1 32 :=
  broadcastInDim S320000x1 ![0] bcast_S320000_S320000x1_0 (select (cmpi .slt x (broadcastInDim S320000 ![] bcast_S_S320000 (constantI S_ 32 0#32))) (addi x (broadcastInDim S320000 ![] bcast_S_S320000 (constantI S_ 32 N))) x)
/-- Whether each index word is in range. -/
def takeOk (K : BitVec 32) (w : IVec S320000x1 32) : IVec S320000 1 :=
  Host.reduce IntOp.andi (andi (cmpi .sge w (broadcastInDim S320000x1 ![] bcast_S_S320000x1 (constantI S_ 32 0#32))) (cmpi .sle w (broadcastInDim S320000x1 ![0, 1] bcast_S1x1_S320000x1_0_1 (broadcastInDim S1x1 ![1] bcast_S1_S1x1_1 (constantI S1 32 K))))) (constantI S_ 1 1#1) reducesTo_S320000x1_S320000_d1 h_S_

theorem takeIdx_at (N : BitVec 32) (x : IVec S320000 32) (e : Fin 320000) (h : (x (ix1 e)).toNat < 2 ^ 31) : takeIdx N x (ix2 e 0) = x (ix1 e) := by
  have h1 : IntOp.cmpi .slt (x (ix1 e)) 0#32 = 0#1 := by
    show BitVec.ofBool (BitVec.slt (x (ix1 e)) 0#32) = 0#1
    rw [BitVec.slt, BitVec.toInt_eq_toNat_of_lt (by omega)]
    have : ¬ (((x (ix1 e)).toNat : Int) < (0#32 : BitVec 32).toInt) := by simp
    rw [decide_eq_false this]
    rfl
  have h2 : takeIdx N x (ix2 e 0) = if IntOp.cmpi .slt (x (ix1 e)) 0#32 = 1#1 then IntOp.addi (x (ix1 e)) N else x (ix1 e) := by
    unfold takeIdx
    pointwise
    rfl
  rw [h2, h1]
  rfl
/-- A vector of truth values, as the rows of an array. -/
theorem truth_row (m : IVec S320000 1) (e : Fin 320000) (j : Fin 128) : broadcastInDim S320000x128 ![0] bcast_S320000_S320000x128_0 m (ix2 e j) = m (ix1 e) :=
  congrArg m (funext fun a => Fin.ext (by match a with | ⟨0, _⟩ => rfl))
/-- A choice between two arrays where the truth value is one. -/
theorem select_one {s : Shape} {α : Type} (c : IVec s 1) (a b : s.Idx → α) (i : s.Idx) (h : c i = 1#1) : select c a b i = a i := by
  show (if c i = 1#1 then a i else b i) = a i
  rw [if_pos h]
theorem takeOk_at (K : BitVec 32) (w : IVec S320000x1 32) (hK : K.toNat < 2 ^ 31) (h : ∀ e, (w (ix2 e 0)).toNat ≤ K.toNat) (i : S320000.Idx) : takeOk K w i = 1#1 := by
  refine Host.reduce_andi_one _ _ _ _ i rfl fun p => ?_
  obtain ⟨e, rfl⟩ : ∃ e : Fin 320000, p = ix2 e 0 := ⟨p 0, funext fun a => Fin.ext (by
    match a with
    | ⟨0, _⟩ => rfl
    | ⟨1, _⟩ => exact Nat.lt_one_iff.1 (p 1).isLt)⟩
  have hw := h e
  show IntOp.andi (BitVec.ofBool (BitVec.sle 0#32 (w (ix2 e 0)))) (BitVec.ofBool (BitVec.sle (w (ix2 e 0)) K)) = 1#1
  rw [BitVec.sle, BitVec.sle, BitVec.toInt_eq_toNat_of_lt (x := w (ix2 e 0)) (by omega), BitVec.toInt_eq_toNat_of_lt (x := K) (by omega), decide_eq_true (by simp), decide_eq_true (by exact_mod_cast hw)]
  rfl

/-- Rows of an array of 12 rows, chosen by index words. -/
def take12 (t : FVec Ideal S12x128 .f32) (x : IVec S320000 32) : FVec Ideal S320000x128 .f32 :=
  select (broadcastInDim S320000x128 ![0] bcast_S320000_S320000x128_0 (takeOk 11#32 (takeIdx 12#32 x))) (Host.gather gather_S12x128_S320000x1_S320000x128_1_0_n_n_0_1_1128 t (takeIdx 12#32 x)) (broadcastInDim S320000x128 ![] bcast_S_S320000x128 (constant (F := Ideal) S_ .f32 0x7FC00000#32))
theorem take12_row (t : FVec Ideal S12x128 .f32) (x : IVec S320000 32) (b : Fin 320000 → Fin 12) (h : ∀ e, x (ix1 e) = BitVec.ofNat 32 (b e).val) (e : Fin 320000) (j : Fin 128) :
    take12 t x (ix2 e j) = t (ix2 (b e) j) := by
  have hn : ∀ e, (x (ix1 e)).toNat = (b e).val := fun e => by rw [h e, BitVec.toNat_ofNat]; exact Nat.mod_eq_of_lt ((b e).isLt.trans (by norm_num))
  have hi : ∀ e, takeIdx 12#32 x (ix2 e 0) = x (ix1 e) := fun e => takeIdx_at _ _ _ (by rw [hn]; exact (b e).isLt.trans (by norm_num))
  unfold take12
  refine (select_one _ _ _ _ ((truth_row _ e j).trans (takeOk_at 11#32 _ (by simp) (fun e => by rw [hi, hn]; exact Nat.le_of_lt_succ (b e).isLt) (ix1 e)))).trans ?_
  exact Routing.gather_row gather_S12x128_S320000x1_S320000x128_1_0_n_n_0_1_1128 rfl rfl rfl rfl rfl t _ e j (b e) ((hi e).trans (h e)) (by norm_num)

/-- Rows of an array of 512 rows, chosen by index words. -/
def take512 (t : FVec Ideal S512x128 .f32) (x : IVec S320000 32) : FVec Ideal S320000x128 .f32 :=
  select (broadcastInDim S320000x128 ![0] bcast_S320000_S320000x128_0 (takeOk 511#32 (takeIdx 512#32 x))) (Host.gather gather_S512x128_S320000x1_S320000x128_1_0_n_n_0_1_1128 t (takeIdx 512#32 x)) (broadcastInDim S320000x128 ![] bcast_S_S320000x128 (constant (F := Ideal) S_ .f32 0x7FC00000#32))
theorem take512_row (t : FVec Ideal S512x128 .f32) (x : IVec S320000 32) (b : Fin 320000 → Fin 512) (h : ∀ e, x (ix1 e) = BitVec.ofNat 32 (b e).val) (e : Fin 320000) (j : Fin 128) :
    take512 t x (ix2 e j) = t (ix2 (b e) j) := by
  have hn : ∀ e, (x (ix1 e)).toNat = (b e).val := fun e => by rw [h e, BitVec.toNat_ofNat]; exact Nat.mod_eq_of_lt ((b e).isLt.trans (by norm_num))
  have hi : ∀ e, takeIdx 512#32 x (ix2 e 0) = x (ix1 e) := fun e => takeIdx_at _ _ _ (by rw [hn]; exact (b e).isLt.trans (by norm_num))
  unfold take512
  refine (select_one _ _ _ _ ((truth_row _ e j).trans (takeOk_at 511#32 _ (by simp) (fun e => by rw [hi, hn]; exact Nat.le_of_lt_succ (b e).isLt) (ix1 e)))).trans ?_
  exact Routing.gather_row gather_S512x128_S320000x1_S320000x128_1_0_n_n_0_1_1128 rfl rfl rfl rfl rfl t _ e j (b e) ((hi e).trans (h e)) (by norm_num)

/-- Numbers of a vector, chosen by index words. -/
def takeNum (t : FVec Ideal S512 .f32) (x : IVec S320000 32) : FVec Ideal S320000 .f32 :=
  select (takeOk 511#32 (takeIdx 512#32 x)) (Host.gather gather_S512_S320000x1_S320000_n_0_n_n_0_1_1 t (takeIdx 512#32 x)) (broadcastInDim S320000 ![] bcast_S_S320000 (constant (F := Ideal) S_ .f32 0x7FC00000#32))
theorem takeNum_at (t : FVec Ideal S512 .f32) (x : IVec S320000 32) (b : Fin 320000 → Fin 512) (h : ∀ e, x (ix1 e) = BitVec.ofNat 32 (b e).val) (e : Fin 320000) :
    takeNum t x (ix1 e) = t (ix1 (b e)) := by
  have hn : ∀ e, (x (ix1 e)).toNat = (b e).val := fun e => by rw [h e, BitVec.toNat_ofNat]; exact Nat.mod_eq_of_lt ((b e).isLt.trans (by norm_num))
  have hi : ∀ e, takeIdx 512#32 x (ix2 e 0) = x (ix1 e) := fun e => takeIdx_at _ _ _ (by rw [hn]; exact (b e).isLt.trans (by norm_num))
  unfold takeNum
  refine (select_one _ _ _ _ (takeOk_at 511#32 _ (by simp) (fun e => by rw [hi, hn]; exact Nat.le_of_lt_succ (b e).isLt) (ix1 e))).trans ?_
  exact Routing.gather_take1 gather_S512_S320000x1_S320000_n_0_n_n_0_1_1 rfl rfl rfl rfl t _ e (b e) ((hi e).trans (h e)) (by norm_num)

end Cert.ReferenceIdeal.Val

end
-- ==== Proof.Val.RefAll.lean ====
module

public import proofs.«01_k».proof.Proof.Val.RefDense
public import proofs.«01_k».proof.Proof.Val.RefTake
public import proofs.«01_k».proof.Proof.Val.Model

/-! The whole reference, row by row: its three results are the ones the model names. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read Cert.Spec

/-- The number one. -/
theorem one_word : Ideal.ofBits .f32 0x3F800000#32 = 1 := by
  simp [Ideal.ofBits, Ideal.ieee, -EReal.coe_mul]
  norm_num
/-- A truth value as a number. -/
theorem truth_num (b : BitVec 1) : (((b.toNat : ℕ) : ℝ) : EReal) = if b = 1#1 then 1 else 0 := by
  rcases (by revert b; decide : b = 0#1 ∨ b = 1#1) with rfl | rfl
  · rw [if_neg (by decide)]; norm_num
  · rw [if_pos rfl]; norm_num
/-- Equal rows have equal normal rows and equal layers. -/
theorem norm_of {n : ℕ} {c : EReal} {x y : Fin n → EReal} (h : x = y) (g b : Fin n → EReal) (i : Fin n) : norm c x g b i = norm c y g b i := by rw [h]
theorem layer_of {n k : ℕ} {c : EReal} {x y : Fin n → EReal} (h : x = y) (g b : Fin n → EReal) (W : Fin n → Fin k → EReal) (d : Fin k → EReal) (i : Fin k) : layer c x g b W d i = layer c y g b W d i := by rw [h]
theorem head_of {a a' b b' : Fin 128 → EReal} (h : a = a') (h' : b = b') (g d : Fin 256 → EReal) (W : Fin 256 → Fin 128 → EReal) (c : Fin 128 → EReal) (W' : Fin 128 → EReal) (c' : EReal) :
    head a b g d W c W' c' = head a' b' g d W c W' c' := by rw [h, h']

variable (x0 : FVec Ideal S320000x128 .f32) (x1 : FVec Ideal S512x128 .f32) (x2 : IVec S320000 32) (x3 : IVec S320000 1) (x4 : IVec S320000 32) (x5 : FVec Ideal S12x128 .f32) (x6 : FVec Ideal S5x128 .f32) (x7 : FVec Ideal S128 .f32) (x8 : FVec Ideal S128 .f32) (x9 : FVec Ideal S128 .f32) (x10 : FVec Ideal S128 .f32) (x11 : FVec Ideal S128x128 .f32) (x12 : FVec Ideal S128 .f32) (x13 : FVec Ideal S128 .f32) (x14 : FVec Ideal S128 .f32) (x15 : FVec Ideal S128x128 .f32) (x16 : FVec Ideal S128 .f32) (x17 : FVec Ideal S128 .f32) (x18 : FVec Ideal S128 .f32) (x19 : FVec Ideal S128x128 .f32) (x20 : FVec Ideal S128 .f32) (x21 : FVec Ideal S256 .f32) (x22 : FVec Ideal S256 .f32) (x23 : FVec Ideal S256x128 .f32) (x24 : FVec Ideal S128 .f32) (x25 : FVec Ideal S128x1 .f32) (x26 : FVec Ideal S1 .f32) (x27 : FVec Ideal S256 .f32) (x28 : FVec Ideal S256 .f32) (x29 : FVec Ideal S256x128 .f32) (x30 : FVec Ideal S128 .f32) (x31 : FVec Ideal S128x1 .f32) (x32 : FVec Ideal S1 .f32) {D : Data} (hD : D = ofArrays x0 x1 x2 x3 x4 x5 x6 x7 x8 x9 x10 x11 x12 x13 x14 x15 x16 x17 x18 x19 x20 x21 x22 x23 x24 x25 x26 x27 x28 x29 x30 x31 x32)

include hD
/-- The question features. -/
theorem r34 (g : Fin 512) (j : Fin 128) : (val_main_v34 (F := Ideal) x1 x9 x10 x11 x12) (ix2 g j) = D.qf g j := by
  subst hD
  rw [show (val_main_v34 (F := Ideal) x1 x9 x10 x11 x12) = gelu_512 (dense_512_128_128 (ln_512_128 x1 x9 x10) x11 x12) from rfl]
  exact layer_512_128 x1 x9 x10 x11 x12 g j
/-- The row of types. -/
theorem r40 (e : Fin 320000) (j : Fin 128) : (val_main_v40 (F := Ideal) x6) (ix2 e j) = D.ty j := by
  subst hD
  rw [val_main_v40_apply, val_main_v39_apply, val_main_v38_apply, val_main_v37_apply]
  refine congrArg x6 (funext fun a => Fin.ext ?_)
  have hj := j.isLt
  match a with
  | ⟨0, _⟩ => rfl
  | ⟨1, _⟩ => show j.val % 128 = j.val; omega
/-- The mask, as numbers. -/
theorem r104 (e : Fin 320000) (j : Fin 128) : (val_main_v104 (F := Ideal) x3) (ix2 e j) = D.mask e := by
  subst hD
  rw [val_main_v104_apply, val_main_v103_apply]
  refine (congrArg (val_main_v102 (F := Ideal) x3) (funext fun a => Fin.ext (?_ : _ = (ix1 e a).val))).trans (truth_num (x3 (ix1 e)))
  match a with
  | ⟨0, _⟩ => rfl
theorem r109 (e : Fin 320000) : (val_main_v109 (F := Ideal) x3) (ix1 e) = D.mask e := by
  subst hD
  rw [val_main_v109_apply, val_main_v103_apply]
  refine (congrArg (val_main_v102 (F := Ideal) x3) (funext fun a => Fin.ext (?_ : _ = (ix1 e a).val))).trans (truth_num (x3 (ix1 e)))
  match a with
  | ⟨0, _⟩ => show e.val / 1 = e.val; omega

variable (hb : ∀ e, x2 (ix1 e) = BitVec.ofNat 32 (D.gid e).val)
include hb
/-- The question features of each edge's graph. -/
theorem r35 (e : Fin 320000) (j : Fin 128) : (val_main_v35 (F := Ideal) x1 x2 x9 x10 x11 x12) (ix2 e j) = D.qf (D.gid e) j := by
  rw [show (val_main_v35 (F := Ideal) x1 x2 x9 x10 x11 x12) = take512 (val_main_v34 (F := Ideal) x1 x9 x10 x11 x12) x2 from rfl]
  refine (take512_row _ x2 D.gid hb e j).trans ?_
  exact r34 x0 x1 x2 x3 x4 x5 x6 x7 x8 x9 x10 x11 x12 x13 x14 x15 x16 x17 x18 x19 x20 x21 x22 x23 x24 x25 x26 x27 x28 x29 x30 x31 x32 hD _ j
/-- The number of edges the mask keeps. -/
theorem r112 (g : Fin 512) : (val_main_v112 (F := Ideal) x2 x3) (ix1 g) = D.cnt g := by
  refine (scatter_ones _ (fun i => Ideal.ofBits_zero_f32) (val_main_v111 (F := Ideal) x2) (val_main_v109 (F := Ideal) x3) D.gid (fun e => Eq.trans ?_ (hb e)) g).trans ?_
  · exact congrArg x2 (funext fun a => Fin.ext (by match a with | ⟨0, _⟩ => rfl))
  · exact Finset.sum_congr rfl fun e _ => by rw [r109 x0 x1 x2 x3 x4 x5 x6 x7 x8 x9 x10 x11 x12 x13 x14 x15 x16 x17 x18 x19 x20 x21 x22 x23 x24 x25 x26 x27 x28 x29 x30 x31 x32 hD e]
theorem r138 (e : Fin 320000) : (val_main_v138 (F := Ideal) x2 x3) (ix1 e) = D.cnt (D.gid e) := by
  rw [show (val_main_v138 (F := Ideal) x2 x3) = takeNum (val_main_v112 (F := Ideal) x2 x3) x2 from rfl]
  exact (takeNum_at _ x2 D.gid hb e).trans (r112 x0 x1 x2 x3 x4 x5 x6 x7 x8 x9 x10 x11 x12 x13 x14 x15 x16 x17 x18 x19 x20 x21 x22 x23 x24 x25 x26 x27 x28 x29 x30 x31 x32 hD hb _)
theorem r144 (e : Fin 320000) (j : Fin 128) : (val_main_v144 (F := Ideal) x1 x2) (ix2 e j) = D.q (D.gid e) j := by
  rw [show (val_main_v144 (F := Ideal) x1 x2) = take512 x1 x2 from rfl]
  refine (take512_row _ x2 D.gid hb e j).trans ?_
  subst hD
  rfl

variable (ho : ∀ e, ordWord (x4 (ix1 e)) = BitVec.ofNat 32 (D.ord e).val)
include ho
/-- The rows of the table of orders. -/
theorem r3 (e : Fin 320000) (j : Fin 128) : (val_main_v3 (F := Ideal) x4 x5) (ix2 e j) = D.emb (D.ord e) j := by
  rw [show (val_main_v3 (F := Ideal) x4 x5) = take12 x5 (val_main_v2 (F := Ideal) x4) from rfl]
  refine (take12_row x5 _ D.ord (fun e => ho e) e j).trans ?_
  subst hD
  rfl
theorem r41 (e : Fin 320000) (j : Fin 128) : (val_main_v41 (F := Ideal) x0 x1 x2 x4 x5 x6 x9 x10 x11 x12) (ix2 e j) = D.xin e j := by
  rw [show (val_main_v41 (F := Ideal) x0 x1 x2 x4 x5 x6 x9 x10 x11 x12) (ix2 e j) = (x0 (ix2 e j) + (val_main_v3 (F := Ideal) x4 x5) (ix2 e j) + (val_main_v35 (F := Ideal) x1 x2 x9 x10 x11 x12) (ix2 e j) + (val_main_v40 (F := Ideal) x6) (ix2 e j) : EReal) from rfl,
    r3 x0 x1 x2 x3 x4 x5 x6 x7 x8 x9 x10 x11 x12 x13 x14 x15 x16 x17 x18 x19 x20 x21 x22 x23 x24 x25 x26 x27 x28 x29 x30 x31 x32 hD hb ho e j, r35 x0 x1 x2 x3 x4 x5 x6 x7 x8 x9 x10 x11 x12 x13 x14 x15 x16 x17 x18 x19 x20 x21 x22 x23 x24 x25 x26 x27 x28 x29 x30 x31 x32 hD hb e j, r40 x0 x1 x2 x3 x4 x5 x6 x7 x8 x9 x10 x11 x12 x13 x14 x15 x16 x17 x18 x19 x20 x21 x22 x23 x24 x25 x26 x27 x28 x29 x30 x31 x32 hD e j, add_assoc, Data.xin]
  subst hD
  rfl
/-- The rows after each layer. -/
theorem r71 (e : Fin 320000) (j : Fin 128) : (val_main_v71 (F := Ideal) x0 x1 x2 x4 x5 x6 x9 x10 x11 x12 x13 x14 x15 x16) (ix2 e j) = D.x1 e j := by
  rw [show (val_main_v71 (F := Ideal) x0 x1 x2 x4 x5 x6 x9 x10 x11 x12 x13 x14 x15 x16) = gelu_320000 (dense_320000_128_128 (ln_320000_128 (val_main_v41 (F := Ideal) x0 x1 x2 x4 x5 x6 x9 x10 x11 x12) x13 x14) x15 x16) from rfl]
  refine (layer_320000_128 _ x13 x14 x15 x16 e j).trans ((layer_of (funext fun k => r41 x0 x1 x2 x3 x4 x5 x6 x7 x8 x9 x10 x11 x12 x13 x14 x15 x16 x17 x18 x19 x20 x21 x22 x23 x24 x25 x26 x27 x28 x29 x30 x31 x32 hD hb ho e k) _ _ _ _ j).trans ?_)
  subst hD
  rfl
theorem r101 (e : Fin 320000) (j : Fin 128) : (val_main_v101 (F := Ideal) x0 x1 x2 x4 x5 x6 x9 x10 x11 x12 x13 x14 x15 x16 x17 x18 x19 x20) (ix2 e j) = D.x2 e j := by
  rw [show (val_main_v101 (F := Ideal) x0 x1 x2 x4 x5 x6 x9 x10 x11 x12 x13 x14 x15 x16 x17 x18 x19 x20) = gelu_320000 (dense_320000_128_128 (ln_320000_128 (val_main_v71 (F := Ideal) x0 x1 x2 x4 x5 x6 x9 x10 x11 x12 x13 x14 x15 x16) x17 x18) x19 x20) from rfl]
  refine (layer_320000_128 _ x17 x18 x19 x20 e j).trans ((layer_of (funext fun k => r71 x0 x1 x2 x3 x4 x5 x6 x7 x8 x9 x10 x11 x12 x13 x14 x15 x16 x17 x18 x19 x20 x21 x22 x23 x24 x25 x26 x27 x28 x29 x30 x31 x32 hD hb ho e k) _ _ _ _ j).trans ?_)
  subst hD
  rfl
/-- The masked rows summed over the edges of a graph. -/
theorem r108 (g : Fin 512) (j : Fin 128) : (val_main_v108 (F := Ideal) x0 x1 x2 x3 x4 x5 x6 x9 x10 x11 x12 x13 x14 x15 x16 x17 x18 x19 x20) (ix2 g j) = D.ssum g j := by
  refine (scatter_rows _ (fun i => Ideal.ofBits_zero_f32) (val_main_v107 (F := Ideal) x2) (val_main_v105 (F := Ideal) x0 x1 x2 x3 x4 x5 x6 x9 x10 x11 x12 x13 x14 x15 x16 x17 x18 x19 x20) D.gid (fun e => Eq.trans ?_ (hb e)) g j).trans ?_
  · exact congrArg x2 (funext fun a => Fin.ext (by match a with | ⟨0, _⟩ => rfl))
  · refine Finset.sum_congr rfl fun e _ => ?_
    rw [show (val_main_v105 (F := Ideal) x0 x1 x2 x3 x4 x5 x6 x9 x10 x11 x12 x13 x14 x15 x16 x17 x18 x19 x20) (ix2 e j) = ((val_main_v101 (F := Ideal) x0 x1 x2 x4 x5 x6 x9 x10 x11 x12 x13 x14 x15 x16 x17 x18 x19 x20) (ix2 e j) * (val_main_v104 (F := Ideal) x3) (ix2 e j) : EReal) from rfl, r101 x0 x1 x2 x3 x4 x5 x6 x7 x8 x9 x10 x11 x12 x13 x14 x15 x16 x17 x18 x19 x20 x21 x22 x23 x24 x25 x26 x27 x28 x29 x30 x31 x32 hD hb ho e j, r104 x0 x1 x2 x3 x4 x5 x6 x7 x8 x9 x10 x11 x12 x13 x14 x15 x16 x17 x18 x19 x20 x21 x22 x23 x24 x25 x26 x27 x28 x29 x30 x31 x32 hD e j]
theorem r117 (g : Fin 512) (j : Fin 128) : (val_main_v117 (F := Ideal) x0 x1 x2 x3 x4 x5 x6 x9 x10 x11 x12 x13 x14 x15 x16 x17 x18 x19 x20) (ix2 g j) = Ideal.div (D.ssum g j) (max (D.cnt g) 1) + D.q g j := by
  have hc : (val_main_v115 (F := Ideal) x2 x3) (ix2 g j) = (max (Ideal.ofBits .f32 0x3F800000#32) ((val_main_v112 (F := Ideal) x2 x3) (ix1 g)) : EReal) := by
    rw [val_main_v115_apply, val_main_v114_apply, val_main_v113_apply]
    generalize (val_main_v112 (F := Ideal) x2 x3) = y
    refine congrArg (fun i => (max (Ideal.ofBits .f32 0x3F800000#32) (y i) : EReal)) (funext fun a => Fin.ext ?_)
    match a with | ⟨0, _⟩ => rfl
  have hq : (val_main_v117 (F := Ideal) x0 x1 x2 x3 x4 x5 x6 x9 x10 x11 x12 x13 x14 x15 x16 x17 x18 x19 x20) (ix2 g j) = (Ideal.div ((val_main_v108 (F := Ideal) x0 x1 x2 x3 x4 x5 x6 x9 x10 x11 x12 x13 x14 x15 x16 x17 x18 x19 x20) (ix2 g j)) ((val_main_v115 (F := Ideal) x2 x3) (ix2 g j)) + x1 (ix2 g j) : EReal) := by
    rw [val_main_v117_apply, val_main_v116_apply]
    generalize (val_main_v108 (F := Ideal) x0 x1 x2 x3 x4 x5 x6 x9 x10 x11 x12 x13 x14 x15 x16 x17 x18 x19 x20) = y
    generalize (val_main_v115 (F := Ideal) x2 x3) = z
    rfl
  rw [hq, hc, r108 x0 x1 x2 x3 x4 x5 x6 x7 x8 x9 x10 x11 x12 x13 x14 x15 x16 x17 x18 x19 x20 x21 x22 x23 x24 x25 x26 x27 x28 x29 x30 x31 x32 hD hb ho g j, r112 x0 x1 x2 x3 x4 x5 x6 x7 x8 x9 x10 x11 x12 x13 x14 x15 x16 x17 x18 x19 x20 x21 x22 x23 x24 x25 x26 x27 x28 x29 x30 x31 x32 hD hb g, one_word, max_comm]
  subst hD
  rfl
/-- The state of a graph. -/
theorem r135 (g : Fin 512) (j : Fin 128) : (val_main_v135 (F := Ideal) x0 x1 x2 x3 x4 x5 x6 x7 x8 x9 x10 x11 x12 x13 x14 x15 x16 x17 x18 x19 x20) (ix2 g j) = D.state g j := by
  rw [show (val_main_v135 (F := Ideal) x0 x1 x2 x3 x4 x5 x6 x7 x8 x9 x10 x11 x12 x13 x14 x15 x16 x17 x18 x19 x20) = ln_512_128 (val_main_v117 (F := Ideal) x0 x1 x2 x3 x4 x5 x6 x9 x10 x11 x12 x13 x14 x15 x16 x17 x18 x19 x20) x7 x8 from rfl]
  refine (ln_512_128_row _ x7 x8 g j).trans ((norm_of (funext fun k => r117 x0 x1 x2 x3 x4 x5 x6 x7 x8 x9 x10 x11 x12 x13 x14 x15 x16 x17 x18 x19 x20 x21 x22 x23 x24 x25 x26 x27 x28 x29 x30 x31 x32 hD hb ho g k) _ _ j).trans ?_)
  subst hD
  rfl
theorem r136 (e : Fin 320000) (j : Fin 128) : (val_main_v136 (F := Ideal) x0 x1 x2 x3 x4 x5 x6 x9 x10 x11 x12 x13 x14 x15 x16 x17 x18 x19 x20) (ix2 e j) = D.ssum (D.gid e) j := by
  rw [show (val_main_v136 (F := Ideal) x0 x1 x2 x3 x4 x5 x6 x9 x10 x11 x12 x13 x14 x15 x16 x17 x18 x19 x20) = take512 (val_main_v108 (F := Ideal) x0 x1 x2 x3 x4 x5 x6 x9 x10 x11 x12 x13 x14 x15 x16 x17 x18 x19 x20) x2 from rfl]
  exact (take512_row _ x2 D.gid hb e j).trans (r108 x0 x1 x2 x3 x4 x5 x6 x7 x8 x9 x10 x11 x12 x13 x14 x15 x16 x17 x18 x19 x20 x21 x22 x23 x24 x25 x26 x27 x28 x29 x30 x31 x32 hD hb ho _ j)
theorem r145 (e : Fin 320000) (j : Fin 128) : (val_main_v145 (F := Ideal) x0 x1 x2 x3 x4 x5 x6 x9 x10 x11 x12 x13 x14 x15 x16 x17 x18 x19 x20) (ix2 e j)
    = D.x2 e j * Ideal.div 1 (D.cnt (D.gid e) + 1) + (D.ssum (D.gid e) j * Ideal.div 1 (D.cnt (D.gid e) + 1) + D.q (D.gid e) j) := by
  have hc : (val_main_v142 (F := Ideal) x2 x3) (ix2 e j) = ((val_main_v138 (F := Ideal) x2 x3) (ix1 e) + Ideal.ofBits .f32 0x3F800000#32 : EReal) := by
    rw [val_main_v142_apply, val_main_v141_apply, val_main_v139_apply]
    refine congrArg (fun i => ((val_main_v138 (F := Ideal) x2 x3) i + Ideal.ofBits .f32 0x3F800000#32 : EReal)) (funext fun a => Fin.ext ?_)
    match a with | ⟨0, _⟩ => rfl
  have hk : ∀ e, D.mask e = 0 ∨ D.mask e = 1 := fun e => by
    subst hD
    show (if x3 (ix1 e) = 1#1 then (1 : EReal) else 0) = 0 ∨ (if x3 (ix1 e) = 1#1 then (1 : EReal) else 0) = 1
    by_cases h : x3 (ix1 e) = 1#1
    · rw [if_pos h]; exact Or.inr rfl
    · rw [if_neg h]; exact Or.inl rfl
  have hq : (val_main_v145 (F := Ideal) x0 x1 x2 x3 x4 x5 x6 x9 x10 x11 x12 x13 x14 x15 x16 x17 x18 x19 x20) (ix2 e j) = (Ideal.div ((val_main_v136 (F := Ideal) x0 x1 x2 x3 x4 x5 x6 x9 x10 x11 x12 x13 x14 x15 x16 x17 x18 x19 x20) (ix2 e j) + (val_main_v101 (F := Ideal) x0 x1 x2 x4 x5 x6 x9 x10 x11 x12 x13 x14 x15 x16 x17 x18 x19 x20) (ix2 e j)) ((val_main_v142 (F := Ideal) x2 x3) (ix2 e j)) + (val_main_v144 (F := Ideal) x1 x2) (ix2 e j) : EReal) := by
    rw [val_main_v145_apply, val_main_v143_apply, val_main_v137_apply]
    generalize (val_main_v136 (F := Ideal) x0 x1 x2 x3 x4 x5 x6 x9 x10 x11 x12 x13 x14 x15 x16 x17 x18 x19 x20) = y
    generalize (val_main_v101 (F := Ideal) x0 x1 x2 x4 x5 x6 x9 x10 x11 x12 x13 x14 x15 x16 x17 x18 x19 x20) = z
    generalize (val_main_v142 (F := Ideal) x2 x3) = w
    generalize (val_main_v144 (F := Ideal) x1 x2) = u
    rfl
  rw [hq, hc, r136 x0 x1 x2 x3 x4 x5 x6 x7 x8 x9 x10 x11 x12 x13 x14 x15 x16 x17 x18 x19 x20 x21 x22 x23 x24 x25 x26 x27 x28 x29 x30 x31 x32 hD hb ho e j, r101 x0 x1 x2 x3 x4 x5 x6 x7 x8 x9 x10 x11 x12 x13 x14 x15 x16 x17 x18 x19 x20 x21 x22 x23 x24 x25 x26 x27 x28 x29 x30 x31 x32 hD hb ho e j, r138 x0 x1 x2 x3 x4 x5 x6 x7 x8 x9 x10 x11 x12 x13 x14 x15 x16 x17 x18 x19 x20 x21 x22 x23 x24 x25 x26 x27 x28 x29 x30 x31 x32 hD hb e, r144 x0 x1 x2 x3 x4 x5 x6 x7 x8 x9 x10 x11 x12 x13 x14 x15 x16 x17 x18 x19 x20 x21 x22 x23 x24 x25 x26 x27 x28 x29 x30 x31 x32 hD hb e j, one_word]
  exact quotient_eq _ _ _ (mask_cases hk _).1 (mask_cases hk _).2
/-- The state an edge would lead to. -/
theorem r163 (e : Fin 320000) (j : Fin 128) : (val_main_v163 (F := Ideal) x0 x1 x2 x3 x4 x5 x6 x7 x8 x9 x10 x11 x12 x13 x14 x15 x16 x17 x18 x19 x20) (ix2 e j) = D.next e j := by
  rw [show (val_main_v163 (F := Ideal) x0 x1 x2 x3 x4 x5 x6 x7 x8 x9 x10 x11 x12 x13 x14 x15 x16 x17 x18 x19 x20) = ln_320000_128 (val_main_v145 (F := Ideal) x0 x1 x2 x3 x4 x5 x6 x9 x10 x11 x12 x13 x14 x15 x16 x17 x18 x19 x20) x7 x8 from rfl]
  refine (ln_320000_128_row _ x7 x8 e j).trans ((norm_of (funext fun k => r145 x0 x1 x2 x3 x4 x5 x6 x7 x8 x9 x10 x11 x12 x13 x14 x15 x16 x17 x18 x19 x20 x21 x22 x23 x24 x25 x26 x27 x28 x29 x30 x31 x32 hD hb ho e k) _ _ j).trans ?_)
  subst hD
  rfl
theorem r164 (e : Fin 320000) (j : Fin 128) : (val_main_v164 (F := Ideal) x0 x1 x2 x3 x4 x5 x6 x7 x8 x9 x10 x11 x12 x13 x14 x15 x16 x17 x18 x19 x20) (ix2 e j) = D.state (D.gid e) j := by
  rw [show (val_main_v164 (F := Ideal) x0 x1 x2 x3 x4 x5 x6 x7 x8 x9 x10 x11 x12 x13 x14 x15 x16 x17 x18 x19 x20) = take512 (val_main_v135 (F := Ideal) x0 x1 x2 x3 x4 x5 x6 x7 x8 x9 x10 x11 x12 x13 x14 x15 x16 x17 x18 x19 x20) x2 from rfl]
  exact (take512_row _ x2 D.gid hb e j).trans (r135 x0 x1 x2 x3 x4 x5 x6 x7 x8 x9 x10 x11 x12 x13 x14 x15 x16 x17 x18 x19 x20 x21 x22 x23 x24 x25 x26 x27 x28 x29 x30 x31 x32 hD hb ho _ j)
/-- The logits of the edges. -/
theorem r200 (e : Fin 320000) : (val_main_v200 (F := Ideal) x0 x1 x2 x3 x4 x5 x6 x7 x8 x9 x10 x11 x12 x13 x14 x15 x16 x17 x18 x19 x20 x21 x22 x23 x24 x25 x26) (ix1 e) = D.edge e := by
  rw [show (val_main_v200 (F := Ideal) x0 x1 x2 x3 x4 x5 x6 x7 x8 x9 x10 x11 x12 x13 x14 x15 x16 x17 x18 x19 x20 x21 x22 x23 x24 x25 x26) = head_320000 (val_main_v164 (F := Ideal) x0 x1 x2 x3 x4 x5 x6 x7 x8 x9 x10 x11 x12 x13 x14 x15 x16 x17 x18 x19 x20) (val_main_v163 (F := Ideal) x0 x1 x2 x3 x4 x5 x6 x7 x8 x9 x10 x11 x12 x13 x14 x15 x16 x17 x18 x19 x20) x21 x22 x23 x24 x25 x26 from rfl]
  refine (head_320000_at _ _ x21 x22 x23 x24 x25 x26 e).trans ((head_of (funext fun k => r164 x0 x1 x2 x3 x4 x5 x6 x7 x8 x9 x10 x11 x12 x13 x14 x15 x16 x17 x18 x19 x20 x21 x22 x23 x24 x25 x26 x27 x28 x29 x30 x31 x32 hD hb ho e k) (funext fun k => r163 x0 x1 x2 x3 x4 x5 x6 x7 x8 x9 x10 x11 x12 x13 x14 x15 x16 x17 x18 x19 x20 x21 x22 x23 x24 x25 x26 x27 x28 x29 x30 x31 x32 hD hb ho e k) _ _ _ _ _ _).trans ?_)
  subst hD
  rfl
/-- The stop logits of the graphs. -/
theorem r236 (g : Fin 512) : (val_main_v236 (F := Ideal) x0 x1 x2 x3 x4 x5 x6 x7 x8 x9 x10 x11 x12 x13 x14 x15 x16 x17 x18 x19 x20 x27 x28 x29 x30 x31 x32) (ix1 g) = D.stop g := by
  rw [show (val_main_v236 (F := Ideal) x0 x1 x2 x3 x4 x5 x6 x7 x8 x9 x10 x11 x12 x13 x14 x15 x16 x17 x18 x19 x20 x27 x28 x29 x30 x31 x32) = head_512 (val_main_v135 (F := Ideal) x0 x1 x2 x3 x4 x5 x6 x7 x8 x9 x10 x11 x12 x13 x14 x15 x16 x17 x18 x19 x20) x1 x27 x28 x29 x30 x31 x32 from rfl]
  refine (head_512_at _ _ x27 x28 x29 x30 x31 x32 g).trans ((head_of (funext fun k => r135 x0 x1 x2 x3 x4 x5 x6 x7 x8 x9 x10 x11 x12 x13 x14 x15 x16 x17 x18 x19 x20 x21 x22 x23 x24 x25 x26 x27 x28 x29 x30 x31 x32 hD hb ho g k) rfl _ _ _ _ _ _).trans ?_)
  subst hD
  rfl

end Cert.ReferenceIdeal.Val

end
-- ==== Proof.Equal.lean ====
module

public import proofs.«01_k».proof.Proof.Frames
public import proofs.«01_k».proof.Proof.Val.Kern4
public import proofs.«01_k».proof.Proof.Val.RefAll

/-! The equality: from arguments whose edges come graph by graph, both programs end with the results the model names. -/

@[expose] public section

set_option maxRecDepth 16384

noncomputable section

namespace Cert.Equal

open Idealize.ShloMosaic Idealize.ShloMosaic.TcCoe Idealize.SL.Sem
open Cert.Spec Cert.KernelIdeal.Val

attribute [local instance] Cert.Preconds.batchFacts Cert.Preconds.orderFacts

/-- Equal arrays have equal rows. -/
theorem rows_of {x0 y0 : FVec Ideal Cert.ReferenceIdeal.S320000x128 .f32} {x1 y1 : FVec Ideal Cert.ReferenceIdeal.S512x128 .f32} {x2 y2 : IVec Cert.ReferenceIdeal.S320000 32} {x3 y3 : IVec Cert.ReferenceIdeal.S320000 1} {x4 y4 : IVec Cert.ReferenceIdeal.S320000 32} {x5 y5 : FVec Ideal Cert.ReferenceIdeal.S12x128 .f32} {x6 y6 : FVec Ideal Cert.ReferenceIdeal.S5x128 .f32} {x7 y7 : FVec Ideal Cert.ReferenceIdeal.S128 .f32} {x8 y8 : FVec Ideal Cert.ReferenceIdeal.S128 .f32} {x9 y9 : FVec Ideal Cert.ReferenceIdeal.S128 .f32} {x10 y10 : FVec Ideal Cert.ReferenceIdeal.S128 .f32} {x11 y11 : FVec Ideal Cert.ReferenceIdeal.S128x128 .f32} {x12 y12 : FVec Ideal Cert.ReferenceIdeal.S128 .f32} {x13 y13 : FVec Ideal Cert.ReferenceIdeal.S128 .f32} {x14 y14 : FVec Ideal Cert.ReferenceIdeal.S128 .f32} {x15 y15 : FVec Ideal Cert.ReferenceIdeal.S128x128 .f32} {x16 y16 : FVec Ideal Cert.ReferenceIdeal.S128 .f32} {x17 y17 : FVec Ideal Cert.ReferenceIdeal.S128 .f32} {x18 y18 : FVec Ideal Cert.ReferenceIdeal.S128 .f32} {x19 y19 : FVec Ideal Cert.ReferenceIdeal.S128x128 .f32} {x20 y20 : FVec Ideal Cert.ReferenceIdeal.S128 .f32} {x21 y21 : FVec Ideal Cert.ReferenceIdeal.S256 .f32} {x22 y22 : FVec Ideal Cert.ReferenceIdeal.S256 .f32} {x23 y23 : FVec Ideal Cert.ReferenceIdeal.S256x128 .f32} {x24 y24 : FVec Ideal Cert.ReferenceIdeal.S128 .f32} {x25 y25 : FVec Ideal Cert.ReferenceIdeal.S128x1 .f32} {x26 y26 : FVec Ideal Cert.ReferenceIdeal.S1 .f32} {x27 y27 : FVec Ideal Cert.ReferenceIdeal.S256 .f32} {x28 y28 : FVec Ideal Cert.ReferenceIdeal.S256 .f32} {x29 y29 : FVec Ideal Cert.ReferenceIdeal.S256x128 .f32} {x30 y30 : FVec Ideal Cert.ReferenceIdeal.S128 .f32} {x31 y31 : FVec Ideal Cert.ReferenceIdeal.S128x1 .f32} {x32 y32 : FVec Ideal Cert.ReferenceIdeal.S1 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) :
    ofArrays y0 y1 y2 y3 y4 y5 y6 y7 y8 y9 y10 y11 y12 y13 y14 y15 y16 y17 y18 y19 y20 y21 y22 y23 y24 y25 y26 y27 y28 y29 y30 y31 y32 = ofArrays x0 x1 x2 x3 x4 x5 x6 x7 x8 x9 x10 x11 x12 x13 x14 x15 x16 x17 x18 x19 x20 x21 x22 x23 x24 x25 x26 x27 x28 x29 x30 x31 x32 := by
  subst h0 h1 h2 h3 h4 h5 h6 h7 h8 h9 h10 h11 h12 h13 h14 h15 h16 h17 h18 h19 h20 h21 h22 h23 h24 h25 h26 h27 h28 h29 h30 h31 h32
  rfl

/-- What the second precondition says of the kernel's arguments. -/
theorem good_of {m : (ℓ : Loc Cert.KernelIdeal.nD Cert.KernelIdeal.τ Cert.KernelIdeal.sig) → Buf (Elt Ideal) ℓ} (hpre : Cert.Pre_KernelIdeal_edges_in_order m) : Good m := fun c => by
  have h := Cert.Preconds.ordered_of _ _ _ _ _ _ _ _ _ _ _ _ _ _ _ _ _ _ _ _ _ _ _ _ _ _ _ _ _ _ _ _ _ (hpre c)
  have e : ∀ i : Fin 320000, (ix1 i : Cert.KernelIdeal.S320000.Idx) = (fun | 0 => i) := fun i => funext fun a => by match a with | ⟨0, _⟩ => rfl
  exact ⟨h.1, fun i j hij => by rw [e i, e j]; exact h.2.1 i j hij, h.2.2⟩
/-- The order an edge picks is a row of the table. -/
theorem order_word {m : (ℓ : Loc Cert.KernelIdeal.nD Cert.KernelIdeal.τ Cert.KernelIdeal.sig) → Buf (Elt Ideal) ℓ} (c : Dev Cert.KernelIdeal.nD) (hm : Good m) (e : Fin 320000) :
    ordWord ((m ((c : Thread Cert.KernelIdeal.nD Cert.KernelIdeal.τ).loc Cert.KernelIdeal.main_arg4) : Vec Ideal Cert.KernelIdeal.S320000 .i32) (ix1 e)) = BitVec.ofNat 32 ((dat m c).ord e).val := by
  show _ = BitVec.ofNat 32 ((ordWord ((m ((c : Thread Cert.KernelIdeal.nD Cert.KernelIdeal.τ).loc Cert.KernelIdeal.main_arg4) : Vec Ideal Cert.KernelIdeal.S320000 .i32) (ix1 e))).toNat % 12)
  rw [Nat.mod_eq_of_lt (ordWord_lt _ ((hm c).2.2 _))]
  simp

/-- From arguments whose edges come graph by graph, the kernel and the reference end with equal results. -/
theorem algebraic : Cert.algebraic_KernelIdeal_ReferenceIdeal_pre_edges_in_order := fun m g m' g' hpre hargs => by
  have hm : Good m := good_of hpre
  have hb : Cert.KernelIdeal.Run.BatchBelow m := fun c => (hm c).1
  refine ⟨fun c i => (dat m c).edge (i 0), fun c i => (dat m c).stop (i 0), fun c i => (dat m c).state (i 0) (i 1), ?_, ?_⟩
  · refine (θ_run _ _ _).mono (fun r h c => ?_) (Cert.KernelIdeal.Run.run_main m g (Cert.KernelIdeal.Run.inside1 m hb) (Cert.KernelIdeal.Run.inside3 m hb))
    exact ⟨(h.1 c (Proc.devRef .tc Cert.KernelIdeal.main_v38) (Finset.mem_filter.mpr ⟨StableHlo.devRef_mem_tcRefs Cert.KernelIdeal.main_v38, by decide⟩)).trans (edge_result c hm),
      (h.1 c (Proc.devRef .tc Cert.KernelIdeal.main_v39) (Finset.mem_filter.mpr ⟨StableHlo.devRef_mem_tcRefs Cert.KernelIdeal.main_v39, by decide⟩)).trans (stop_result c hm),
      (h.1 c (Proc.devRef .tc Cert.KernelIdeal.main_v30_0) (Finset.mem_filter.mpr ⟨StableHlo.devRef_mem_tcRefs Cert.KernelIdeal.main_v30_0, by decide⟩)).trans (state_result c hm),
      Cert.KernelIdeal.Run.args_kept m c r.2 h.1⟩
  · refine (θ_run _ _ _).mono (fun r h c => ?_) (Cert.ReferenceIdeal.Value.run (F := Ideal) m' g')
    obtain ⟨h1, h2, h3, ha⟩ := h c
    obtain ⟨e0, e1, e2, e3, e4, e5, e6, e7, e8, e9, e10, e11, e12, e13, e14, e15, e16, e17, e18, e19, e20, e21, e22, e23, e24, e25, e26, e27, e28, e29, e30, e31, e32⟩ := hargs c
    have hD : dat m c = ofArrays (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) := rows_of e0 e1 e2 e3 e4 e5 e6 e7 e8 e9 e10 e11 e12 e13 e14 e15 e16 e17 e18 e19 e20 e21 e22 e23 e24 e25 e26 e27 e28 e29 e30 e31 e32
    have hw : ∀ e, ((m' ((c.tc : Thread Cert.ReferenceIdeal.nD Cert.ReferenceIdeal.τ).loc Cert.ReferenceIdeal.main_arg2)) : IVec Cert.ReferenceIdeal.S320000 32) (ix1 e) = BitVec.ofNat 32 ((dat m c).gid e).val := fun e => (congrFun e2 _).trans (gid_word c hm e)
    have ho : ∀ e, ordWord (((m' ((c.tc : Thread Cert.ReferenceIdeal.nD Cert.ReferenceIdeal.τ).loc Cert.ReferenceIdeal.main_arg4)) : IVec Cert.ReferenceIdeal.S320000 32) (ix1 e)) = BitVec.ofNat 32 ((dat m c).ord e).val := fun e => (congrArg ordWord (congrFun e4 _)).trans (order_word c hm e)
    refine ⟨h1.trans ((Cert.ReferenceIdeal.Read.val_main_v200_eq (StableHlo.launchContents m' c)).trans (funext fun i => ?_)), h2.trans ((Cert.ReferenceIdeal.Read.val_main_v236_eq (StableHlo.launchContents m' c)).trans (funext fun i => ?_)),
      h3.trans ((Cert.ReferenceIdeal.Read.val_main_v135_eq (StableHlo.launchContents m' c)).trans (funext fun i => ?_)), ha⟩
    · exact (congrArg _ (Cert.ReferenceIdeal.Val.eq_ix1 i)).trans (Cert.ReferenceIdeal.Val.r200 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) hD hw ho (i 0))
    · exact (congrArg _ (Cert.ReferenceIdeal.Val.eq_ix1 i)).trans (Cert.ReferenceIdeal.Val.r236 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) hD hw ho (i 0))
    · exact (congrArg _ (Cert.ReferenceIdeal.Val.eq_ix2 i)).trans (Cert.ReferenceIdeal.Val.r135 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) hD hw ho (i 0) (i 1))

end Cert.Equal

end
-- ==== Proof.lean ====
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equal
public import proofs.«01_k».proof.Proof.Gen.ReferenceIdeal.Read

@[expose] public section

noncomputable section

namespace Cert.Proof

theorem claim : Cert.Claim := ⟨Cert.Kernel.Gen.facts, Cert.KernelIdeal.Gen.facts, Cert.ReferenceIdeal.Gen.facts, Cert.Preconds.batchFacts, Cert.Preconds.orderFacts,
  Cert.Frames.kernel, Cert.Frames.ideal, Cert.Frames.idealOrdered, Cert.Frames.reference, Cert.Frames.referenceOrdered, Cert.Frames.constant,
  Cert.Equal.algebraic⟩

end Cert.Proof

end
